-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_qk [hPre_finite_qk : Cert.Pre_finite_qk.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_qk.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).1 = (fun _ => 1#1)
    ∧ (Cert.Pre_finite_qk.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_qk [hPre_finite_qk : Cert.Pre_finite_qk.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_qk.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).1 = (fun _ => 1#1)
    ∧ (Cert.Pre_finite_qk.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite_qk [hKernel16Ideal : Cert.Kernel16Ideal.Facts] [hPre_finite_qk : Cert.Pre_finite_qk.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_qk m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite_qk [hReference16Ideal : Cert.Reference16Ideal.Facts] [hPre_finite_qk : Cert.Pre_finite_qk.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_qk m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v2) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v2) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "mask" .f32 0xF149F2CA#32 ⊥

def algebraic_Kernel16Ideal_Reference16Ideal_pre_finite_qk [hKernel16Ideal : Cert.Kernel16Ideal.Facts] [hReference16Ideal : Cert.Reference16Ideal.Facts] [hPre_finite_qk : Cert.Pre_finite_qk.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_qk m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v21) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_qk (hKernel16Ideal := hKernel16Ideal) (hPre_finite_qk := hPre_finite_qk)
    ∧ quiescent_Reference16Ideal (hReference16Ideal := hReference16Ideal)
    ∧ quiescent_Reference16Ideal_pre_finite_qk (hReference16Ideal := hReference16Ideal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_qk (hKernel16Ideal := hKernel16Ideal) (hReference16Ideal := hReference16Ideal) (hPre_finite_qk := hPre_finite_qk)
-- ==== Pre_finite.lean ====
abbrev S8x8192x128 : Shape := ⟨3, ![8, 8192, 128]⟩
abbrev S8x8192x64 : Shape := ⟨3, ![8, 8192, 64]⟩
abbrev S_ : Shape := ⟨0, ![]⟩

class Facts : Prop where
  bitsLt_bf16_f32 : FTy.bits .bf16 < FTy.bits .f32
  bcast_S_S8x8192x128 : S_.BroadcastsInDim S8x8192x128 (![] : Fin 0 → Fin S8x8192x128.rank)
  bcast_S_S8x8192x64 : S_.BroadcastsInDim S8x8192x64 (![] : Fin 0 → Fin S8x8192x64.rank)

variable [Facts]

def fn {F : FTy → Type} [FloatOps F] (main_arg0 : FVec F S8x8192x128 .bf16) (main_arg1 : FVec F S8x8192x128 .bf16) (main_arg2 : FVec F S8x8192x64 .bf16) (main_arg3 : FVec F S8x8192x64 .bf16) : IVec S8x8192x128 1 × IVec S8x8192x128 1 × IVec S8x8192x64 1 × IVec S8x8192x64 1 :=
  let main_v0 : FVec F S8x8192x128 .f32 := (extf .f32 · bitsLt_bf16_f32) main_arg0
  let main_v1 : FVec F S8x8192x128 .f32 := Host.absf main_v0
  let main_cst : FVec F S_ .f32 := constant S_ .f32 0x7F800000#32
  let main_v2 : FVec F S8x8192x128 .f32 := broadcastInDim S8x8192x128 ![] bcast_S_S8x8192x128 main_cst
  let main_v3 : IVec S8x8192x128 1 := cmpf .olt main_v1 main_v2
  let main_v4 : FVec F S8x8192x128 .f32 := (extf .f32 · bitsLt_bf16_f32) main_arg1
  let main_v5 : FVec F S8x8192x128 .f32 := Host.absf main_v4
  let main_cst_0 : FVec F S_ .f32 := constant S_ .f32 0x7F800000#32
  let main_v6 : FVec F S8x8192x128 .f32 := broadcastInDim S8x8192x128 ![] bcast_S_S8x8192x128 main_cst_0
  let main_v7 : IVec S8x8192x128 1 := cmpf .olt main_v5 main_v6
  let main_v8 : FVec F S8x8192x64 .f32 := (extf .f32 · bitsLt_bf16_f32) main_arg2
  let main_v9 : FVec F S8x8192x64 .f32 := Host.absf main_v8
  let main_cst_1 : FVec F S_ .f32 := constant S_ .f32 0x7F800000#32
  let main_v10 : FVec F S8x8192x64 .f32 := broadcastInDim S8x8192x64 ![] bcast_S_S8x8192x64 main_cst_1
  let main_v11 : IVec S8x8192x64 1 := cmpf .olt main_v9 main_v10
  let main_v12 : FVec F S8x8192x64 .f32 := (extf .f32 · bitsLt_bf16_f32) main_arg3
  let main_v13 : FVec F S8x8192x64 .f32 := Host.absf main_v12
  let main_cst_2 : FVec F S_ .f32 := constant S_ .f32 0x7F800000#32
  let main_v14 : FVec F S8x8192x64 .f32 := broadcastInDim S8x8192x64 ![] bcast_S_S8x8192x64 main_cst_2
  let main_v15 : IVec S8x8192x64 1 := cmpf .olt main_v13 main_v14
  (main_v3, main_v7, main_v11, main_v15)
-- ==== Pre_finite_qk.lean ====
abbrev S8x8192x128 : Shape := ⟨3, ![8, 8192, 128]⟩
abbrev S8x8192x64 : Shape := ⟨3, ![8, 8192, 64]⟩
abbrev S_ : Shape := ⟨0, ![]⟩

class Facts : Prop where
  bitsLt_bf16_f32 : FTy.bits .bf16 < FTy.bits .f32
  bcast_S_S8x8192x128 : S_.BroadcastsInDim S8x8192x128 (![] : Fin 0 → Fin S8x8192x128.rank)

variable [Facts]

def fn {F : FTy → Type} [FloatOps F] (main_arg0 : FVec F S8x8192x128 .bf16) (main_arg1 : FVec F S8x8192x128 .bf16) (main_arg2 : FVec F S8x8192x64 .bf16) : IVec S8x8192x128 1 × IVec S8x8192x128 1 :=
  let main_v0 : FVec F S8x8192x128 .f32 := (extf .f32 · bitsLt_bf16_f32) main_arg0
  let main_v1 : FVec F S8x8192x128 .f32 := Host.absf main_v0
  let main_cst : FVec F S_ .f32 := constant S_ .f32 0x7F800000#32
  let main_v2 : FVec F S8x8192x128 .f32 := broadcastInDim S8x8192x128 ![] bcast_S_S8x8192x128 main_cst
  let main_v3 : IVec S8x8192x128 1 := cmpf .olt main_v1 main_v2
  let main_v4 : FVec F S8x8192x128 .f32 := (extf .f32 · bitsLt_bf16_f32) main_arg1
  let main_v5 : FVec F S8x8192x128 .f32 := Host.absf main_v4
  let main_cst_0 : FVec F S_ .f32 := constant S_ .f32 0x7F800000#32
  let main_v6 : FVec F S8x8192x128 .f32 := broadcastInDim S8x8192x128 ![] bcast_S_S8x8192x128 main_cst_0
  let main_v7 : IVec S8x8192x128 1 := cmpf .olt main_v5 main_v6
  (main_v3, main_v7)
-- ==== Kernel.lean ====
abbrev S8x8192x128 : Shape := ⟨3, ![8, 8192, 128]⟩
abbrev S8x8192x64 : Shape := ⟨3, ![8, 8192, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩
abbrev S8x128x8192 : Shape := ⟨3, ![8, 128, 8192]⟩
abbrev S8x32x256x128 : Shape := ⟨4, ![8, 32, 256, 128]⟩
abbrev S8x32x128x256 : Shape := ⟨4, ![8, 32, 128, 256]⟩
abbrev S1x128x2048 : Shape := ⟨3, ![1, 128, 2048]⟩
abbrev S1x2048x128 : Shape := ⟨3, ![1, 2048, 128]⟩
abbrev S1x8192x128 : Shape := ⟨3, ![1, 8192, 128]⟩
abbrev S1x32x128x256 : Shape := ⟨4, ![1, 32, 128, 256]⟩
abbrev S1x8192x64 : Shape := ⟨3, ![1, 8192, 64]⟩
abbrev S1x64x2048 : Shape := ⟨3, ![1, 64, 2048]⟩
abbrev S1x1x2048 : Shape := ⟨3, ![1, 1, 2048]⟩
abbrev S1x2048x64 : Shape := ⟨3, ![1, 2048, 64]⟩
abbrev S128x2048 : Shape := ⟨2, ![128, 2048]⟩
abbrev S2048x128 : Shape := ⟨2, ![2048, 128]⟩
abbrev S2048x64 : Shape := ⟨2, ![2048, 64]⟩
abbrev S64x2048 : Shape := ⟨2, ![64, 2048]⟩
abbrev S1x2048 : Shape := ⟨2, ![1, 2048]⟩
abbrev S2048 : Shape := ⟨1, ![2048]⟩
abbrev S1x256x128 : Shape := ⟨3, ![1, 256, 128]⟩
abbrev S256x128 : Shape := ⟨2, ![256, 128]⟩
abbrev S256x2048 : Shape := ⟨2, ![256, 2048]⟩
abbrev S1x256x64 : Shape := ⟨3, ![1, 256, 64]⟩
abbrev S256x64 : Shape := ⟨2, ![256, 64]⟩
abbrev S1x1x128x256 : Shape := ⟨4, ![1, 1, 128, 256]⟩
abbrev S128x256 : Shape := ⟨2, ![128, 256]⟩
abbrev S128x1792 : Shape := ⟨2, ![128, 1792]⟩
abbrev S256x1792 : Shape := ⟨2, ![256, 1792]⟩
abbrev S1x1792 : Shape := ⟨2, ![1, 1792]⟩
abbrev S64x1792 : Shape := ⟨2, ![64, 1792]⟩
abbrev S1792x128 : Shape := ⟨2, ![1792, 128]⟩
abbrev S1792x64 : Shape := ⟨2, ![1792, 64]⟩
abbrev S128x1536 : Shape := ⟨2, ![128, 1536]⟩
abbrev S256x1536 : Shape := ⟨2, ![256, 1536]⟩
abbrev S1x1536 : Shape := ⟨2, ![1, 1536]⟩
abbrev S64x1536 : Shape := ⟨2, ![64, 1536]⟩
abbrev S1536x128 : Shape := ⟨2, ![1536, 128]⟩
abbrev S1536x64 : Shape := ⟨2, ![1536, 64]⟩
abbrev S128x512 : Shape := ⟨2, ![128, 512]⟩
abbrev S128x1280 : Shape := ⟨2, ![128, 1280]⟩
abbrev S256x1280 : Shape := ⟨2, ![256, 1280]⟩
abbrev S1x1280 : Shape := ⟨2, ![1, 1280]⟩
abbrev S64x1280 : Shape := ⟨2, ![64, 1280]⟩
abbrev S1280x128 : Shape := ⟨2, ![1280, 128]⟩
abbrev S1280x64 : Shape := ⟨2, ![1280, 64]⟩
abbrev S128x768 : Shape := ⟨2, ![128, 768]⟩
abbrev S128x1024 : Shape := ⟨2, ![128, 1024]⟩
abbrev S256x1024 : Shape := ⟨2, ![256, 1024]⟩
abbrev S1x1024 : Shape := ⟨2, ![1, 1024]⟩
abbrev S64x1024 : Shape := ⟨2, ![64, 1024]⟩
abbrev S1024x128 : Shape := ⟨2, ![1024, 128]⟩
abbrev S1024x64 : Shape := ⟨2, ![1024, 64]⟩
abbrev S256x768 : Shape := ⟨2, ![256, 768]⟩
abbrev S1x768 : Shape := ⟨2, ![1, 768]⟩
abbrev S64x768 : Shape := ⟨2, ![64, 768]⟩
abbrev S768x128 : Shape := ⟨2, ![768, 128]⟩
abbrev S768x64 : Shape := ⟨2, ![768, 64]⟩
abbrev S256x512 : Shape := ⟨2, ![256, 512]⟩
abbrev S1x512 : Shape := ⟨2, ![1, 512]⟩
abbrev S64x512 : Shape := ⟨2, ![64, 512]⟩
abbrev S512x128 : Shape := ⟨2, ![512, 128]⟩
abbrev S512x64 : Shape := ⟨2, ![512, 64]⟩
abbrev S256x256 : Shape := ⟨2, ![256, 256]⟩
abbrev S1x256 : Shape := ⟨2, ![1, 256]⟩
abbrev S64x256 : Shape := ⟨2, ![64, 256]⟩

abbrev nBuf : Space → Nat
  | .hbm => 42
  | .vmem => 24
  | .smem => 0
  | _ => 0

abbrev bufTy : (tb : Table) → Fin (tcTables nBuf tb) → BufTy
  | .hbm, ⟨0, _⟩ => ⟨S8x8192x128, .bf16⟩
  | .hbm, ⟨1, _⟩ => ⟨S8x8192x128, .bf16⟩
  | .hbm, ⟨2, _⟩ => ⟨S8x8192x64, .bf16⟩
  | .hbm, ⟨3, _⟩ => ⟨S8x8192x64, .bf16⟩
  | .hbm, ⟨4, _⟩ => ⟨S8x8192x128, .f32⟩
  | .hbm, ⟨5, _⟩ => ⟨S8x8192x128, .f32⟩
  | .hbm, ⟨6, _⟩ => ⟨S8x8192x64, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x64, .f32⟩
  | .hbm, ⟨31, _⟩ => ⟨S8x64x8192, .f32⟩
  | .hbm, ⟨32, _⟩ => ⟨S8x8192x1, .f32⟩
  | .hbm, ⟨33, _⟩ => ⟨S8x8192x1, .f32⟩
  | .hbm, ⟨34, _⟩ => ⟨S8x1x8192, .f32⟩
  | .hbm, ⟨35, _⟩ => ⟨S8x128x8192, .bf16⟩
  | .hbm, ⟨36, _⟩ => ⟨S8x32x256x128, .bf16⟩
  | .hbm, ⟨37, _⟩ => ⟨S8x32x128x256, .bf16⟩
  | .hbm, ⟨38, _⟩ => ⟨S8x64x8192, .bf16⟩
  | .hbm, ⟨39, _⟩ => ⟨S8x128x8192, .f32⟩
  | .hbm, ⟨40, _⟩ => ⟨S8x8192x128, .f32⟩
  | .hbm, ⟨41, _⟩ => ⟨S8x8192x64, .f32⟩
  | .local _ .vmem, ⟨0, _⟩ => ⟨S1x128x2048, .bf16⟩
  | .local _ .vmem, ⟨1, _⟩ => ⟨S1x128x2048, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x32x128x256, .bf16⟩
  | .local _ .vmem, ⟨7, _⟩ => ⟨S1x32x128x256, .bf16⟩
  | .local _ .vmem, ⟨8, _⟩ => ⟨S1x8192x64, .bf16⟩
  | .local _ .vmem, ⟨9, _⟩ => ⟨S1x8192x64, .bf16⟩
  | .local _ .vmem, ⟨10, _⟩ => ⟨S1x64x2048, .f32⟩
  | .local _ .vmem, ⟨11, _⟩ => ⟨S1x64x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048x64, .bf16⟩
  | .local _ .vmem, ⟨15, _⟩ => ⟨S1x2048x64, .bf16⟩
  | .local _ .vmem, ⟨16, _⟩ => ⟨S1x64x2048, .bf16⟩
  | .local _ .vmem, ⟨17, _⟩ => ⟨S1x64x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x8192x128, .f32⟩
  | .local _ .vmem, ⟨21, _⟩ => ⟨S1x8192x128, .f32⟩
  | .local _ .vmem, ⟨22, _⟩ => ⟨S1x8192x64, .f32⟩
  | .local _ .vmem, ⟨23, _⟩ => ⟨S1x8192x64, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_20 : BitVec 32 := 0#32
  let arg1 : BitVec 32 := BitVec.ofNat 32 (i 1).val
  let c8_i32 : BitVec 32 := 8#32
  let v20 : BitVec 32 := Scalar.muli arg1 c8_i32
  let v29 : BitVec 32 := Scalar.subi v20 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_22 : BitVec 32 := 1#32
  ⟨c0_i32_20, v33, c1_i32_22⟩
def k0_mult1 (i : grid0.Coords) (k0_t1 : Fin (k0_t1_loop i).trips) : BitVec 32 :=
  let c0_i32_20 : BitVec 32 := 0#32
  let c1_i32_22 : BitVec 32 := 1#32
  let arg14 : BitVec 32 := Scf.iv c0_i32_20 c1_i32_22 k0_t1
  let c256_i32_219 : BitVec 32 := 256#32
  let v526 : BitVec 32 := Scalar.muli arg14 c256_i32_219
  v526
def k0_off1 (i : grid0.Coords) (k0_t1 : Fin (k0_t1_loop i).trips) : Fin 3 → Nat :=
  let c0_220 : Index := 0#32
  let c0_i32_20 : BitVec 32 := 0#32
  let c1_i32_22 : BitVec 32 := 1#32
  let arg14 : BitVec 32 := Scf.iv c0_i32_20 c1_i32_22 k0_t1
  let c256_i32_219 : BitVec 32 := 256#32
  let v526 : BitVec 32 := Scalar.muli arg14 c256_i32_219
  let v527 : BitVec 32 := v526
  let v528 : Index := Scalar.indexCast v527
  let c0_221 : Index := 0#32
  ![0, v528.toNat, 0]
def k0_off2 (i : grid0.Coords) (k0_t1 : Fin (k0_t1_loop i).trips) : Fin 3 → Nat :=
  let c0_223 : Index := 0#32
  let c0_i32_20 : BitVec 32 := 0#32
  let c1_i32_22 : BitVec 32 := 1#32
  let arg14 : BitVec 32 := Scf.iv c0_i32_20 c1_i32_22 k0_t1
  let c256_i32_219 : BitVec 32 := 256#32
  let v526 : BitVec 32 := Scalar.muli arg14 c256_i32_219
  let v527 : BitVec 32 := v526
  let v535 : Index := Scalar.indexCast v527
  let c0_224 : Index := 0#32
  ![0, v535.toNat, 0]
def k0_off3 (i : grid0.Coords) (k0_t1 : Fin (k0_t1_loop i).trips) : Fin 4 → Nat :=
  let c0_236 : Index := 0#32
  let c0_i32_20 : BitVec 32 := 0#32
  let c1_i32_22 : BitVec 32 := 1#32
  let arg14 : BitVec 32 := Scf.iv c0_i32_20 c1_i32_22 k0_t1
  let v562 : Index := Scalar.indexCast arg14
  let c0_237 : Index := 0#32
  let c0_238 : Index := 0#32
  ![0, v562.toNat, 0, 0]
@[reducible] def k0_t2_loop (i : grid0.Coords) : Scf.Loop 32 :=
  let c0_i32_20 : BitVec 32 := 0#32
  let arg1 : BitVec 32 := BitVec.ofNat 32 (i 1).val
  let c8_i32 : BitVec 32 := 8#32
  let v20 : BitVec 32 := Scalar.muli arg1 c8_i32
  let v29 : BitVec 32 := Scalar.subi v20 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let v30 : BitVec 32 := Scalar.addi c0_i32_20 v29
  let c1_i32_23 : BitVec 32 := 1#32
  ⟨v33, v30, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let c8_i32 : BitVec 32 := 8#32
  let v20 : BitVec 32 := Scalar.muli arg1 c8_i32
  let v29 : BitVec 32 := Scalar.subi v20 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg14 : BitVec 32 := Scf.iv v33 c1_i32_23 k0_t2
  let c256_i32_219 : BitVec 32 := 256#32
  let v526 : BitVec 32 := Scalar.muli arg14 c256_i32_219
  v526
def k0_off4 (i : grid0.Coords) (k0_t2 : Fin (k0_t2_loop i).trips) : Fin 3 → Nat :=
  let c0_220 : Index := 0#32
  let c0_i32_20 : BitVec 32 := 0#32
  let arg1 : BitVec 32 := BitVec.ofNat 32 (i 1).val
  let c8_i32 : BitVec 32 := 8#32
  let v20 : BitVec 32 := Scalar.muli arg1 c8_i32
  let v29 : BitVec 32 := Scalar.subi v20 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg14 : BitVec 32 := Scf.iv v33 c1_i32_23 k0_t2
  let c256_i32_219 : BitVec 32 := 256#32
  let v526 : BitVec 32 := Scalar.muli arg14 c256_i32_219
  let v527 : BitVec 32 := v526
  let v528 : Index := Scalar.indexCast v527
  let c0_221 : Index := 0#32
  ![0, v528.toNat, 0]
def k0_off5 (i : grid0.Coords) (k0_t2 : Fin (k0_t2_loop i).trips) : Fin 3 → Nat :=
  let c0_223 : Index := 0#32
  let c0_i32_20 : BitVec 32 := 0#32
  let arg1 : BitVec 32 := BitVec.ofNat 32 (i 1).val
  let c8_i32 : BitVec 32 := 8#32
  let v20 : BitVec 32 := Scalar.muli arg1 c8_i32
  let v29 : BitVec 32 := Scalar.subi v20 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg14 : BitVec 32 := Scf.iv v33 c1_i32_23 k0_t2
  let c256_i32_219 : BitVec 32 := 256#32
  let v526 : BitVec 32 := Scalar.muli arg14 c256_i32_219
  let v527 : BitVec 32 := v526
  let v535 : Index := Scalar.indexCast v527
  let c0_224 : Index := 0#32
  ![0, v535.toNat, 0]
def k0_off6 (i : grid0.Coords) (k0_t2 : Fin (k0_t2_loop i).trips) : Fin 4 → Nat :=
  let c0_236 : Index := 0#32
  let c0_i32_20 : BitVec 32 := 0#32
  let arg1 : BitVec 32 := BitVec.ofNat 32 (i 1).val
  let c8_i32 : BitVec 32 := 8#32
  let v20 : BitVec 32 := Scalar.muli arg1 c8_i32
  let v29 : BitVec 32 := Scalar.subi v20 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg14 : BitVec 32 := Scf.iv v33 c1_i32_23 k0_t2
  let v562 : Index := Scalar.indexCast arg14
  let c0_237 : Index := 0#32
  let c0_238 : Index := 0#32
  ![0, v562.toNat, 0, 0]
def k0_mult3 (i : grid0.Coords) : BitVec 32 :=
  let arg1 : BitVec 32 := BitVec.ofNat 32 (i 1).val
  let c8_i32 : BitVec 32 := 8#32
  let v20 : BitVec 32 := Scalar.muli arg1 c8_i32
  let c0_i32_19 : BitVec 32 := 0#32
  let v21 : BitVec 32 := Scalar.addi v20 c0_i32_19
  let c256_i32 : BitVec 32 := 256#32
  let v36 : BitVec 32 := Scalar.muli v21 c256_i32
  v36
def k0_off7 (i : grid0.Coords) (c0_i32_19 : BitVec 32) : Fin 3 → Nat :=
  let c0_24 : Index := 0#32
  let arg1 : BitVec 32 := BitVec.ofNat 32 (i 1).val
  let c8_i32 : BitVec 32 := 8#32
  let v20 : BitVec 32 := Scalar.muli arg1 c8_i32
  let v21 : BitVec 32 := Scalar.addi v20 c0_i32_19
  let c256_i32 : BitVec 32 := 256#32
  let v36 : BitVec 32 := Scalar.muli v21 c256_i32
  let v37 : BitVec 32 := v36
  let v38 : Index := Scalar.indexCast v37
  let c0_25 : Index := 0#32
  ![0, v38.toNat, 0]
def k0_off8 (i : grid0.Coords) (c0_i32_19 : BitVec 32) : Fin 3 → Nat :=
  let c0_30 : Index := 0#32
  let arg1 : BitVec 32 := BitVec.ofNat 32 (i 1).val
  let c8_i32 : BitVec 32 := 8#32
  let v20 : BitVec 32 := Scalar.muli arg1 c8_i32
  let v21 : BitVec 32 := Scalar.addi v20 c0_i32_19
  let c256_i32 : BitVec 32 := 256#32
  let v36 : BitVec 32 := Scalar.muli v21 c256_i32
  let v37 : BitVec 32 := v36
  let v57 : Index := Scalar.indexCast v37
  let c0_31 : Index := 0#32
  ![0, v57.toNat, 0]
def k0_off9 (i : grid0.Coords) (c0_i32_19 : BitVec 32) : Fin 4 → Nat :=
  let c0_43 : Index := 0#32
  let arg1 : BitVec 32 := BitVec.ofNat 32 (i 1).val
  let c8_i32 : BitVec 32 := 8#32
  let v20 : BitVec 32 := Scalar.muli arg1 c8_i32
  let v21 : BitVec 32 := Scalar.addi v20 c0_i32_19
  let v84 : Index := Scalar.indexCast v21
  let c0_44 : Index := 0#32
  let c0_45 : Index := 0#32
  ![0, v84.toNat, 0, 0]
def k0_mult4 (i : grid0.Coords) : BitVec 32 :=
  let arg1 : BitVec 32 := BitVec.ofNat 32 (i 1).val
  let c8_i32 : BitVec 32 := 8#32
  let v20 : BitVec 32 := Scalar.muli arg1 c8_i32
  let c1_i32 : BitVec 32 := 1#32
  let v22 : BitVec 32 := Scalar.addi v20 c1_i32
  let c256_i32_47 : BitVec 32 := 256#32
  let v89 : BitVec 32 := Scalar.muli v22 c256_i32_47
  v89
def k0_mult5 (i : grid0.Coords) : BitVec 32 :=
  let arg1 : BitVec 32 := BitVec.ofNat 32 (i 1).val
  let c8_i32 : BitVec 32 := 8#32
  let v20 : BitVec 32 := Scalar.muli arg1 c8_i32
  let c2_i32 : BitVec 32 := 2#32
  let v23 : BitVec 32 := Scalar.addi v20 c2_i32
  let c256_i32_72 : BitVec 32 := 256#32
  let v151 : BitVec 32 := Scalar.muli v23 c256_i32_72
  v151
def k0_mult6 (i : grid0.Coords) : BitVec 32 :=
  let arg1 : BitVec 32 := BitVec.ofNat 32 (i 1).val
  let c8_i32 : BitVec 32 := 8#32
  let v20 : BitVec 32 := Scalar.muli arg1 c8_i32
  let c3_i32 : BitVec 32 := 3#32
  let v24 : BitVec 32 := Scalar.addi v20 c3_i32
  let c256_i32_96 : BitVec 32 := 256#32
  let v213 : BitVec 32 := Scalar.muli v24 c256_i32_96
  v213
def k0_mult7 (i : grid0.Coords) : BitVec 32 :=
  let arg1 : BitVec 32 := BitVec.ofNat 32 (i 1).val
  let c8_i32 : BitVec 32 := 8#32
  let v20 : BitVec 32 := Scalar.muli arg1 c8_i32
  let c4_i32 : BitVec 32 := 4#32
  let v25 : BitVec 32 := Scalar.addi v20 c4_i32
  let c256_i32_120 : BitVec 32 := 256#32
  let v275 : BitVec 32 := Scalar.muli v25 c256_i32_120
  v275
def k0_mult8 (i : grid0.Coords) : BitVec 32 :=
  let arg1 : BitVec 32 := BitVec.ofNat 32 (i 1).val
  let c8_i32 : BitVec 32 := 8#32
  let v20 : BitVec 32 := Scalar.muli arg1 c8_i32
  let c5_i32 : BitVec 32 := 5#32
  let v26 : BitVec 32 := Scalar.addi v20 c5_i32
  let c256_i32_144 : BitVec 32 := 256#32
  let v337 : BitVec 32 := Scalar.muli v26 c256_i32_144
  v337
def k0_mult9 (i : grid0.Coords) : BitVec 32 :=
  let arg1 : BitVec 32 := BitVec.ofNat 32 (i 1).val
  let c8_i32 : BitVec 32 := 8#32
  let v20 : BitVec 32 := Scalar.muli arg1 c8_i32
  let c6_i32 : BitVec 32 := 6#32
  let v27 : BitVec 32 := Scalar.addi v20 c6_i32
  let c256_i32_168 : BitVec 32 := 256#32
  let v399 : BitVec 32 := Scalar.muli v27 c256_i32_168
  v399
def k0_mult10 (i : grid0.Coords) : BitVec 32 :=
  let arg1 : BitVec 32 := BitVec.ofNat 32 (i 1).val
  let c8_i32 : BitVec 32 := 8#32
  let v20 : BitVec 32 := Scalar.muli arg1 c8_i32
  let c7_i32 : BitVec 32 := 7#32
  let v28 : BitVec 32 := Scalar.addi v20 c7_i32
  let c256_i32_192 : BitVec 32 := 256#32
  let v461 : BitVec 32 := Scalar.muli v28 c256_i32_192
  v461
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8192x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x8192x128 : Shape := ⟨3, ![8, 8192, 128]⟩
abbrev S8x8192x64 : Shape := ⟨3, ![8, 8192, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x128x8192 : Shape := ⟨3, ![8, 128, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S8x8192x128, .bf16⟩
  | .hbm, ⟨2, _⟩ => ⟨S8x8192x64, .bf16⟩
  | .hbm, ⟨3, _⟩ => ⟨S8x8192x64, .bf16⟩
  | .hbm, ⟨4, _⟩ => ⟨S8x8192x128, .f32⟩
  | .hbm, ⟨5, _⟩ => ⟨S8x8192x128, .f32⟩
  | .hbm, ⟨6, _⟩ => ⟨S8x8192x64, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x8192x64, .f32⟩
  | .hbm, ⟨60, _⟩ => ⟨S8x8192x64, .f32⟩
  | .hbm, ⟨61, _⟩ => ⟨S8x64x8192, .f32⟩
  | .hbm, ⟨62, _⟩ => ⟨S8x8192x64, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192x8192, .f32⟩
  | .hbm, ⟨80, _⟩ => ⟨S8x8192x8192, .f32⟩
  | .hbm, ⟨81, _⟩ => ⟨S8x8192x128, .f32⟩
  | .hbm, ⟨82, _⟩ => ⟨S8x8192x128, .f32⟩
  | .hbm, ⟨83, _⟩ => ⟨S8x128x8192, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_v10_1 : Ref sig .tc := ⟨.hbm, 16, rfl⟩
abbrev main_call0_v2 : Ref sig .tc := ⟨.hbm, 17, rfl⟩
abbrev main_v10_0 : Ref sig .tc := ⟨.hbm, 18, rfl⟩
abbrev main_call0_cst : Ref sig .tc := ⟨.hbm, 19, rfl⟩
abbrev main_v10_2 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel2.lean ====
abbrev S8192x1024 : Shape := ⟨2, ![8192, 1024]⟩
abbrev S8192x8704 : Shape := ⟨2, ![8192, 8704]⟩
abbrev S1024x8704 : Shape := ⟨2, ![1024, 8704]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x8704, .bf16⟩
  | .hbm, ⟨2, _⟩ => ⟨S1024x8704, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 17, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x8704 : Shape := ⟨2, ![8192, 8704]⟩
abbrev S_ : Shape := ⟨0, ![]⟩
abbrev S1024x8704 : Shape := ⟨2, ![1024, 8704]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8704, .bf16⟩
  | .hbm, ⟨2, _⟩ => ⟨S_, .f32⟩
  | .hbm, ⟨3, _⟩ => ⟨S1024x8704, .f32⟩
  | .hbm, ⟨4, _⟩ => ⟨S8192x1024, .f32⟩
  | .hbm, ⟨5, _⟩ => ⟨S8192x8704, .f32⟩
  | .hbm, ⟨6, _⟩ => ⟨S8192x8704, .f32⟩
  | .hbm, ⟨7, _⟩ => ⟨S8704x1024, .f32⟩
  | .hbm, ⟨8, _⟩ => ⟨S1024x8704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S1024x8704 : Shape := ⟨2, ![1024, 8704]⟩
abbrev S8192x8704 : Shape := ⟨2, ![8192, 8704]⟩
abbrev S8704x1024 : Shape := ⟨2, ![8704, 1024]⟩
abbrev S8192x1024 : Shape := ⟨2, ![8192, 1024]⟩
abbrev S2048x2176 : Shape := ⟨2, ![2048, 2176]⟩
abbrev S2176x512 : Shape := ⟨2, ![2176, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S1024x8704, .bf16⟩
  | .hbm, ⟨1, _⟩ => ⟨S8192x8704, .bf16⟩
  | .hbm, ⟨2, _⟩ => ⟨S8704x1024, .bf16⟩
  | .hbm, ⟨3, _⟩ => ⟨S8192x1024, .f32⟩
  | .local _ .vmem, ⟨0, _⟩ => ⟨S2048x2176, .bf16⟩
  | .local _ .vmem, ⟨1, _⟩ => ⟨S2048x2176, .bf16⟩
  | .local _ .vmem, ⟨2, _⟩ => ⟨S2176x512, .bf16⟩
  | .local _ .vmem, ⟨3, _⟩ => ⟨S2176x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1024x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1024x8704 : Shape := ⟨2, ![1024, 8704]⟩
abbrev S8192x8704 : Shape := ⟨2, ![8192, 8704]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x8704, .bf16⟩
  | .hbm, ⟨1, _⟩ => ⟨S8192x8704, .bf16⟩
  | .hbm, ⟨2, _⟩ => ⟨S_, .f32⟩
  | .hbm, ⟨3, _⟩ => ⟨S8192x1024, .f32⟩
  | .hbm, ⟨4, _⟩ => ⟨S1024x8704, .f32⟩
  | .hbm, ⟨5, _⟩ => ⟨S8192x8704, .f32⟩
  | .hbm, ⟨6, _⟩ => ⟨S8192x8704, .f32⟩
  | .hbm, ⟨7, _⟩ => ⟨S8192x1024, .f32⟩
  | _, _ => ⟨S1024x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S1024x4096 : Shape := ⟨2, ![1024, 4096]⟩
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S8192x4096, .bf16⟩
  | .hbm, ⟨2, _⟩ => ⟨S4096x1024, .bf16⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S8192x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S1024x1024 : Shape := ⟨2, ![1024, 1024]⟩
abbrev S8192x1024 : Shape := ⟨2, ![8192, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S1024x1024, .bf16⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S512x1024 : Shape := ⟨2, ![512, 1024]⟩
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S8192x1024, .bf16⟩
  | .hbm, ⟨2, _⟩ => ⟨S1024x512, .bf16⟩
  | .hbm, ⟨3, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S512x1024 : Shape := ⟨2, ![512, 1024]⟩
abbrev S8192x1024 : Shape := ⟨2, ![8192, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S8192x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x8704 : Shape := ⟨2, ![1024, 8704]⟩
abbrev S8192x8704 : Shape := ⟨2, ![8192, 8704]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x8704, .bf16⟩
  | .hbm, ⟨2, _⟩ => ⟨S8192x8704, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x8704 : Shape := ⟨2, ![1024, 8704]⟩
abbrev S8192x8704 : Shape := ⟨2, ![8192, 8704]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8704, .bf16⟩
  | .hbm, ⟨2, _⟩ => ⟨S8192x1024, .f32⟩
  | .hbm, ⟨3, _⟩ => ⟨S1024x8704, .f32⟩
  | .hbm, ⟨4, _⟩ => ⟨S8192x8704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S2048x1024 : Shape := ⟨2, ![2048, 1024]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S1x1024 : Shape := ⟨2, ![1, 1024]⟩
abbrev S2048x1024 : Shape := ⟨2, ![2048, 1024]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel16.lean ====
abbrev S8x8192x128 : Shape := ⟨3, ![8, 8192, 128]⟩
abbrev S8x8192x64 : Shape := ⟨3, ![8, 8192, 64]⟩
abbrev S8x128x8192 : Shape := ⟨3, ![8, 128, 8192]⟩
abbrev S8x32x256x64 : Shape := ⟨4, ![8, 32, 256, 64]⟩
abbrev S8x32x64x256 : Shape := ⟨4, ![8, 32, 64, 256]⟩
abbrev S8x64x8192 : Shape := ⟨3, ![8, 64, 8192]⟩
abbrev S8x1x8192 : Shape := ⟨3, ![8, 1, 8192]⟩
abbrev S1x128x2048 : Shape := ⟨3, ![1, 128, 2048]⟩
abbrev S1x8192x128 : Shape := ⟨3, ![1, 8192, 128]⟩
abbrev S1x32x64x256 : Shape := ⟨4, ![1, 32, 64, 256]⟩
abbrev S1x64x2048 : Shape := ⟨3, ![1, 64, 2048]⟩
abbrev S1x1x2048 : Shape := ⟨3, ![1, 1, 2048]⟩
abbrev S128x2048 : Shape := ⟨2, ![128, 2048]⟩
abbrev S1x2048 : Shape := ⟨2, ![1, 2048]⟩
abbrev S64x2048 : Shape := ⟨2, ![64, 2048]⟩
abbrev S1x256x128 : Shape := ⟨3, ![1, 256, 128]⟩
abbrev S256x128 : Shape := ⟨2, ![256, 128]⟩
abbrev S256x2048 : Shape := ⟨2, ![256, 2048]⟩
abbrev S2048 : Shape := ⟨1, ![2048]⟩
abbrev S1x1x64x256 : Shape := ⟨4, ![1, 1, 64, 256]⟩
abbrev S64x256 : Shape := ⟨2, ![64, 256]⟩
abbrev S1x1792 : Shape := ⟨2, ![1, 1792]⟩
abbrev S64x1792 : Shape := ⟨2, ![64, 1792]⟩
abbrev S128x1792 : Shape := ⟨2, ![128, 1792]⟩
abbrev S256x1792 : Shape := ⟨2, ![256, 1792]⟩
abbrev S1792 : Shape := ⟨1, ![1792]⟩
abbrev S1x256 : Shape := ⟨2, ![1, 256]⟩
abbrev S1x1536 : Shape := ⟨2, ![1, 1536]⟩
abbrev S64x1536 : Shape := ⟨2, ![64, 1536]⟩
abbrev S128x1536 : Shape := ⟨2, ![128, 1536]⟩
abbrev S256x1536 : Shape := ⟨2, ![256, 1536]⟩
abbrev S1536 : Shape := ⟨1, ![1536]⟩
abbrev S1x512 : Shape := ⟨2, ![1, 512]⟩
abbrev S64x512 : Shape := ⟨2, ![64, 512]⟩
abbrev S1x1280 : Shape := ⟨2, ![1, 1280]⟩
abbrev S64x1280 : Shape := ⟨2, ![64, 1280]⟩
abbrev S128x1280 : Shape := ⟨2, ![128, 1280]⟩
abbrev S256x1280 : Shape := ⟨2, ![256, 1280]⟩
abbrev S1280 : Shape := ⟨1, ![1280]⟩
abbrev S1x768 : Shape := ⟨2, ![1, 768]⟩
abbrev S64x768 : Shape := ⟨2, ![64, 768]⟩
abbrev S1x1024 : Shape := ⟨2, ![1, 1024]⟩
abbrev S64x1024 : Shape := ⟨2, ![64, 1024]⟩
abbrev S128x1024 : Shape := ⟨2, ![128, 1024]⟩
abbrev S256x1024 : Shape := ⟨2, ![256, 1024]⟩
abbrev S1024 : Shape := ⟨1, ![1024]⟩
abbrev S128x768 : Shape := ⟨2, ![128, 768]⟩
abbrev S256x768 : Shape := ⟨2, ![256, 768]⟩
abbrev S768 : Shape := ⟨1, ![768]⟩
abbrev S128x512 : Shape := ⟨2, ![128, 512]⟩
abbrev S256x512 : Shape := ⟨2, ![256, 512]⟩
abbrev S512 : Shape := ⟨1, ![512]⟩
abbrev S128x256 : Shape := ⟨2, ![128, 256]⟩
abbrev S256x256 : Shape := ⟨2, ![256, 256]⟩
abbrev S256 : Shape := ⟨1, ![256]⟩

abbrev nBuf : Space → Nat
  | .hbm => 8
  | .vmem => 10
  | .smem => 0
  | _ => 0

abbrev bufTy : (tb : Table) → Fin (tcTables nBuf tb) → BufTy
  | .hbm, ⟨0, _⟩ => ⟨S8x8192x128, .bf16⟩
  | .hbm, ⟨1, _⟩ => ⟨S8x8192x128, .bf16⟩
  | .hbm, ⟨2, _⟩ => ⟨S8x8192x64, .bf16⟩
  | .hbm, ⟨3, _⟩ => ⟨S8x128x8192, .bf16⟩
  | .hbm, ⟨4, _⟩ => ⟨S8x32x256x64, .bf16⟩
  | .hbm, ⟨5, _⟩ => ⟨S8x32x64x256, .bf16⟩
  | .hbm, ⟨6, _⟩ => ⟨S8x64x8192, .f32⟩
  | .hbm, ⟨7, _⟩ => ⟨S8x1x8192, .f32⟩
  | .local _ .vmem, ⟨0, _⟩ => ⟨S1x128x2048, .bf16⟩
  | .local _ .vmem, ⟨1, _⟩ => ⟨S1x128x2048, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x32x64x256, .bf16⟩
  | .local _ .vmem, ⟨5, _⟩ => ⟨S1x32x64x256, .bf16⟩
  | .local _ .vmem, ⟨6, _⟩ => ⟨S1x64x2048, .f32⟩
  | .local _ .vmem, ⟨7, _⟩ => ⟨S1x64x2048, .f32⟩
  | .local _ .vmem, ⟨8, _⟩ => ⟨S1x1x2048, .f32⟩
  | .local _ .vmem, ⟨9, _⟩ => ⟨S1x1x2048, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_4 : BitVec 32 := 0#32
  let arg1 : BitVec 32 := BitVec.ofNat 32 (i 1).val
  let c8_i32 : BitVec 32 := 8#32
  let v5 : BitVec 32 := Scalar.muli arg1 c8_i32
  let v14 : BitVec 32 := Scalar.subi v5 c0_i32_4
  let c1_i32_5 : BitVec 32 := 1#32
  let v16 : BitVec 32 := Scalar.divsi v14 c1_i32_5
  let v17 : BitVec 32 := Scalar.muli v16 c1_i32_5
  let v18 : BitVec 32 := Scalar.addi c0_i32_4 v17
  let c1_i32_6 : BitVec 32 := 1#32
  ⟨c0_i32_4, v18, c1_i32_6⟩
def k0_mult1 (i : grid0.Coords) (k0_t1 : Fin (k0_t1_loop i).trips) : BitVec 32 :=
  let c0_i32_4 : BitVec 32 := 0#32
  let c1_i32_6 : BitVec 32 := 1#32
  let arg7 : BitVec 32 := Scf.iv c0_i32_4 c1_i32_6 k0_t1
  let c256_i32_118 : BitVec 32 := 256#32
  let v405 : BitVec 32 := Scalar.muli arg7 c256_i32_118
  v405
def k0_off1 (i : grid0.Coords) (k0_t1 : Fin (k0_t1_loop i).trips) : Fin 3 → Nat :=
  let c0_119 : Index := 0#32
  let c0_i32_4 : BitVec 32 := 0#32
  let c1_i32_6 : BitVec 32 := 1#32
  let arg7 : BitVec 32 := Scf.iv c0_i32_4 c1_i32_6 k0_t1
  let c256_i32_118 : BitVec 32 := 256#32
  let v405 : BitVec 32 := Scalar.muli arg7 c256_i32_118
  let v406 : BitVec 32 := v405
  let v407 : Index := Scalar.indexCast v406
  let c0_120 : Index := 0#32
  ![0, v407.toNat, 0]
def k0_off2 (i : grid0.Coords) (k0_t1 : Fin (k0_t1_loop i).trips) : Fin 4 → Nat :=
  let c0_124 : Index := 0#32
  let c0_i32_4 : BitVec 32 := 0#32
  let c1_i32_6 : BitVec 32 := 1#32
  let arg7 : BitVec 32 := Scf.iv c0_i32_4 c1_i32_6 k0_t1
  let v425 : Index := Scalar.indexCast arg7
  let c0_125 : Index := 0#32
  let c0_126 : Index := 0#32
  ![0, v425.toNat, 0, 0]
@[reducible] def k0_t2_loop (i : grid0.Coords) : Scf.Loop 32 :=
  let c0_i32_4 : BitVec 32 := 0#32
  let arg1 : BitVec 32 := BitVec.ofNat 32 (i 1).val
  let c8_i32 : BitVec 32 := 8#32
  let v5 : BitVec 32 := Scalar.muli arg1 c8_i32
  let v14 : BitVec 32 := Scalar.subi v5 c0_i32_4
  let c1_i32_5 : BitVec 32 := 1#32
  let v16 : BitVec 32 := Scalar.divsi v14 c1_i32_5
  let v17 : BitVec 32 := Scalar.muli v16 c1_i32_5
  let v18 : BitVec 32 := Scalar.addi c0_i32_4 v17
  let v15 : BitVec 32 := Scalar.addi c0_i32_4 v14
  let c1_i32_7 : BitVec 32 := 1#32
  ⟨v18, v15, c1_i32_7⟩
def k0_mult2 (i : grid0.Coords) (k0_t2 : Fin (k0_t2_loop i).trips) : BitVec 32 :=
  let c0_i32_4 : BitVec 32 := 0#32
  let arg1 : BitVec 32 := BitVec.ofNat 32 (i 1).val
  let c8_i32 : BitVec 32 := 8#32
  let v5 : BitVec 32 := Scalar.muli arg1 c8_i32
  let v14 : BitVec 32 := Scalar.subi v5 c0_i32_4
  let c1_i32_5 : BitVec 32 := 1#32
  let v16 : BitVec 32 := Scalar.divsi v14 c1_i32_5
  let v17 : BitVec 32 := Scalar.muli v16 c1_i32_5
  let v18 : BitVec 32 := Scalar.addi c0_i32_4 v17
  let c1_i32_7 : BitVec 32 := 1#32
  let arg7 : BitVec 32 := Scf.iv v18 c1_i32_7 k0_t2
  let c256_i32_118 : BitVec 32 := 256#32
  let v405 : BitVec 32 := Scalar.muli arg7 c256_i32_118
  v405
def k0_off3 (i : grid0.Coords) (k0_t2 : Fin (k0_t2_loop i).trips) : Fin 3 → Nat :=
  let c0_119 : Index := 0#32
  let c0_i32_4 : BitVec 32 := 0#32
  let arg1 : BitVec 32 := BitVec.ofNat 32 (i 1).val
  let c8_i32 : BitVec 32 := 8#32
  let v5 : BitVec 32 := Scalar.muli arg1 c8_i32
  let v14 : BitVec 32 := Scalar.subi v5 c0_i32_4
  let c1_i32_5 : BitVec 32 := 1#32
  let v16 : BitVec 32 := Scalar.divsi v14 c1_i32_5
  let v17 : BitVec 32 := Scalar.muli v16 c1_i32_5
  let v18 : BitVec 32 := Scalar.addi c0_i32_4 v17
  let c1_i32_7 : BitVec 32 := 1#32
  let arg7 : BitVec 32 := Scf.iv v18 c1_i32_7 k0_t2
  let c256_i32_118 : BitVec 32 := 256#32
  let v405 : BitVec 32 := Scalar.muli arg7 c256_i32_118
  let v406 : BitVec 32 := v405
  let v407 : Index := Scalar.indexCast v406
  let c0_120 : Index := 0#32
  ![0, v407.toNat, 0]
def k0_off4 (i : grid0.Coords) (k0_t2 : Fin (k0_t2_loop i).trips) : Fin 4 → Nat :=
  let c0_124 : Index := 0#32
  let c0_i32_4 : BitVec 32 := 0#32
  let arg1 : BitVec 32 := BitVec.ofNat 32 (i 1).val
  let c8_i32 : BitVec 32 := 8#32
  let v5 : BitVec 32 := Scalar.muli arg1 c8_i32
  let v14 : BitVec 32 := Scalar.subi v5 c0_i32_4
  let c1_i32_5 : BitVec 32 := 1#32
  let v16 : BitVec 32 := Scalar.divsi v14 c1_i32_5
  let v17 : BitVec 32 := Scalar.muli v16 c1_i32_5
  let v18 : BitVec 32 := Scalar.addi c0_i32_4 v17
  let c1_i32_7 : BitVec 32 := 1#32
  let arg7 : BitVec 32 := Scf.iv v18 c1_i32_7 k0_t2
  let v425 : Index := Scalar.indexCast arg7
  let c0_125 : Index := 0#32
  let c0_126 : Index := 0#32
  ![0, v425.toNat, 0, 0]
def k0_mult3 (i : grid0.Coords) : BitVec 32 :=
  let arg1 : BitVec 32 := BitVec.ofNat 32 (i 1).val
  let c8_i32 : BitVec 32 := 8#32
  let v5 : BitVec 32 := Scalar.muli arg1 c8_i32
  let c0_i32 : BitVec 32 := 0#32
  let v6 : BitVec 32 := Scalar.addi v5 c0_i32
  let c256_i32 : BitVec 32 := 256#32
  let v21 : BitVec 32 := Scalar.muli v6 c256_i32
  v21
def k0_off5 (i : grid0.Coords) (c0_i32 : BitVec 32) : Fin 3 → Nat :=
  let c0_8 : Index := 0#32
  let arg1 : BitVec 32 := BitVec.ofNat 32 (i 1).val
  let c8_i32 : BitVec 32 := 8#32
  let v5 : BitVec 32 := Scalar.muli arg1 c8_i32
  let v6 : BitVec 32 := Scalar.addi v5 c0_i32
  let c256_i32 : BitVec 32 := 256#32
  let v21 : BitVec 32 := Scalar.muli v6 c256_i32
  let v22 : BitVec 32 := v21
  let v23 : Index := Scalar.indexCast v22
  let c0_9 : Index := 0#32
  ![0, v23.toNat, 0]
def k0_off6 (i : grid0.Coords) (c0_i32 : BitVec 32) : Fin 4 → Nat :=
  let c0_16 : Index := 0#32
  let arg1 : BitVec 32 := BitVec.ofNat 32 (i 1).val
  let c8_i32 : BitVec 32 := 8#32
  let v5 : BitVec 32 := Scalar.muli arg1 c8_i32
  let v6 : BitVec 32 := Scalar.addi v5 c0_i32
  let v53 : Index := Scalar.indexCast v6
  let c0_17 : Index := 0#32
  let c0_18 : Index := 0#32
  ![0, v53.toNat, 0, 0]
def k0_mult4 (i : grid0.Coords) : BitVec 32 :=
  let arg1 : BitVec 32 := BitVec.ofNat 32 (i 1).val
  let c8_i32 : BitVec 32 := 8#32
  let v5 : BitVec 32 := Scalar.muli arg1 c8_i32
  let c1_i32 : BitVec 32 := 1#32
  let v7 : BitVec 32 := Scalar.addi v5 c1_i32
  let c256_i32_20 : BitVec 32 := 256#32
  let v62 : BitVec 32 := Scalar.muli v7 c256_i32_20
  v62
def k0_mult5 (i : grid0.Coords) : BitVec 32 :=
  let arg1 : BitVec 32 := BitVec.ofNat 32 (i 1).val
  let c8_i32 : BitVec 32 := 8#32
  let v5 : BitVec 32 := Scalar.muli arg1 c8_i32
  let c2_i32 : BitVec 32 := 2#32
  let v8 : BitVec 32 := Scalar.addi v5 c2_i32
  let c256_i32_34 : BitVec 32 := 256#32
  let v110 : BitVec 32 := Scalar.muli v8 c256_i32_34
  v110
def k0_mult6 (i : grid0.Coords) : BitVec 32 :=
  let arg1 : BitVec 32 := BitVec.ofNat 32 (i 1).val
  let c8_i32 : BitVec 32 := 8#32
  let v5 : BitVec 32 := Scalar.muli arg1 c8_i32
  let c3_i32 : BitVec 32 := 3#32
  let v9 : BitVec 32 := Scalar.addi v5 c3_i32
  let c256_i32_47 : BitVec 32 := 256#32
  let v158 : BitVec 32 := Scalar.muli v9 c256_i32_47
  v158
def k0_mult7 (i : grid0.Coords) : BitVec 32 :=
  let arg1 : BitVec 32 := BitVec.ofNat 32 (i 1).val
  let c8_i32 : BitVec 32 := 8#32
  let v5 : BitVec 32 := Scalar.muli arg1 c8_i32
  let c4_i32 : BitVec 32 := 4#32
  let v10 : BitVec 32 := Scalar.addi v5 c4_i32
  let c256_i32_60 : BitVec 32 := 256#32
  let v206 : BitVec 32 := Scalar.muli v10 c256_i32_60
  v206
def k0_mult8 (i : grid0.Coords) : BitVec 32 :=
  let arg1 : BitVec 32 := BitVec.ofNat 32 (i 1).val
  let c8_i32 : BitVec 32 := 8#32
  let v5 : BitVec 32 := Scalar.muli arg1 c8_i32
  let c5_i32 : BitVec 32 := 5#32
  let v11 : BitVec 32 := Scalar.addi v5 c5_i32
  let c256_i32_73 : BitVec 32 := 256#32
  let v254 : BitVec 32 := Scalar.muli v11 c256_i32_73
  v254
def k0_mult9 (i : grid0.Coords) : BitVec 32 :=
  let arg1 : BitVec 32 := BitVec.ofNat 32 (i 1).val
  let c8_i32 : BitVec 32 := 8#32
  let v5 : BitVec 32 := Scalar.muli arg1 c8_i32
  let c6_i32 : BitVec 32 := 6#32
  let v12 : BitVec 32 := Scalar.addi v5 c6_i32
  let c256_i32_86 : BitVec 32 := 256#32
  let v302 : BitVec 32 := Scalar.muli v12 c256_i32_86
  v302
def k0_mult10 (i : grid0.Coords) : BitVec 32 :=
  let arg1 : BitVec 32 := BitVec.ofNat 32 (i 1).val
  let c8_i32 : BitVec 32 := 8#32
  let v5 : BitVec 32 := Scalar.muli arg1 c8_i32
  let c7_i32 : BitVec 32 := 7#32
  let v13 : BitVec 32 := Scalar.addi v5 c7_i32
  let c256_i32_99 : BitVec 32 := 256#32
  let v350 : BitVec 32 := Scalar.muli v13 c256_i32_99
  v350
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel16Ideal.lean ====
variable {F : FTy → Type} [FloatOps F] [Named F]
def κ : String → Option EReal := fun
  | "mask" => some ⊥
  | _ => none
-- ==== Reference16Ideal.lean ====
abbrev S8x8192x128 : Shape := ⟨3, ![8, 8192, 128]⟩
abbrev S8x8192x64 : Shape := ⟨3, ![8, 8192, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S8x8192x128, .bf16⟩
  | .hbm, ⟨2, _⟩ => ⟨S8x8192x64, .bf16⟩
  | .hbm, ⟨3, _⟩ => ⟨S8x8192x128, .f32⟩
  | .hbm, ⟨4, _⟩ => ⟨S8x8192x128, .f32⟩
  | .hbm, ⟨5, _⟩ => ⟨S8x8192x64, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .f32⟩
  | .hbm, ⟨29, _⟩ => ⟨S8x8192x64, .f32⟩
  | .hbm, ⟨30, _⟩ => ⟨S8x64x8192, .f32⟩
  | .hbm, ⟨31, _⟩ => ⟨S8x8192x1, .f32⟩
  | .hbm, ⟨32, _⟩ => ⟨S8x8192x1, .f32⟩
  | .hbm, ⟨33, _⟩ => ⟨S8x1x8192, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Spec.lean ====
/- Causal softmax attention of one head over the reals, and the gradients of its three operands.
   Queries, keys, values and the cotangent of the output are real matrices; the probabilities, the gradient of the
   scores and the three gradients are written as plain sums. Both programs are shown to compute these. -/
module

public import Idealize.ShloMosaic.Lib.Pointwise
public import Idealize.ShloMosaic.PureOps.Ideal.Laws

@[expose] public section

noncomputable section

open Idealize.ShloMosaic

namespace Cert.AttnGrad

/-! ## Extended reals that are real -/

/-- A finite sum of reals read in the extended reals. -/
theorem coe_sum {ι : Type} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- A sum of products of reals read in the extended reals. -/
theorem coe_sum_mul {ι : Type} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

/-- The quotient of two reals, the second not zero. -/
theorem div_real (x y : ℝ) (hy : y ≠ 0) : Ideal.div (x : EReal) (y : EReal) = ((x / y : ℝ) : EReal) := by
  rw [Ideal.div_coe hy, ← EReal.coe_mul, mul_one_div]

/-- The logarithm of a positive real. -/
theorem log_real (x : ℝ) (hx : 0 < x) : Ideal.log (x : EReal) = ((Real.log x : ℝ) : EReal) := by
  rw [Ideal.log_coe, if_neg (not_le.2 hx)]

/-- An extended real that is neither infinity is its real part. -/
theorem coe_toReal_of_abs {x : EReal} (h : max x (-x) < ⊤) : ((x.toReal : ℝ) : EReal) = x := by
  refine EReal.coe_toReal (ne_of_lt (lt_of_le_of_lt (le_max_left _ _) h)) fun hb => ?_
  rw [hb, EReal.neg_bot] at h
  exact absurd (lt_of_le_of_lt (le_max_right ⊥ ⊤) h) (lt_irrefl _)

/-- A running maximum that starts at −∞ is the supremum. -/
theorem fold_max_eq_sup {ι : Type} (s : Finset ι) (f : ι → EReal) : s.fold max ⊥ f = s.sup f := rfl

/-! ## The head -/

section Head

variable {n d e : ℕ} (Q K : Fin n → Fin d → ℝ) (V D : Fin n → Fin e → ℝ)

/-- The score of key `j` for query `i`. -/
def score (i j : Fin n) : ℝ := ∑ a, Q i a * K j a
/-- The scores of query `i` with the keys after it at −∞. -/
def masked (i j : Fin n) : EReal := if j ≤ i then ((score Q K i j : ℝ) : EReal) else ⊥
/-- The largest score of query `i` among the keys up to it. -/
def top (i : Fin n) : ℝ := (Finset.univ.fold max ⊥ (masked Q K i)).toReal
/-- The weight of key `j` for query `i`: the exponential of the score less the largest, nothing for a later key. -/
def wt (i j : Fin n) : ℝ := if j ≤ i then Real.exp (score Q K i j - top Q K i) else 0
/-- The sum of the weights of query `i`. -/
def mass (i : Fin n) : ℝ := ∑ j, wt Q K i j
/-- The probability of key `j` for query `i`. -/
def prob (i j : Fin n) : ℝ := wt Q K i j / mass Q K i
/-- The attention's output. -/
def out (i : Fin n) (a : Fin e) : ℝ := ∑ j, prob Q K i j * V j a
/-- The gradient of the probabilities. -/
def dprob (i j : Fin n) : ℝ := ∑ a, D i a * V j a
/-- The mean of the gradient of the probabilities of query `i`. -/
def delta (i : Fin n) : ℝ := ∑ j, prob Q K i j * dprob V D i j
/-- The gradient of the scores. -/
def dscore (i j : Fin n) : ℝ := prob Q K i j * (dprob V D i j - delta Q K V D i)
/-- The gradient of the queries. -/
def gradQ (i : Fin n) (a : Fin d) : ℝ := ∑ j, K j a * dscore Q K V D i j
/-- The gradient of the keys. -/
def gradK (j : Fin n) (a : Fin d) : ℝ := ∑ i, dscore Q K V D i j * Q i a
/-- The gradient of the values. -/
def gradV (j : Fin n) (a : Fin e) : ℝ := ∑ i, prob Q K i j * D i a

/-- The running maximum of the masked scores is the real number `top`: query `i` sees its own key. -/
theorem fold_masked (i : Fin n) : Finset.univ.fold max ⊥ (masked Q K i) = ((top Q K i : ℝ) : EReal) := by
  refine (EReal.coe_toReal ?_ ?_).symm
  · rw [fold_max_eq_sup]
    refine ne_of_lt ((Finset.sup_lt_iff bot_lt_top).2 fun j _ => ?_)
    unfold masked; split
    · exact EReal.coe_lt_top _
    · exact bot_lt_top
  · rw [fold_max_eq_sup]
    have h : masked Q K i i ≤ Finset.univ.sup (masked Q K i) := Finset.le_sup (Finset.mem_univ i)
    rw [masked, if_pos le_rfl] at h
    exact ne_of_gt (lt_of_lt_of_le (EReal.bot_lt_coe _) h)

theorem wt_nonneg (i j : Fin n) : 0 ≤ wt Q K i j := by
  unfold wt; split
  · exact (Real.exp_pos _).le
  · exact le_rfl

theorem mass_pos (i : Fin n) : 0 < mass Q K i := by
  refine Finset.sum_pos' (fun j _ => wt_nonneg Q K i j) ⟨i, Finset.mem_univ i, ?_⟩
  rw [wt, if_pos le_rfl]; exact Real.exp_pos _

/-- The weight in the extended reals: the exponential of the masked score less the largest. -/
theorem exp_masked (i j : Fin n) : Ideal.exp (masked Q K i j - ((top Q K i : ℝ) : EReal)) = ((wt Q K i j : ℝ) : EReal) := by
  unfold masked wt; split
  · rw [← EReal.coe_sub, Ideal.exp_coe]
  · rw [EReal.bot_sub, Ideal.exp_bot, EReal.coe_zero]

/-- A later key has no probability. -/
theorem prob_of_lt {i j : Fin n} (h : i < j) : prob Q K i j = 0 := by
  rw [prob, wt, if_neg (not_le.2 h), zero_div]

/-- The score of a later key has no gradient. -/
theorem dscore_of_lt {i j : Fin n} (h : i < j) : dscore Q K V D i j = 0 := by
  rw [dscore, prob_of_lt Q K h, zero_mul]

/-- The probability from the logarithm of the weights' sum. -/
theorem exp_sub_lse (i j : Fin n) (h : j ≤ i) :
    Real.exp (score Q K i j - (top Q K i + Real.log (mass Q K i))) = prob Q K i j := by
  rw [← sub_sub, Real.exp_sub, Real.exp_log (mass_pos Q K i), prob, wt, if_pos h]

/-- The probability in the extended reals, from the masked score. -/
theorem exp_masked_lse (i j : Fin n) :
    Ideal.exp (masked Q K i j - ((top Q K i + Real.log (mass Q K i) : ℝ) : EReal)) = ((prob Q K i j : ℝ) : EReal) := by
  unfold masked; split
  · rename_i h; rw [← EReal.coe_sub, Ideal.exp_coe, exp_sub_lse Q K i j h]
  · rename_i h; rw [EReal.bot_sub, Ideal.exp_bot, prob_of_lt Q K (not_le.1 h), EReal.coe_zero]

/-- The mean of the probabilities' gradient is the output's product with its cotangent. -/
theorem sum_mul_out (i : Fin n) : ∑ a, D i a * out Q K V i a = delta Q K V D i := by
  unfold out delta dprob
  simp only [Finset.mul_sum]
  rw [Finset.sum_comm]
  exact Finset.sum_congr rfl fun j _ => Finset.sum_congr rfl fun a _ => by ring

/-- The gradient of the scores as the derivative of a quotient writes it. -/
theorem dscore_eq (i j : Fin n) :
    (if j ≤ i then (dprob V D i j / mass Q K i + -∑ j', dprob V D i j' * (1 / (mass Q K i * mass Q K i)) * wt Q K i j') * wt Q K i j else 0)
      = dscore Q K V D i j := by
  have hm := (mass_pos Q K i).ne'
  split
  · have h : ∑ j', dprob V D i j' * (1 / (mass Q K i * mass Q K i)) * wt Q K i j' = delta Q K V D i / mass Q K i := by
      unfold delta; rw [Finset.sum_div]
      refine Finset.sum_congr rfl fun j' _ => ?_
      unfold prob; field_simp
    rw [h]; unfold dscore prob; field_simp; ring
  · rename_i h; rw [dscore_of_lt Q K V D (not_le.1 h)]

end Head

end Cert.AttnGrad

end
-- ==== Proof.RefValue.lean ====
/- What the reference computes: on arguments that are real, its three results are the transposed gradient of the
   queries and the gradients of the keys and of the values of each head. -/
module

public import proofs.«01_k».proof.Proof.Spec
public import proofs.«01_k».proof.Proof.Gen.ReferenceIdeal.Read
public import Idealize.ShloMosaic.Lib.WordCmp
public import Idealize.ShloMosaic.Lib.IdealHost

@[expose] public section

noncomputable section

namespace Cert.RefValue

open Cert.ReferenceIdeal Cert.ReferenceIdeal.Gen Cert.ReferenceIdeal.Read Cert.AttnGrad
open Idealize.ShloMosaic Idealize.ShloMosaic.TcCoe

variable {x0 x1 : (⟨S8x8192x128, .bf16⟩ : BufTy).Contents (Elt Ideal)} {x2 x3 : (⟨S8x8192x64, .bf16⟩ : BufTy).Contents (Elt Ideal)}
variable {Q K : Fin 8 → Fin 8192 → Fin 128 → ℝ} {V D : Fin 8 → Fin 8192 → Fin 64 → ℝ}

theorem bits_bot : Ideal.ofBits .f32 0xFF800000#32 = ⊥ := by simp [Ideal.ofBits, Ideal.ieee]
theorem bits_zero : Ideal.ofBits .f32 0x00000000#32 = 0 := by simp [Ideal.ofBits, Ideal.ieee]
theorem bits_one : Ideal.ofBits .f32 0x3F800000#32 = ((1 : ℝ) : EReal) := by
  exact Ideal.ofBits_one_f32

/-- The mask's word comparison of two positions. -/
theorem cmp_pos (i j : Fin 8192) : IntOp.cmpi .sle (BitVec.ofNat 32 j.val) (BitVec.ofNat 32 i.val) = if j ≤ i then 1#1 else 0#1 := by
  rw [WordCmp.cmpi_sle_eq, WordCmp.toInt_ofNat_of_lt (by omega), WordCmp.toInt_ofNat_of_lt (by omega)]
  by_cases h : j ≤ i
  · rw [if_pos h, decide_eq_true (by exact_mod_cast h)]; rfl
  · rw [if_neg h, decide_eq_false (by exact_mod_cast h)]; rfl

/-- The mask. -/
theorem mask_at (h : Fin 8) (i j : Fin 8192) : val_main_v10_1 (F := Ideal) (ix3 h i j) = if j ≤ i then 1#1 else 0#1 := by
  rw [← cmp_pos]
  pointwise [val_main_v10_1, val_main_v9, val_main_v8, val_main_v7, val_main_v6, val_main_v5, val_main_v4]

/-- The largest element of each row. -/
theorem max_row (y : S8x8192x8192.Idx → EReal) (z : S_.Idx → EReal) (h : Fin 8) (i : Fin 8192) :
    Host.reduce (α := EReal) (FloatOps.maximumf (F := Ideal) (φ := .f32)) y z reducesTo_S8x8192x8192_S8x8192_d2 h_S_ (ix2 h i)
      = Finset.univ.fold max (z (Shape.Idx.first h_S_)) (fun j : Fin 8192 => y (ix3 h i j)) := by
  rw [Host.reduce_eq_fold_single (a := 2) (α := EReal) (FloatOps.maximumf (F := Ideal) (φ := .f32)) y z reducesTo_S8x8192x8192_S8x8192_d2 (by decide) h_S_ (ix2 h i)]
  refine Finset.fold_congr fun j _ => ?_
  exact congrArg y (funext fun a => by match a with | ⟨0, _⟩ => rfl | ⟨1, _⟩ => rfl | ⟨2, _⟩ => rfl)

section Scores
variable (h0 : ∀ h i a, x0 (ix3 h i a) = ((Q h i a : ℝ) : EReal)) (h1 : ∀ h i a, x1 (ix3 h i a) = ((K h i a : ℝ) : EReal))
include h0 h1

theorem scores (h : Fin 8) (i j : Fin 8192) : val_main_v3 (F := Ideal) x0 x1 (ix3 h i j) = ((score (Q h) (K h) i j : ℝ) : EReal) := by
  pointwise [val_main_v3, val_main_v0, val_main_v1]
  simp only [h0, h1]
  exact coe_sum_mul _ _ _

theorem masked_scores (h : Fin 8) (i j : Fin 8192) : val_main_v10_0 (F := Ideal) x0 x1 (ix3 h i j) = masked (Q h) (K h) i j := by
  rw [val_main_v10_0_apply, scores h0 h1, mask_at, masked]
  have e : val_main_call0_v2 (F := Ideal) (ix3 h i j) = ⊥ := by
    rw [val_main_call0_v2_apply]; exact bits_bot
  rw [e]
  by_cases hij : j ≤ i
  · rw [if_pos hij, if_pos hij]; rfl
  · rw [if_neg hij, if_neg hij]; rfl

theorem maxima (h : Fin 8) (i : Fin 8192) : val_main_v18 (F := Ideal) x0 x1 (ix2 h i) = ((top (Q h) (K h) i : ℝ) : EReal) := by
  rw [val_main_v18_apply]
  have e : val_main_v17 (F := Ideal) (ix2 h i) = ⊥ := by
    rw [val_main_v17_apply]; exact bits_bot
  have e2 : val_main_v11 (F := Ideal) x0 x1 (ix2 h i) = ((top (Q h) (K h) i : ℝ) : EReal) := by
    have hm : (fun j => val_main_v10_0 (F := Ideal) x0 x1 (ix3 h i j)) = masked (Q h) (K h) i := funext fun j => masked_scores h0 h1 h i j
    unfold val_main_v11
    rw [max_row, hm, ← fold_masked]
    exact congrArg (fun t => Finset.univ.fold max t _) bits_bot
  rw [e, e2]
  exact max_eq_right bot_le

theorem weights (h : Fin 8) (i j : Fin 8192) : val_main_v31 (F := Ideal) x0 x1 (ix3 h i j) = ((wt (Q h) (K h) i j : ℝ) : EReal) := by
  rw [val_main_v31_apply, val_main_v30_apply, masked_scores h0 h1, val_main_v29_apply, val_main_v28_apply, eq_ix2 (idx_main_v28 _)]
  rw [show val_main_v18 (F := Ideal) x0 x1 (ix2 (idx_main_v28 (idx_main_v29 (ix3 h i j)) 0) (idx_main_v28 (idx_main_v29 (ix3 h i j)) 1))
    = ((top (Q h) (K h) i : ℝ) : EReal) from maxima h0 h1 h i]
  exact exp_masked (Q h) (K h) i j

theorem masses (h : Fin 8) (i : Fin 8192) : val_main_v32 (F := Ideal) x0 x1 (ix2 h i) = ((mass (Q h) (K h) i : ℝ) : EReal) := by
  rw [val_main_v32_apply, mass, coe_sum]
  have e : val_main_cst_8 (F := Ideal) (Shape.Idx.first h_S_) = 0 := bits_zero
  rw [e, zero_add]
  exact Finset.sum_congr rfl fun k _ => (congrArg _ (eq_ix3 _)).trans (weights h0 h1 h i k)

theorem masses33 (h : Fin 8) (i : Fin 8192) (z : Fin 1) : val_main_v33 (F := Ideal) x0 x1 (ix3 h i z) = ((mass (Q h) (K h) i : ℝ) : EReal) := by
  rw [val_main_v33_apply]
  exact (congrArg _ (eq_ix2 _)).trans (masses h0 h1 h i)

theorem probs (h : Fin 8) (i j : Fin 8192) : val_main_v35 (F := Ideal) x0 x1 (ix3 h i j) = ((prob (Q h) (K h) i j : ℝ) : EReal) := by
  rw [val_main_v35_apply, weights h0 h1, val_main_v34_apply]
  have e : val_main_v33 (F := Ideal) x0 x1 (idx_main_v34 (ix3 h i j)) = ((mass (Q h) (K h) i : ℝ) : EReal) :=
    (congrArg _ (eq_ix3 _)).trans (masses33 h0 h1 h i 0)
  rw [e]
  exact div_real _ _ (mass_pos _ _ _).ne'

theorem inverse_squares (h : Fin 8) (i : Fin 8192) (z : Fin 1) :
    val_main_v38 (F := Ideal) x0 x1 (ix3 h i z) = ((1 / (mass (Q h) (K h) i * mass (Q h) (K h) i) : ℝ) : EReal) := by
  rw [val_main_v38_apply, val_main_v37_apply, val_main_v36_apply, masses33 h0 h1]
  have e : val_main_cst_9 (F := Ideal) (idx_main_v37 (ix3 h i z)) = ((1 : ℝ) : EReal) := bits_one
  rw [e]
  show Ideal.div _ (((mass (Q h) (K h) i : ℝ) : EReal) * ((mass (Q h) (K h) i : ℝ) : EReal)) = _
  rw [← EReal.coe_mul]
  exact div_real _ _ (mul_pos (mass_pos _ _ _) (mass_pos _ _ _)).ne'

variable (h2 : ∀ h i a, x2 (ix3 h i a) = ((V h i a : ℝ) : EReal)) (h3 : ∀ h i a, x3 (ix3 h i a) = ((D h i a : ℝ) : EReal))

section DV
include h3

/-- The reference's third result: the gradient of the values. -/
theorem dv_at (h : Fin 8) (j : Fin 8192) (e : Fin 64) :
    val_main_v42 (F := Ideal) x0 x1 x3 (ix3 h j e) = ((gradV (Q h) (K h) (D h) j e : ℝ) : EReal) := by
  rw [val_main_v42_apply, val_main_v41_apply, gradV, coe_sum]
  refine Finset.sum_congr rfl fun k _ => ?_
  have e1 : val_main_v40 (F := Ideal) x3 (lidx_main_v41 (idx_main_v42 (ix3 h j e)) k) = ((D h k e : ℝ) : EReal) := by
    rw [val_main_v40_apply]
    exact (congrArg x3 (eq_ix3 _)).trans (h3 h k e)
  have e2 : val_main_v35 (F := Ideal) x0 x1 (ridx_main_v41 (idx_main_v42 (ix3 h j e)) k) = ((prob (Q h) (K h) k j : ℝ) : EReal) :=
    (congrArg _ (eq_ix3 _)).trans (probs h0 h1 h k j)
  rw [e1, e2, mul_comm, EReal.coe_mul]
end DV

include h2 h3

omit h0 h1 in
theorem dprobs (h : Fin 8) (i j : Fin 8192) : val_main_v43 (F := Ideal) x2 x3 (ix3 h i j) = ((dprob (V h) (D h) i j : ℝ) : EReal) := by
  rw [val_main_v43_apply, dprob, coe_sum]
  refine Finset.sum_congr rfl fun k _ => ?_
  have e1 : val_main_v40 (F := Ideal) x3 (lidx_main_v43 (ix3 h i j) k) = ((D h i k : ℝ) : EReal) := by
    rw [val_main_v40_apply]
    exact (congrArg x3 (eq_ix3 _)).trans (h3 h i k)
  have e2 : val_main_v2 (F := Ideal) x2 (ridx_main_v43 (ix3 h i j) k) = ((V h j k : ℝ) : EReal) := by
    rw [val_main_v2_apply]
    exact (congrArg x2 (eq_ix3 _)).trans (h2 h j k)
  rw [e1, e2, EReal.coe_mul]

theorem terms (h : Fin 8) (i j : Fin 8192) : val_main_v46 (F := Ideal) x0 x1 x2 x3 (ix3 h i j)
    = ((dprob (V h) (D h) i j * (1 / (mass (Q h) (K h) i * mass (Q h) (K h) i)) * wt (Q h) (K h) i j : ℝ) : EReal) := by
  rw [val_main_v46_apply, val_main_v45_apply, dprobs h2 h3, weights h0 h1, val_main_v44_apply]
  have e : val_main_v38 (F := Ideal) x0 x1 (idx_main_v44 (ix3 h i j)) = ((1 / (mass (Q h) (K h) i * mass (Q h) (K h) i) : ℝ) : EReal) :=
    (congrArg _ (eq_ix3 _)).trans (inverse_squares h0 h1 h i 0)
  rw [e, EReal.coe_mul, EReal.coe_mul]
  rfl

theorem means (h : Fin 8) (i : Fin 8192) : val_main_v52 (F := Ideal) x0 x1 x2 x3 (ix2 h i)
    = ((-∑ j, dprob (V h) (D h) i j * (1 / (mass (Q h) (K h) i * mass (Q h) (K h) i)) * wt (Q h) (K h) i j : ℝ) : EReal) := by
  have e47 : val_main_v47 (F := Ideal) x0 x1 x2 x3 (ix2 h i)
      = ((∑ j, dprob (V h) (D h) i j * (1 / (mass (Q h) (K h) i * mass (Q h) (K h) i)) * wt (Q h) (K h) i j : ℝ) : EReal) := by
    rw [val_main_v47_apply, coe_sum]
    have e : val_main_cst_10 (F := Ideal) (Shape.Idx.first h_S_) = 0 := bits_zero
    rw [e, zero_add]
    exact Finset.sum_congr rfl fun k _ => (congrArg _ (eq_ix3 _)).trans (terms h0 h1 h2 h3 h i k)
  rw [val_main_v52_apply]
  have e : val_main_cst_11 (F := Ideal) (Shape.Idx.first h_S_) = 0 := bits_zero
  rw [e, zero_add, Fin.sum_univ_one, val_main_v49_apply, val_main_v48_apply]
  have e48 : val_main_v47 (F := Ideal) x0 x1 x2 x3 (idx_main_v48 (idx_main_v52 (ix2 h i) 0))
      = ((∑ j, dprob (V h) (D h) i j * (1 / (mass (Q h) (K h) i * mass (Q h) (K h) i)) * wt (Q h) (K h) i j : ℝ) : EReal) := by
    rw [← e47]
    refine congrArg (val_main_v47 (F := Ideal) x0 x1 x2 x3) (funext fun a => Fin.ext ?_)
    match a with
    | ⟨0, _⟩ => show ((h.val * 8192 + i.val) * 1 + 0) / 8192 = h.val; omega
    | ⟨1, _⟩ => show ((h.val * 8192 + i.val) * 1 + 0) % 8192 = i.val; omega
  rw [e48, EReal.coe_neg]
  rfl

theorem dscores (h : Fin 8) (i j : Fin 8192) : val_main_v56 (F := Ideal) x0 x1 x2 x3 (ix3 h i j) = ((dscore (Q h) (K h) (V h) (D h) i j : ℝ) : EReal) := by
  rw [val_main_v56_apply, mask_at, ← dscore_eq]
  have ez : val_main_call1_v0 (F := Ideal) (ix3 h i j) = 0 := by
    rw [val_main_call1_v0_apply]; exact bits_zero
  by_cases hij : j ≤ i
  · rw [if_pos hij, if_pos hij]
    show val_main_v55 (F := Ideal) x0 x1 x2 x3 (ix3 h i j) = _
    rw [val_main_v55_apply, val_main_v54_apply, val_main_v51_apply, val_main_v53_apply, val_main_v50_apply, dprobs h2 h3, weights h0 h1]
    have e50 : val_main_v33 (F := Ideal) x0 x1 (idx_main_v50 (ix3 h i j)) = ((mass (Q h) (K h) i : ℝ) : EReal) :=
      (congrArg _ (eq_ix3 _)).trans (masses33 h0 h1 h i 0)
    have e53 : val_main_v52 (F := Ideal) x0 x1 x2 x3 (idx_main_v53 (ix3 h i j)) = _ := (congrArg _ (eq_ix2 _)).trans (means h0 h1 h2 h3 h i)
    rw [e50, e53, EReal.coe_mul, EReal.coe_add, ← div_real _ _ (mass_pos _ _ _).ne']
    rfl
  · rw [if_neg hij, if_neg hij, ez]; rfl

/-- The reference's second result: the gradient of the keys. -/
theorem dk_at (h : Fin 8) (j : Fin 8192) (a : Fin 128) :
    val_main_v57 (F := Ideal) x0 x1 x2 x3 (ix3 h j a) = ((gradK (Q h) (K h) (V h) (D h) j a : ℝ) : EReal) := by
  rw [val_main_v57_apply, gradK, coe_sum]
  refine Finset.sum_congr rfl fun k _ => ?_
  have e1 : val_main_v56 (F := Ideal) x0 x1 x2 x3 (lidx_main_v57 (ix3 h j a) k) = ((dscore (Q h) (K h) (V h) (D h) k j : ℝ) : EReal) :=
    (congrArg _ (eq_ix3 _)).trans (dscores h0 h1 h2 h3 h k j)
  have e2 : val_main_v0 (F := Ideal) x0 (ridx_main_v57 (ix3 h j a) k) = ((Q h k a : ℝ) : EReal) := by
    rw [val_main_v0_apply]
    exact (congrArg x0 (eq_ix3 _)).trans (h0 h k a)
  rw [e1, e2, EReal.coe_mul]

/-- The reference's first result: the gradient of the queries, transposed. -/
theorem dq_at (h : Fin 8) (a : Fin 128) (i : Fin 8192) :
    val_main_v59 (F := Ideal) x0 x1 x2 x3 (ix3 h a i) = ((gradQ (Q h) (K h) (V h) (D h) i a : ℝ) : EReal) := by
  rw [val_main_v59_apply, val_main_v58_apply, gradQ, coe_sum]
  refine Finset.sum_congr rfl fun k _ => ?_
  have e1 : val_main_v56 (F := Ideal) x0 x1 x2 x3 (lidx_main_v58 (idx_main_v59 (ix3 h a i)) k) = ((dscore (Q h) (K h) (V h) (D h) i k : ℝ) : EReal) :=
    (congrArg _ (eq_ix3 _)).trans (dscores h0 h1 h2 h3 h i k)
  have e2 : val_main_v1 (F := Ideal) x1 (ridx_main_v58 (idx_main_v59 (ix3 h a i)) k) = ((K h k a : ℝ) : EReal) := by
    rw [val_main_v1_apply]
    exact (congrArg x1 (eq_ix3 _)).trans (h1 h k a)
  rw [e1, e2, mul_comm, EReal.coe_mul]

end Scores
end Cert.RefValue
-- ==== Proof.Tiles.lean ====
module
public import proofs.«01_k».proof.Proof.Spec
public import proofs.«01_k».proof.Proof.Gen.KernelIdeal.Skeleton
public import Idealize.ShloMosaic.Lib.Pointwise
public import Idealize.ShloMosaic.Lib.WordCmp
@[expose] public section

/-!
One key block against one block of queries, at the ideal reals: what each printed step of the body adds to the
block's rows of the keys' gradient, to its rows of the values' gradient, and to the queries' gradient.

A block of queries is 2048 of the 8192 rows and a key block 256 of them. On the diagonal the step of offset `lo` takes
the block's queries from `lo` on only; the terms it leaves out are zero, a later key having no probability.
-/

noncomputable section
namespace Cert.Tiles
open Cert.KernelIdeal Cert.KernelIdeal.Gen Cert.AttnGrad
open Idealize.ShloMosaic Idealize.ShloMosaic.TcCoe

/-- Row `i` of query block `b`. -/
def row (b : Fin 4) (i : Fin 2048) : Fin 8192 := ⟨2048 * b.val + i.val, by omega⟩

/-- Row `r` of key block `n`. -/
def key (n : Fin 32) (r : Fin 256) : Fin 8192 := ⟨256 * n.val + r.val, by omega⟩

variable (Q K : Fin 8192 → Fin 128 → ℝ) (V D : Fin 8192 → Fin 64 → ℝ)

/-- What the body holds of query block `b`: the queries both ways round, the output's cotangent both ways round, the
    logarithm of each row's sum, and each row's mean of the probabilities' gradient. -/
structure Held (b : Fin 4) (qt : FVec Ideal S128x2048 .bf16) (q : FVec Ideal S2048x128 .bf16) (dO : FVec Ideal S2048x64 .bf16)
    (dOt : FVec Ideal S64x2048 .bf16) (lse dl : FVec Ideal S1x2048 .f32) : Prop where
  qt : ∀ a i, qt (ix2 a i) = ((Q (row b i) a : ℝ) : EReal)
  q : ∀ i a, q (ix2 i a) = ((Q (row b i) a : ℝ) : EReal)
  dO : ∀ i e, dO (ix2 i e) = ((D (row b i) e : ℝ) : EReal)
  dOt : ∀ e i, dOt (ix2 e i) = ((D (row b i) e : ℝ) : EReal)
  lse : ∀ i, lse (ix2 0 i) = ((top Q K (row b i) + Real.log (mass Q K (row b i)) : ℝ) : EReal)
  dl : ∀ i, dl (ix2 0 i) = ((delta Q K V D (row b i) : ℝ) : EReal)

/-- What the body loads of key block `n`. -/
structure Loaded (n : Fin 32) (kb : Vec Ideal S1x256x128 .bf16) (vb : Vec Ideal S1x256x64 .bf16) (kt : Vec Ideal S1x1x128x256 .bf16) : Prop where
  kb : ∀ r a, kb (ix3 0 r a) = ((K (key n r) a : ℝ) : EReal)
  vb : ∀ r e, vb (ix3 0 r e) = ((V (key n r) e : ℝ) : EReal)
  kt : ∀ a r, kt (ix4 0 0 a r) = ((K (key n r) a : ℝ) : EReal)

/-- What key block `n` gains in the keys' gradient from query block `b`. -/
def addK (b : Fin 4) (n : Fin 32) (r : Fin 256) (c : Fin 128) : ℝ := ∑ i, dscore Q K V D (row b i) (key n r) * Q (row b i) c

/-- What key block `n` gains in the values' gradient from query block `b`. -/
def addV (b : Fin 4) (n : Fin 32) (r : Fin 256) (e : Fin 64) : ℝ := ∑ i, prob Q K (row b i) (key n r) * D (row b i) e

/-- What query `i` of block `b` gains from key block `n`. -/
def addQ (b : Fin 4) (n : Fin 32) (a : Fin 128) (i : Fin 2048) : ℝ := ∑ r, K (key n r) a * dscore Q K V D (row b i) (key n r)

/-- The step's word comparison: the key's position against the query's. -/
theorem pos_cmp {qb kb : BitVec 32} {b n : ℕ} (hqb : qb = BitVec.ofNat 32 b) (hkb : kb = BitVec.ofNat 32 n) (hb : b < 4) (hn : n < 32)
    (lo r i : ℕ) (hr : r < 256) (hi : lo + i < 2048) :
    IntOp.cmpi .sle (IntOp.addi (Scalar.muli kb 256#32) (BitVec.ofNat 32 r))
        (IntOp.addi (Scalar.addi (Scalar.muli qb 2048#32) (BitVec.ofNat 32 lo)) (BitVec.ofNat 32 i))
      = if 256 * n + r ≤ 2048 * b + (lo + i) then 1#1 else 0#1 := by
  have e1 : IntOp.addi (Scalar.muli kb 256#32) (BitVec.ofNat 32 r) = BitVec.ofNat 32 (256 * n + r) := by
    subst hkb; apply BitVec.eq_of_toNat_eq; simp [IntOp.addi, Scalar.muli, IntOp.muli, BitVec.toNat_add, BitVec.toNat_mul]; omega
  have e2 : IntOp.addi (Scalar.addi (Scalar.muli qb 2048#32) (BitVec.ofNat 32 lo)) (BitVec.ofNat 32 i) = BitVec.ofNat 32 (2048 * b + (lo + i)) := by
    subst hqb; apply BitVec.eq_of_toNat_eq; simp [IntOp.addi, Scalar.addi, Scalar.muli, IntOp.muli, BitVec.toNat_add, BitVec.toNat_mul]; omega
  rw [e1, e2, WordCmp.cmpi_sle_eq, WordCmp.toInt_ofNat_of_lt (by omega), WordCmp.toInt_ofNat_of_lt (by omega)]
  by_cases h : 256 * n + r ≤ 2048 * b + (lo + i)
  · rw [if_pos h, decide_eq_true (by omega)]; rfl
  · rw [if_neg h, decide_eq_false (by omega)]; rfl

/-- Query `lo + x` of a block, `x` among the `w` queries from `lo` on. -/
def tl (lo : ℕ) {w : ℕ} (hw : lo + w = 2048) (x : Fin w) : Fin 2048 := ⟨lo + x.val, by omega⟩

/-- The exponential a masked step computes: key `r` of the block at word `jb`, query `t` of the block at word `qb`, at place `x` of
    the step's queries. -/
def pAt (qb jb : BitVec 32) (lo : ℕ) (qt : FVec Ideal S128x2048 .bf16) (lse : FVec Ideal S1x2048 .f32)
    (kb : Vec Ideal S1x256x128 .bf16) (r : Fin 256) (x : ℕ) (t : Fin 2048) : EReal :=
  Ideal.exp (Scalar.select (IntOp.cmpi .sle (IntOp.addi (Scalar.muli jb 256#32) (BitVec.ofNat 32 r.val))
        (IntOp.addi (Scalar.addi (Scalar.muli qb 2048#32) (BitVec.ofNat 32 lo)) (BitVec.ofNat 32 x)))
        (∑ a, kb (ix3 0 r a) * qt (ix2 a t))
        (Named.named (F := Ideal) κ "mask" (φ := .f32) 4048155338#32)
      - lse (ix2 0 t))

/-- What a masked step multiplies the exponential by. -/
def gAt (dOt : FVec Ideal S64x2048 .bf16) (dl : FVec Ideal S1x2048 .f32) (vb : Vec Ideal S1x256x64 .bf16) (r : Fin 256) (t : Fin 2048) : EReal :=
  ∑ e, vb (ix3 0 r e) * dOt (ix2 e t) - dl (ix2 0 t)

/-- The probability a step before the diagonal computes. -/
theorem prob_full {b : Fin 4} {n : Fin 32} (hn : n.val < 8 * b.val) (i : Fin 2048) (r : Fin 256) :
    Ideal.exp (∑ a, ((K (key n r) a : ℝ) : EReal) * ((Q (row b i) a : ℝ) : EReal)
      - ((top Q K (row b i) + Real.log (mass Q K (row b i)) : ℝ) : EReal)) = ((prob Q K (row b i) (key n r) : ℝ) : EReal) := by
  rw [coe_sum_mul, ← exp_masked_lse, masked, if_pos (show key n r ≤ row b i from ?_)]
  · rw [score, Finset.sum_congr rfl fun a _ => mul_comm (K (key n r) a) (Q (row b i) a)]
  · show 256 * n.val + r.val ≤ 2048 * b.val + i.val
    omega

/-- The score's gradient a step computes, from the probability. -/
theorem dscore_step (i j : Fin 8192) :
    ((prob Q K i j : ℝ) : EReal) * (∑ e, ((V j e : ℝ) : EReal) * ((D i e : ℝ) : EReal) - ((delta Q K V D i : ℝ) : EReal))
      = ((dscore Q K V D i j : ℝ) : EReal) := by
  rw [coe_sum_mul, ← EReal.coe_sub, ← EReal.coe_mul, dscore, dprob, Finset.sum_congr rfl fun e _ => mul_comm (V j e) (D i e)]

/-- A sum over the block's queries from `lo` on, where the others contribute nothing. -/
theorem sum_tail (lo w : ℕ) (hw : lo + w = 2048) (f : Fin 2048 → ℝ) (h0 : ∀ i : Fin 2048, i.val < lo → f i = 0) :
    ∑ x : Fin w, f ⟨lo + x.val, by omega⟩ = ∑ i, f i := by
  rw [← Finset.sum_image (g := fun x : Fin w => (⟨lo + x.val, by omega⟩ : Fin 2048)) (f := f)
    (fun x _ y _ e => Fin.ext (by have := congrArg Fin.val e; simpa using this))]
  refine Finset.sum_subset (Finset.subset_univ _) fun i _ hi => h0 i (not_le.1 fun hlo => hi ?_)
  exact Finset.mem_image.2 ⟨⟨i.val - lo, by omega⟩, Finset.mem_univ _, Fin.ext (by simp; omega)⟩

variable {Q K V D}

theorem addK_tail {b : Fin 4} {n : Fin 32} (d lo w : ℕ) (hn : n.val = 8 * b.val + d) (hlo : lo = 256 * d) (hw : lo + w = 2048) (r : Fin 256) (c : Fin 128) :
    ∑ x : Fin w, ((dscore Q K V D (row b (tl lo hw x)) (key n r) : ℝ) : EReal) * ((Q (row b (tl lo hw x)) c : ℝ) : EReal)
      = ((addK Q K V D b n r c : ℝ) : EReal) := by
  rw [coe_sum_mul, addK, ← sum_tail lo w hw]
  · rfl
  intro i hi
  rw [dscore_of_lt, zero_mul]
  show 2048 * b.val + i.val < 256 * n.val + r.val
  omega

theorem addV_tail {b : Fin 4} {n : Fin 32} (d lo w : ℕ) (hn : n.val = 8 * b.val + d) (hlo : lo = 256 * d) (hw : lo + w = 2048) (r : Fin 256) (e : Fin 64) :
    ∑ x : Fin w, ((prob Q K (row b (tl lo hw x)) (key n r) : ℝ) : EReal) * ((D (row b (tl lo hw x)) e : ℝ) : EReal)
      = ((addV Q K D b n r e : ℝ) : EReal) := by
  rw [coe_sum_mul, addV, ← sum_tail lo w hw]
  · rfl
  intro i hi
  rw [prob_of_lt, zero_mul]
  show 2048 * b.val + i.val < 256 * n.val + r.val
  omega

theorem addQ_early {b : Fin 4} {n : Fin 32} (d : ℕ) (hn : n.val = 8 * b.val + d) (a : Fin 128) (i : Fin 2048) (hi : i.val < 256 * d) :
    addQ Q K V D b n a i = 0 := by
  refine Finset.sum_eq_zero fun r _ => ?_
  rw [dscore_of_lt, mul_zero]
  show 2048 * b.val + i.val < 256 * n.val + r.val
  omega

variable {b : Fin 4} {n : Fin 32} {qt : FVec Ideal S128x2048 .bf16} {q : FVec Ideal S2048x128 .bf16} {dO : FVec Ideal S2048x64 .bf16}
  {dOt : FVec Ideal S64x2048 .bf16} {lse dl : FVec Ideal S1x2048 .f32}
  {kb : Vec Ideal S1x256x128 .bf16} {vb : Vec Ideal S1x256x64 .bf16} {kt : Vec Ideal S1x1x128x256 .bf16}

/-- The probability a masked step computes. -/
theorem pAt_eq (H : Held Q K V D b qt q dO dOt lse dl) (L : Loaded K V n kb vb kt) {qb jb : BitVec 32} (hqb : qb = BitVec.ofNat 32 b.val)
    (hjb : jb = BitVec.ofNat 32 n.val) {lo : ℕ} (r : Fin 256) {x : ℕ} {t : Fin 2048} (ht : t.val = lo + x) :
    pAt qb jb lo qt lse kb r x t = ((prob Q K (row b t) (key n r) : ℝ) : EReal) := by
  have hx : lo + x < 2048 := ht ▸ t.isLt
  have em : (Named.named (F := Ideal) κ "mask" (φ := .f32) 4048155338#32 : EReal) = ⊥ := rfl
  have e : (∑ a, K (key n r) a * Q (row b t) a) = score Q K (row b t) (key n r) :=
    Finset.sum_congr rfl fun a _ => mul_comm _ _
  unfold pAt
  simp only [H.qt, H.lse, L.kb]
  rw [pos_cmp hqb hjb b.isLt n.isLt lo r.val x r.isLt hx, coe_sum_mul, ← exp_masked_lse, e, em, ← ht]
  unfold masked
  by_cases h : 256 * n.val + r.val ≤ 2048 * b.val + t.val
  · rw [if_pos h, if_pos (show key n r ≤ row b t from h)]; rfl
  · rw [if_neg h, if_neg (show ¬ key n r ≤ row b t from h)]; rfl

theorem pAt_tl (H : Held Q K V D b qt q dO dOt lse dl) (L : Loaded K V n kb vb kt) {qb jb : BitVec 32} (hqb : qb = BitVec.ofNat 32 b.val)
    (hjb : jb = BitVec.ofNat 32 n.val) (lo : ℕ) {w : ℕ} (hw : lo + w = 2048) (r : Fin 256) (x : Fin w) :
    pAt qb jb lo qt lse kb r x.val (tl lo hw x) = ((prob Q K (row b (tl lo hw x)) (key n r) : ℝ) : EReal) :=
  pAt_eq H L hqb hjb r rfl

theorem pAt_zero (H : Held Q K V D b qt q dO dOt lse dl) (L : Loaded K V n kb vb kt) {qb jb : BitVec 32} (hqb : qb = BitVec.ofNat 32 b.val)
    (hjb : jb = BitVec.ofNat 32 n.val) (r : Fin 256) (i : Fin 2048) :
    pAt qb jb 0 qt lse kb r i.val i = ((prob Q K (row b i) (key n r) : ℝ) : EReal) :=
  pAt_eq H L hqb hjb r (Nat.zero_add _).symm

theorem gAt_eq (H : Held Q K V D b qt q dO dOt lse dl) (L : Loaded K V n kb vb kt) (r : Fin 256) (t : Fin 2048) :
    ((prob Q K (row b t) (key n r) : ℝ) : EReal) * gAt dOt dl vb r t = ((dscore Q K V D (row b t) (key n r) : ℝ) : EReal) := by
  unfold gAt
  simp only [H.dOt, H.dl, L.vb]
  exact dscore_step Q K V D _ _

/-! ### Before the diagonal -/

theorem loop_k (H : Held Q K V D b qt q dO dOt lse dl) (L : Loaded K V n kb vb kt) (hn : n.val < 8 * b.val)
    (old : Vec Ideal S1x256x128 .f32) (r : Fin 256) (c : Fin 128) :
    k0_pay4 (F := Ideal) qt q dOt lse dl kb vb old (ix3 0 r c) = old (ix3 0 r c) + ((addK Q K V D b n r c : ℝ) : EReal) := by
  pointwise [k0_pay4, k0_pay3, k0_pay2]
  simp only [H.qt, H.q, H.dOt, H.lse, H.dl, L.kb, L.vb, prob_full Q K hn, dscore_step]
  rw [coe_sum_mul, addK]

theorem loop_v (H : Held Q K V D b qt q dO dOt lse dl) (L : Loaded K V n kb vb kt) (hn : n.val < 8 * b.val)
    (old : Vec Ideal S1x256x64 .f32) (r : Fin 256) (e : Fin 64) :
    k0_pay5 (F := Ideal) qt dO lse kb old (ix3 0 r e) = old (ix3 0 r e) + ((addV Q K D b n r e : ℝ) : EReal) := by
  pointwise [k0_pay5, k0_pay2]
  simp only [H.qt, H.dO, H.lse, L.kb, prob_full Q K hn]
  rw [coe_sum_mul, addV]

theorem loop_q (H : Held Q K V D b qt q dO dOt lse dl) (L : Loaded K V n kb vb kt) (hn : n.val < 8 * b.val)
    (acc : FVec Ideal S128x2048 .f32) (a : Fin 128) (i : Fin 2048) :
    k0_pay19 (F := Ideal) acc (k0_pay3 qt dOt lse dl kb vb) kt (ix2 a i) = acc (ix2 a i) + ((addQ Q K V D b n a i : ℝ) : EReal) := by
  pointwise [k0_pay19, k0_pay3, k0_pay2]
  simp only [H.qt, H.dOt, H.lse, H.dl, L.kb, L.vb, L.kt, prob_full Q K hn, dscore_step]
  rw [coe_sum_mul, addQ]

/-! ### The diagonal -/

theorem diag0_k (H : Held Q K V D b qt q dO dOt lse dl) (L : Loaded K V n kb vb kt) {qb jb : BitVec 32}
    (hqb : qb = BitVec.ofNat 32 b.val) (hjb : jb = BitVec.ofNat 32 n.val) (hn : n.val = 8 * b.val + 0)
    (old : Vec Ideal S1x256x128 .f32) (r : Fin 256) (c : Fin 128) :
    k0_pay24 q (k0_pay22 qb qt dOt lse dl jb kb vb) (k0_pay23 old) (constant S256x128 .f32 0x00000000#32) (ix3 0 r c)
      = old (ix3 0 r c) + ((addK Q K V D b n r c : ℝ) : EReal) := by
  pointwise [k0_pay21, k0_pay22, k0_pay23, k0_pay24, k0_pay25, k0_pay26]
  show old (ix3 0 r c) + ∑ x : Fin 2048, pAt qb jb 0 qt lse kb r x.val x * gAt dOt dl vb r x * q (ix2 x c) = _
  simp only [pAt_zero H L hqb hjb, gAt_eq H L, H.q]
  rw [coe_sum_mul, addK]

theorem diag0_v (H : Held Q K V D b qt q dO dOt lse dl) (L : Loaded K V n kb vb kt) {qb jb : BitVec 32}
    (hqb : qb = BitVec.ofNat 32 b.val) (hjb : jb = BitVec.ofNat 32 n.val) (hn : n.val = 8 * b.val + 0)
    (old : Vec Ideal S1x256x64 .f32) (r : Fin 256) (e : Fin 64) :
    k0_pay25 dO (k0_pay21 qb qt lse jb kb) old (ix3 0 r e)
      = old (ix3 0 r e) + ((addV Q K D b n r e : ℝ) : EReal) := by
  pointwise [k0_pay21, k0_pay22, k0_pay23, k0_pay24, k0_pay25, k0_pay26]
  show old (ix3 0 r e) + ∑ x : Fin 2048, pAt qb jb 0 qt lse kb r x.val x * dO (ix2 x e) = _
  simp only [pAt_zero H L hqb hjb, H.dO]
  rw [coe_sum_mul, addV]

theorem diag0_q (H : Held Q K V D b qt q dO dOt lse dl) (L : Loaded K V n kb vb kt) {qb jb : BitVec 32}
    (hqb : qb = BitVec.ofNat 32 b.val) (hjb : jb = BitVec.ofNat 32 n.val) (hn : n.val = 8 * b.val + 0)
    (acc : FVec Ideal S128x2048 .f32) (a : Fin 128) (i : Fin 2048) :
    k0_pay26 acc (k0_pay22 qb qt dOt lse dl jb kb vb) kt (ix2 a i)
      = acc (ix2 a i) + ((addQ Q K V D b n a i : ℝ) : EReal) := by
  pointwise [k0_pay21, k0_pay22, k0_pay23, k0_pay24, k0_pay25, k0_pay26]
  show acc (ix2 a i) + ∑ r : Fin 256, kt (ix4 0 0 a r) * (pAt qb jb 0 qt lse kb r i.val i * gAt dOt dl vb r i) = _
  simp only [pAt_zero H L hqb hjb, gAt_eq H L, L.kt]
  rw [coe_sum_mul, addQ]

theorem diag1_k (H : Held Q K V D b qt q dO dOt lse dl) (L : Loaded K V n kb vb kt) {qb jb : BitVec 32}
    (hqb : qb = BitVec.ofNat 32 b.val) (hjb : jb = BitVec.ofNat 32 n.val) (hn : n.val = 8 * b.val + 1)
    (old : Vec Ideal S1x256x128 .f32) (r : Fin 256) (c : Fin 128) :
    k0_pay32 q dOt lse dl (k0_pay27 qt kb) (k0_pay28 qb jb) k0_pay29 vb old (ix3 0 r c)
      = old (ix3 0 r c) + ((addK Q K V D b n r c : ℝ) : EReal) := by
  pointwise [k0_pay27, k0_pay28, k0_pay29, k0_pay30, k0_pay31, k0_pay32, k0_pay33, k0_pay34, k0_pay35, k0_pay36]
  show old (ix3 0 r c) + ∑ x : Fin 1792, pAt qb jb 256 qt lse kb r x.val (tl 256 (w := 1792) rfl x) * gAt dOt dl vb r (tl 256 (w := 1792) rfl x) * q (ix2 (tl 256 (w := 1792) rfl x) c) = _
  simp only [pAt_tl H L hqb hjb, gAt_eq H L, H.q]
  rw [addK_tail 1 256 1792 hn rfl rfl]

theorem diag1_v (H : Held Q K V D b qt q dO dOt lse dl) (L : Loaded K V n kb vb kt) {qb jb : BitVec 32}
    (hqb : qb = BitVec.ofNat 32 b.val) (hjb : jb = BitVec.ofNat 32 n.val) (hn : n.val = 8 * b.val + 1)
    (old : Vec Ideal S1x256x64 .f32) (r : Fin 256) (e : Fin 64) :
    k0_pay33 dO lse (k0_pay27 qt kb) (k0_pay28 qb jb) k0_pay29 old (ix3 0 r e)
      = old (ix3 0 r e) + ((addV Q K D b n r e : ℝ) : EReal) := by
  pointwise [k0_pay27, k0_pay28, k0_pay29, k0_pay30, k0_pay31, k0_pay32, k0_pay33, k0_pay34, k0_pay35, k0_pay36]
  show old (ix3 0 r e) + ∑ x : Fin 1792, pAt qb jb 256 qt lse kb r x.val (tl 256 (w := 1792) rfl x) * dO (ix2 (tl 256 (w := 1792) rfl x) e) = _
  simp only [pAt_tl H L hqb hjb, H.dO]
  rw [addV_tail 1 256 1792 hn rfl rfl]

theorem diag1_q (H : Held Q K V D b qt q dO dOt lse dl) (L : Loaded K V n kb vb kt) {qb jb : BitVec 32}
    (hqb : qb = BitVec.ofNat 32 b.val) (hjb : jb = BitVec.ofNat 32 n.val) (hn : n.val = 8 * b.val + 1)
    (acc : FVec Ideal S128x2048 .f32) (a : Fin 128) (i : Fin 2048) :
    k0_pay36 acc (k0_pay34 acc) (k0_pay35 dOt lse dl (k0_pay27 qt kb) (k0_pay28 qb jb) k0_pay29 vb kt) (ix2 a i)
      = acc (ix2 a i) + ((addQ Q K V D b n a i : ℝ) : EReal) := by
  pointwise [k0_pay27, k0_pay28, k0_pay29, k0_pay30, k0_pay31, k0_pay32, k0_pay33, k0_pay34, k0_pay35, k0_pay36]
  by_cases h : i.val < 256
  · refine (dif_pos h).trans ?_
    rw [addQ_early 1 hn a i h, EReal.coe_zero, add_zero]
  · refine (dif_neg h).trans ?_
    obtain ⟨x, rfl⟩ : ∃ x : Fin 1792, i = tl 256 rfl x := ⟨⟨i.val - 256, by omega⟩, Fin.ext (by show i.val = 256 + (i.val - 256); omega)⟩
    have ex : ∀ hx, (⟨(tl 256 (w := 1792) rfl x).val - 256, hx⟩ : Fin 1792) = x := fun hx => Fin.ext (by show 256 + x.val - 256 = x.val; omega)
    have hx : (tl 256 (w := 1792) rfl x).val - 256 < 1792 := by rw [show (tl 256 (w := 1792) rfl x).val - 256 = x.val from by show 256 + x.val - 256 = x.val; omega]; exact x.isLt
    suffices e : ∀ y : Fin 1792, y = x → acc (ix2 a (tl 256 (w := 1792) rfl y)) + ∑ r : Fin 256, kt (ix4 0 0 a r) * (pAt qb jb 256 qt lse kb r y.val (tl 256 (w := 1792) rfl y) * gAt dOt dl vb r (tl 256 (w := 1792) rfl y))
        = acc (ix2 a (tl 256 (w := 1792) rfl x)) + ((addQ Q K V D b n a (tl 256 (w := 1792) rfl x) : ℝ) : EReal) from e ⟨_, hx⟩ (ex hx)
    rintro y rfl
    simp only [pAt_tl H L hqb hjb, gAt_eq H L, L.kt]
    rw [coe_sum_mul, addQ]

theorem diag2_k (H : Held Q K V D b qt q dO dOt lse dl) (L : Loaded K V n kb vb kt) {qb jb : BitVec 32}
    (hqb : qb = BitVec.ofNat 32 b.val) (hjb : jb = BitVec.ofNat 32 n.val) (hn : n.val = 8 * b.val + 2)
    (old : Vec Ideal S1x256x128 .f32) (r : Fin 256) (c : Fin 128) :
    k0_pay40 (k0_pay39 qb qt q dOt lse dl jb kb vb old) (ix3 0 r c)
      = old (ix3 0 r c) + ((addK Q K V D b n r c : ℝ) : EReal) := by
  pointwise [k0_pay37, k0_pay38, k0_pay39, k0_pay40, k0_pay41, k0_pay42]
  show old (ix3 0 r c) + ∑ x : Fin 1536, pAt qb jb 512 qt lse kb r x.val (tl 512 (w := 1536) rfl x) * gAt dOt dl vb r (tl 512 (w := 1536) rfl x) * q (ix2 (tl 512 (w := 1536) rfl x) c) = _
  simp only [pAt_tl H L hqb hjb, gAt_eq H L, H.q]
  rw [addK_tail 2 512 1536 hn rfl rfl]

theorem diag2_v (H : Held Q K V D b qt q dO dOt lse dl) (L : Loaded K V n kb vb kt) {qb jb : BitVec 32}
    (hqb : qb = BitVec.ofNat 32 b.val) (hjb : jb = BitVec.ofNat 32 n.val) (hn : n.val = 8 * b.val + 2)
    (old : Vec Ideal S1x256x64 .f32) (r : Fin 256) (e : Fin 64) :
    k0_pay41 dO (k0_pay37 qb qt lse jb kb) old (ix3 0 r e)
      = old (ix3 0 r e) + ((addV Q K D b n r e : ℝ) : EReal) := by
  pointwise [k0_pay37, k0_pay38, k0_pay39, k0_pay40, k0_pay41, k0_pay42]
  show old (ix3 0 r e) + ∑ x : Fin 1536, pAt qb jb 512 qt lse kb r x.val (tl 512 (w := 1536) rfl x) * dO (ix2 (tl 512 (w := 1536) rfl x) e) = _
  simp only [pAt_tl H L hqb hjb, H.dO]
  rw [addV_tail 2 512 1536 hn rfl rfl]

theorem diag2_q (H : Held Q K V D b qt q dO dOt lse dl) (L : Loaded K V n kb vb kt) {qb jb : BitVec 32}
    (hqb : qb = BitVec.ofNat 32 b.val) (hjb : jb = BitVec.ofNat 32 n.val) (hn : n.val = 8 * b.val + 2)
    (acc : FVec Ideal S128x2048 .f32) (a : Fin 128) (i : Fin 2048) :
    k0_pay42 acc (k0_pay38 qb qt dOt lse dl jb kb vb) kt (ix2 a i)
      = acc (ix2 a i) + ((addQ Q K V D b n a i : ℝ) : EReal) := by
  pointwise [k0_pay37, k0_pay38, k0_pay39, k0_pay40, k0_pay41, k0_pay42]
  by_cases h : i.val < 512
  · refine (dif_pos h).trans ?_
    rw [addQ_early 2 hn a i h, EReal.coe_zero, add_zero]
  · refine (dif_neg h).trans ?_
    obtain ⟨x, rfl⟩ : ∃ x : Fin 1536, i = tl 512 rfl x := ⟨⟨i.val - 512, by omega⟩, Fin.ext (by show i.val = 512 + (i.val - 512); omega)⟩
    have ex : ∀ hx, (⟨(tl 512 (w := 1536) rfl x).val - 512, hx⟩ : Fin 1536) = x := fun hx => Fin.ext (by show 512 + x.val - 512 = x.val; omega)
    have hx : (tl 512 (w := 1536) rfl x).val - 512 < 1536 := by rw [show (tl 512 (w := 1536) rfl x).val - 512 = x.val from by show 512 + x.val - 512 = x.val; omega]; exact x.isLt
    suffices e : ∀ y : Fin 1536, y = x → acc (ix2 a (tl 512 (w := 1536) rfl y)) + ∑ r : Fin 256, kt (ix4 0 0 a r) * (pAt qb jb 512 qt lse kb r y.val (tl 512 (w := 1536) rfl y) * gAt dOt dl vb r (tl 512 (w := 1536) rfl y))
        = acc (ix2 a (tl 512 (w := 1536) rfl x)) + ((addQ Q K V D b n a (tl 512 (w := 1536) rfl x) : ℝ) : EReal) from e ⟨_, hx⟩ (ex hx)
    rintro y rfl
    simp only [pAt_tl H L hqb hjb, gAt_eq H L, L.kt]
    rw [coe_sum_mul, addQ]

theorem diag3_k (H : Held Q K V D b qt q dO dOt lse dl) (L : Loaded K V n kb vb kt) {qb jb : BitVec 32}
    (hqb : qb = BitVec.ofNat 32 b.val) (hjb : jb = BitVec.ofNat 32 n.val) (hn : n.val = 8 * b.val + 3)
    (old : Vec Ideal S1x256x128 .f32) (r : Fin 256) (c : Fin 128) :
    k0_pay47 q dOt dl (k0_pay43 qb qt jb kb) (k0_pay44 lse) vb old (ix3 0 r c)
      = old (ix3 0 r c) + ((addK Q K V D b n r c : ℝ) : EReal) := by
  pointwise [k0_pay43, k0_pay44, k0_pay45, k0_pay46, k0_pay47, k0_pay48, k0_pay49, k0_pay50, k0_pay51]
  show old (ix3 0 r c) + ∑ x : Fin 1280, pAt qb jb 768 qt lse kb r x.val (tl 768 (w := 1280) rfl x) * gAt dOt dl vb r (tl 768 (w := 1280) rfl x) * q (ix2 (tl 768 (w := 1280) rfl x) c) = _
  simp only [pAt_tl H L hqb hjb, gAt_eq H L, H.q]
  rw [addK_tail 3 768 1280 hn rfl rfl]

theorem diag3_v (H : Held Q K V D b qt q dO dOt lse dl) (L : Loaded K V n kb vb kt) {qb jb : BitVec 32}
    (hqb : qb = BitVec.ofNat 32 b.val) (hjb : jb = BitVec.ofNat 32 n.val) (hn : n.val = 8 * b.val + 3)
    (old : Vec Ideal S1x256x64 .f32) (r : Fin 256) (e : Fin 64) :
    k0_pay48 dO (k0_pay43 qb qt jb kb) (k0_pay44 lse) old (ix3 0 r e)
      = old (ix3 0 r e) + ((addV Q K D b n r e : ℝ) : EReal) := by
  pointwise [k0_pay43, k0_pay44, k0_pay45, k0_pay46, k0_pay47, k0_pay48, k0_pay49, k0_pay50, k0_pay51]
  show old (ix3 0 r e) + ∑ x : Fin 1280, pAt qb jb 768 qt lse kb r x.val (tl 768 (w := 1280) rfl x) * dO (ix2 (tl 768 (w := 1280) rfl x) e) = _
  simp only [pAt_tl H L hqb hjb, H.dO]
  rw [addV_tail 3 768 1280 hn rfl rfl]

theorem diag3_q (H : Held Q K V D b qt q dO dOt lse dl) (L : Loaded K V n kb vb kt) {qb jb : BitVec 32}
    (hqb : qb = BitVec.ofNat 32 b.val) (hjb : jb = BitVec.ofNat 32 n.val) (hn : n.val = 8 * b.val + 3)
    (acc : FVec Ideal S128x2048 .f32) (a : Fin 128) (i : Fin 2048) :
    k0_pay51 (k0_pay49 dOt dl acc (k0_pay43 qb qt jb kb) (k0_pay44 lse) vb kt) (k0_pay50 acc) (ix2 a i)
      = acc (ix2 a i) + ((addQ Q K V D b n a i : ℝ) : EReal) := by
  pointwise [k0_pay43, k0_pay44, k0_pay45, k0_pay46, k0_pay47, k0_pay48, k0_pay49, k0_pay50, k0_pay51]
  by_cases h : i.val < 768
  · refine (dif_pos h).trans ?_
    rw [addQ_early 3 hn a i h, EReal.coe_zero, add_zero]
  · refine (dif_neg h).trans ?_
    obtain ⟨x, rfl⟩ : ∃ x : Fin 1280, i = tl 768 rfl x := ⟨⟨i.val - 768, by omega⟩, Fin.ext (by show i.val = 768 + (i.val - 768); omega)⟩
    have ex : ∀ hx, (⟨(tl 768 (w := 1280) rfl x).val - 768, hx⟩ : Fin 1280) = x := fun hx => Fin.ext (by show 768 + x.val - 768 = x.val; omega)
    have hx : (tl 768 (w := 1280) rfl x).val - 768 < 1280 := by rw [show (tl 768 (w := 1280) rfl x).val - 768 = x.val from by show 768 + x.val - 768 = x.val; omega]; exact x.isLt
    suffices e : ∀ y : Fin 1280, y = x → acc (ix2 a (tl 768 (w := 1280) rfl y)) + ∑ r : Fin 256, kt (ix4 0 0 a r) * (pAt qb jb 768 qt lse kb r y.val (tl 768 (w := 1280) rfl y) * gAt dOt dl vb r (tl 768 (w := 1280) rfl y))
        = acc (ix2 a (tl 768 (w := 1280) rfl x)) + ((addQ Q K V D b n a (tl 768 (w := 1280) rfl x) : ℝ) : EReal) from e ⟨_, hx⟩ (ex hx)
    rintro y rfl
    simp only [pAt_tl H L hqb hjb, gAt_eq H L, L.kt]
    rw [coe_sum_mul, addQ]

theorem diag4_k (H : Held Q K V D b qt q dO dOt lse dl) (L : Loaded K V n kb vb kt) {qb jb : BitVec 32}
    (hqb : qb = BitVec.ofNat 32 b.val) (hjb : jb = BitVec.ofNat 32 n.val) (hn : n.val = 8 * b.val + 4)
    (old : Vec Ideal S1x256x128 .f32) (r : Fin 256) (c : Fin 128) :
    k0_pay54 qb qt q dOt lse dl jb kb vb old (ix3 0 r c)
      = old (ix3 0 r c) + ((addK Q K V D b n r c : ℝ) : EReal) := by
  pointwise [k0_pay52, k0_pay53, k0_pay54, k0_pay55, k0_pay56]
  show old (ix3 0 r c) + ∑ x : Fin 1024, pAt qb jb 1024 qt lse kb r x.val (tl 1024 (w := 1024) rfl x) * gAt dOt dl vb r (tl 1024 (w := 1024) rfl x) * q (ix2 (tl 1024 (w := 1024) rfl x) c) = _
  simp only [pAt_tl H L hqb hjb, gAt_eq H L, H.q]
  rw [addK_tail 4 1024 1024 hn rfl rfl]

theorem diag4_v (H : Held Q K V D b qt q dO dOt lse dl) (L : Loaded K V n kb vb kt) {qb jb : BitVec 32}
    (hqb : qb = BitVec.ofNat 32 b.val) (hjb : jb = BitVec.ofNat 32 n.val) (hn : n.val = 8 * b.val + 4)
    (old : Vec Ideal S1x256x64 .f32) (r : Fin 256) (e : Fin 64) :
    k0_pay55 dO (k0_pay52 qb qt lse jb kb) old (ix3 0 r e)
      = old (ix3 0 r e) + ((addV Q K D b n r e : ℝ) : EReal) := by
  pointwise [k0_pay52, k0_pay53, k0_pay54, k0_pay55, k0_pay56]
  show old (ix3 0 r e) + ∑ x : Fin 1024, pAt qb jb 1024 qt lse kb r x.val (tl 1024 (w := 1024) rfl x) * dO (ix2 (tl 1024 (w := 1024) rfl x) e) = _
  simp only [pAt_tl H L hqb hjb, H.dO]
  rw [addV_tail 4 1024 1024 hn rfl rfl]

theorem diag4_q (H : Held Q K V D b qt q dO dOt lse dl) (L : Loaded K V n kb vb kt) {qb jb : BitVec 32}
    (hqb : qb = BitVec.ofNat 32 b.val) (hjb : jb = BitVec.ofNat 32 n.val) (hn : n.val = 8 * b.val + 4)
    (acc : FVec Ideal S128x2048 .f32) (a : Fin 128) (i : Fin 2048) :
    k0_pay56 acc (k0_pay53 qb qt dOt lse dl jb kb vb) kt (ix2 a i)
      = acc (ix2 a i) + ((addQ Q K V D b n a i : ℝ) : EReal) := by
  pointwise [k0_pay52, k0_pay53, k0_pay54, k0_pay55, k0_pay56]
  by_cases h : i.val < 1024
  · refine (dif_pos h).trans ?_
    rw [addQ_early 4 hn a i h, EReal.coe_zero, add_zero]
  · refine (dif_neg h).trans ?_
    obtain ⟨x, rfl⟩ : ∃ x : Fin 1024, i = tl 1024 rfl x := ⟨⟨i.val - 1024, by omega⟩, Fin.ext (by show i.val = 1024 + (i.val - 1024); omega)⟩
    have ex : ∀ hx, (⟨(tl 1024 (w := 1024) rfl x).val - 1024, hx⟩ : Fin 1024) = x := fun hx => Fin.ext (by show 1024 + x.val - 1024 = x.val; omega)
    have hx : (tl 1024 (w := 1024) rfl x).val - 1024 < 1024 := by rw [show (tl 1024 (w := 1024) rfl x).val - 1024 = x.val from by show 1024 + x.val - 1024 = x.val; omega]; exact x.isLt
    suffices e : ∀ y : Fin 1024, y = x → acc (ix2 a (tl 1024 (w := 1024) rfl y)) + ∑ r : Fin 256, kt (ix4 0 0 a r) * (pAt qb jb 1024 qt lse kb r y.val (tl 1024 (w := 1024) rfl y) * gAt dOt dl vb r (tl 1024 (w := 1024) rfl y))
        = acc (ix2 a (tl 1024 (w := 1024) rfl x)) + ((addQ Q K V D b n a (tl 1024 (w := 1024) rfl x) : ℝ) : EReal) from e ⟨_, hx⟩ (ex hx)
    rintro y rfl
    simp only [pAt_tl H L hqb hjb, gAt_eq H L, L.kt]
    rw [coe_sum_mul, addQ]

theorem diag5_k (H : Held Q K V D b qt q dO dOt lse dl) (L : Loaded K V n kb vb kt) {qb jb : BitVec 32}
    (hqb : qb = BitVec.ofNat 32 b.val) (hjb : jb = BitVec.ofNat 32 n.val) (hn : n.val = 8 * b.val + 5)
    (old : Vec Ideal S1x256x128 .f32) (r : Fin 256) (c : Fin 128) :
    k0_pay60 q dOt dl (k0_pay57 qb qt lse jb kb) vb old (ix3 0 r c)
      = old (ix3 0 r c) + ((addK Q K V D b n r c : ℝ) : EReal) := by
  pointwise [k0_pay57, k0_pay58, k0_pay59, k0_pay60, k0_pay61, k0_pay62]
  show old (ix3 0 r c) + ∑ x : Fin 768, pAt qb jb 1280 qt lse kb r x.val (tl 1280 (w := 768) rfl x) * gAt dOt dl vb r (tl 1280 (w := 768) rfl x) * q (ix2 (tl 1280 (w := 768) rfl x) c) = _
  simp only [pAt_tl H L hqb hjb, gAt_eq H L, H.q]
  rw [addK_tail 5 1280 768 hn rfl rfl]

theorem diag5_v (H : Held Q K V D b qt q dO dOt lse dl) (L : Loaded K V n kb vb kt) {qb jb : BitVec 32}
    (hqb : qb = BitVec.ofNat 32 b.val) (hjb : jb = BitVec.ofNat 32 n.val) (hn : n.val = 8 * b.val + 5)
    (old : Vec Ideal S1x256x64 .f32) (r : Fin 256) (e : Fin 64) :
    k0_pay61 dO (k0_pay57 qb qt lse jb kb) old (ix3 0 r e)
      = old (ix3 0 r e) + ((addV Q K D b n r e : ℝ) : EReal) := by
  pointwise [k0_pay57, k0_pay58, k0_pay59, k0_pay60, k0_pay61, k0_pay62]
  show old (ix3 0 r e) + ∑ x : Fin 768, pAt qb jb 1280 qt lse kb r x.val (tl 1280 (w := 768) rfl x) * dO (ix2 (tl 1280 (w := 768) rfl x) e) = _
  simp only [pAt_tl H L hqb hjb, H.dO]
  rw [addV_tail 5 1280 768 hn rfl rfl]

theorem diag5_q (H : Held Q K V D b qt q dO dOt lse dl) (L : Loaded K V n kb vb kt) {qb jb : BitVec 32}
    (hqb : qb = BitVec.ofNat 32 b.val) (hjb : jb = BitVec.ofNat 32 n.val) (hn : n.val = 8 * b.val + 5)
    (acc : FVec Ideal S128x2048 .f32) (a : Fin 128) (i : Fin 2048) :
    k0_pay62 dOt dl acc (k0_pay57 qb qt lse jb kb) vb kt (ix2 a i)
      = acc (ix2 a i) + ((addQ Q K V D b n a i : ℝ) : EReal) := by
  pointwise [k0_pay57, k0_pay58, k0_pay59, k0_pay60, k0_pay61, k0_pay62]
  by_cases h : i.val < 1280
  · refine (dif_pos h).trans ?_
    rw [addQ_early 5 hn a i h, EReal.coe_zero, add_zero]
  · refine (dif_neg h).trans ?_
    obtain ⟨x, rfl⟩ : ∃ x : Fin 768, i = tl 1280 rfl x := ⟨⟨i.val - 1280, by omega⟩, Fin.ext (by show i.val = 1280 + (i.val - 1280); omega)⟩
    have ex : ∀ hx, (⟨(tl 1280 (w := 768) rfl x).val - 1280, hx⟩ : Fin 768) = x := fun hx => Fin.ext (by show 1280 + x.val - 1280 = x.val; omega)
    have hx : (tl 1280 (w := 768) rfl x).val - 1280 < 768 := by rw [show (tl 1280 (w := 768) rfl x).val - 1280 = x.val from by show 1280 + x.val - 1280 = x.val; omega]; exact x.isLt
    suffices e : ∀ y : Fin 768, y = x → acc (ix2 a (tl 1280 (w := 768) rfl y)) + ∑ r : Fin 256, kt (ix4 0 0 a r) * (pAt qb jb 1280 qt lse kb r y.val (tl 1280 (w := 768) rfl y) * gAt dOt dl vb r (tl 1280 (w := 768) rfl y))
        = acc (ix2 a (tl 1280 (w := 768) rfl x)) + ((addQ Q K V D b n a (tl 1280 (w := 768) rfl x) : ℝ) : EReal) from e ⟨_, hx⟩ (ex hx)
    rintro y rfl
    simp only [pAt_tl H L hqb hjb, gAt_eq H L, L.kt]
    rw [coe_sum_mul, addQ]

theorem diag6_k (H : Held Q K V D b qt q dO dOt lse dl) (L : Loaded K V n kb vb kt) {qb jb : BitVec 32}
    (hqb : qb = BitVec.ofNat 32 b.val) (hjb : jb = BitVec.ofNat 32 n.val) (hn : n.val = 8 * b.val + 6)
    (old : Vec Ideal S1x256x128 .f32) (r : Fin 256) (c : Fin 128) :
    k0_pay65 qb qt q dOt lse dl jb kb vb old (ix3 0 r c)
      = old (ix3 0 r c) + ((addK Q K V D b n r c : ℝ) : EReal) := by
  pointwise [k0_pay63, k0_pay64, k0_pay65, k0_pay66, k0_pay67]
  show old (ix3 0 r c) + ∑ x : Fin 512, pAt qb jb 1536 qt lse kb r x.val (tl 1536 (w := 512) rfl x) * gAt dOt dl vb r (tl 1536 (w := 512) rfl x) * q (ix2 (tl 1536 (w := 512) rfl x) c) = _
  simp only [pAt_tl H L hqb hjb, gAt_eq H L, H.q]
  rw [addK_tail 6 1536 512 hn rfl rfl]

theorem diag6_v (H : Held Q K V D b qt q dO dOt lse dl) (L : Loaded K V n kb vb kt) {qb jb : BitVec 32}
    (hqb : qb = BitVec.ofNat 32 b.val) (hjb : jb = BitVec.ofNat 32 n.val) (hn : n.val = 8 * b.val + 6)
    (old : Vec Ideal S1x256x64 .f32) (r : Fin 256) (e : Fin 64) :
    k0_pay66 dO (k0_pay63 qb qt lse jb kb) old (ix3 0 r e)
      = old (ix3 0 r e) + ((addV Q K D b n r e : ℝ) : EReal) := by
  pointwise [k0_pay63, k0_pay64, k0_pay65, k0_pay66, k0_pay67]
  show old (ix3 0 r e) + ∑ x : Fin 512, pAt qb jb 1536 qt lse kb r x.val (tl 1536 (w := 512) rfl x) * dO (ix2 (tl 1536 (w := 512) rfl x) e) = _
  simp only [pAt_tl H L hqb hjb, H.dO]
  rw [addV_tail 6 1536 512 hn rfl rfl]

theorem diag6_q (H : Held Q K V D b qt q dO dOt lse dl) (L : Loaded K V n kb vb kt) {qb jb : BitVec 32}
    (hqb : qb = BitVec.ofNat 32 b.val) (hjb : jb = BitVec.ofNat 32 n.val) (hn : n.val = 8 * b.val + 6)
    (acc : FVec Ideal S128x2048 .f32) (a : Fin 128) (i : Fin 2048) :
    k0_pay67 acc (k0_pay64 qb qt dOt lse dl jb kb vb) kt (ix2 a i)
      = acc (ix2 a i) + ((addQ Q K V D b n a i : ℝ) : EReal) := by
  pointwise [k0_pay63, k0_pay64, k0_pay65, k0_pay66, k0_pay67]
  by_cases h : i.val < 1536
  · refine (dif_pos h).trans ?_
    rw [addQ_early 6 hn a i h, EReal.coe_zero, add_zero]
  · refine (dif_neg h).trans ?_
    obtain ⟨x, rfl⟩ : ∃ x : Fin 512, i = tl 1536 rfl x := ⟨⟨i.val - 1536, by omega⟩, Fin.ext (by show i.val = 1536 + (i.val - 1536); omega)⟩
    have ex : ∀ hx, (⟨(tl 1536 (w := 512) rfl x).val - 1536, hx⟩ : Fin 512) = x := fun hx => Fin.ext (by show 1536 + x.val - 1536 = x.val; omega)
    have hx : (tl 1536 (w := 512) rfl x).val - 1536 < 512 := by rw [show (tl 1536 (w := 512) rfl x).val - 1536 = x.val from by show 1536 + x.val - 1536 = x.val; omega]; exact x.isLt
    suffices e : ∀ y : Fin 512, y = x → acc (ix2 a (tl 1536 (w := 512) rfl y)) + ∑ r : Fin 256, kt (ix4 0 0 a r) * (pAt qb jb 1536 qt lse kb r y.val (tl 1536 (w := 512) rfl y) * gAt dOt dl vb r (tl 1536 (w := 512) rfl y))
        = acc (ix2 a (tl 1536 (w := 512) rfl x)) + ((addQ Q K V D b n a (tl 1536 (w := 512) rfl x) : ℝ) : EReal) from e ⟨_, hx⟩ (ex hx)
    rintro y rfl
    simp only [pAt_tl H L hqb hjb, gAt_eq H L, L.kt]
    rw [coe_sum_mul, addQ]

theorem diag7_k (H : Held Q K V D b qt q dO dOt lse dl) (L : Loaded K V n kb vb kt) {qb jb : BitVec 32}
    (hqb : qb = BitVec.ofNat 32 b.val) (hjb : jb = BitVec.ofNat 32 n.val) (hn : n.val = 8 * b.val + 7)
    (old : Vec Ideal S1x256x128 .f32) (r : Fin 256) (c : Fin 128) :
    k0_pay70 q dOt dl (k0_pay68 qb qt lse jb kb) vb old (ix3 0 r c)
      = old (ix3 0 r c) + ((addK Q K V D b n r c : ℝ) : EReal) := by
  pointwise [k0_pay68, k0_pay69, k0_pay70, k0_pay71, k0_pay72]
  show old (ix3 0 r c) + ∑ x : Fin 256, pAt qb jb 1792 qt lse kb r x.val (tl 1792 (w := 256) rfl x) * gAt dOt dl vb r (tl 1792 (w := 256) rfl x) * q (ix2 (tl 1792 (w := 256) rfl x) c) = _
  simp only [pAt_tl H L hqb hjb, gAt_eq H L, H.q]
  rw [addK_tail 7 1792 256 hn rfl rfl]

theorem diag7_v (H : Held Q K V D b qt q dO dOt lse dl) (L : Loaded K V n kb vb kt) {qb jb : BitVec 32}
    (hqb : qb = BitVec.ofNat 32 b.val) (hjb : jb = BitVec.ofNat 32 n.val) (hn : n.val = 8 * b.val + 7)
    (old : Vec Ideal S1x256x64 .f32) (r : Fin 256) (e : Fin 64) :
    k0_pay71 dO (k0_pay68 qb qt lse jb kb) old (ix3 0 r e)
      = old (ix3 0 r e) + ((addV Q K D b n r e : ℝ) : EReal) := by
  pointwise [k0_pay68, k0_pay69, k0_pay70, k0_pay71, k0_pay72]
  show old (ix3 0 r e) + ∑ x : Fin 256, pAt qb jb 1792 qt lse kb r x.val (tl 1792 (w := 256) rfl x) * dO (ix2 (tl 1792 (w := 256) rfl x) e) = _
  simp only [pAt_tl H L hqb hjb, H.dO]
  rw [addV_tail 7 1792 256 hn rfl rfl]

theorem diag7_q (H : Held Q K V D b qt q dO dOt lse dl) (L : Loaded K V n kb vb kt) {qb jb : BitVec 32}
    (hqb : qb = BitVec.ofNat 32 b.val) (hjb : jb = BitVec.ofNat 32 n.val) (hn : n.val = 8 * b.val + 7)
    (acc : FVec Ideal S128x2048 .f32) (a : Fin 128) (i : Fin 2048) :
    k0_pay72 dOt dl acc (k0_pay68 qb qt lse jb kb) vb kt (ix2 a i)
      = acc (ix2 a i) + ((addQ Q K V D b n a i : ℝ) : EReal) := by
  pointwise [k0_pay68, k0_pay69, k0_pay70, k0_pay71, k0_pay72]
  by_cases h : i.val < 1792
  · refine (dif_pos h).trans ?_
    rw [addQ_early 7 hn a i h, EReal.coe_zero, add_zero]
  · refine (dif_neg h).trans ?_
    obtain ⟨x, rfl⟩ : ∃ x : Fin 256, i = tl 1792 rfl x := ⟨⟨i.val - 1792, by omega⟩, Fin.ext (by show i.val = 1792 + (i.val - 1792); omega)⟩
    have ex : ∀ hx, (⟨(tl 1792 (w := 256) rfl x).val - 1792, hx⟩ : Fin 256) = x := fun hx => Fin.ext (by show 1792 + x.val - 1792 = x.val; omega)
    have hx : (tl 1792 (w := 256) rfl x).val - 1792 < 256 := by rw [show (tl 1792 (w := 256) rfl x).val - 1792 = x.val from by show 1792 + x.val - 1792 = x.val; omega]; exact x.isLt
    suffices e : ∀ y : Fin 256, y = x → acc (ix2 a (tl 1792 (w := 256) rfl y)) + ∑ r : Fin 256, kt (ix4 0 0 a r) * (pAt qb jb 1792 qt lse kb r y.val (tl 1792 (w := 256) rfl y) * gAt dOt dl vb r (tl 1792 (w := 256) rfl y))
        = acc (ix2 a (tl 1792 (w := 256) rfl x)) + ((addQ Q K V D b n a (tl 1792 (w := 256) rfl x) : ℝ) : EReal) from e ⟨_, hx⟩ (ex hx)
    rintro y rfl
    simp only [pAt_tl H L hqb hjb, gAt_eq H L, L.kt]
    rw [coe_sum_mul, addQ]

end Cert.Tiles
-- ==== Proof.Chain.lean ====
module
public import proofs.«01_k».proof.Proof.Gen.KernelIdeal.Frame
@[expose] public section

/-!
The body at one grid point, step by step: the two loops over the key blocks before the diagonal, then the eight steps of
the diagonal. A step's state is the queries' gradient so far and the pieces stored so far in the two outputs that
collect over the query blocks. The point's run ends in the state after the eighth step.
-/

set_option maxRecDepth 16384
noncomputable section
namespace Cert.Chain
open Cert.KernelIdeal Cert.KernelIdeal.Gen
open Idealize.ShloMosaic Idealize.ShloMosaic.TcCoe

/-- A grid point's buffers and blocks. The two collecting outputs hold `B12` and `B13` at the start; the stores listed
    before the loops' follow a list by `J12` and `J13`. -/
structure Env where
  c : Dev nD
  i : grid0.Coords
  arg2 : Memref sig .tc .vmem S1x128x2048 .bf16
  harg2 : arg2.IsWhole
  arg3 : Memref sig .tc .vmem S1x2048x128 .bf16
  harg3 : arg3.IsWhole
  arg4 : Memref sig .tc .vmem S1x8192x128 .bf16
  harg4 : arg4.IsWhole
  arg5 : Memref sig .tc .vmem S1x32x128x256 .bf16
  harg5 : arg5.IsWhole
  arg6 : Memref sig .tc .vmem S1x8192x64 .bf16
  harg6 : arg6.IsWhole
  arg7 : Memref sig .tc .vmem S1x64x2048 .f32
  harg7 : arg7.IsWhole
  arg8 : Memref sig .tc .vmem S1x1x2048 .f32
  harg8 : arg8.IsWhole
  arg9 : Memref sig .tc .vmem S1x2048x64 .bf16
  harg9 : arg9.IsWhole
  arg10 : Memref sig .tc .vmem S1x64x2048 .bf16
  harg10 : arg10.IsWhole
  arg11 : Memref sig .tc .vmem S1x128x2048 .f32
  harg11 : arg11.IsWhole
  arg12 : Memref sig .tc .vmem S1x8192x128 .f32
  harg12 : arg12.IsWhole
  arg13 : Memref sig .tc .vmem S1x8192x64 .f32
  harg13 : arg13.IsWhole
  x0 : Vec Ideal S1x128x2048 .bf16
  x1 : Vec Ideal S1x2048x128 .bf16
  x2 : Vec Ideal S1x8192x128 .bf16
  x3 : Vec Ideal S1x32x128x256 .bf16
  x4 : Vec Ideal S1x8192x64 .bf16
  x5 : Vec Ideal S1x64x2048 .f32
  x6 : Vec Ideal S1x1x2048 .f32
  x7 : Vec Ideal S1x2048x64 .bf16
  x8 : Vec Ideal S1x64x2048 .bf16
  B12 : BufTy.Contents (Elt Ideal) arg12.view.ty
  B13 : BufTy.Contents (Elt Ideal) arg13.view.ty
  J12 : List (View.Piece (Elt Ideal) S1x8192x128 .f32) → List (View.Piece (Elt Ideal) S1x8192x128 .f32)
  J13 : List (View.Piece (Elt Ideal) S1x8192x64 .f32) → List (View.Piece (Elt Ideal) S1x8192x64 .f32)

/-- The pieces stored so far in the keys' and in the values' gradient, last first. -/
abbrev Stores := List (View.Piece (Elt Ideal) S1x8192x128 .f32) × List (View.Piece (Elt Ideal) S1x8192x64 .f32)

/-- The queries' gradient so far, and the stores. -/
abbrev State := FVec Ideal S128x2048 .f32 × Stores

namespace Env
variable (E : Env)

def qb : BitVec 32 := BitVec.ofNat 32 (E.i 1).val
def qt : FVec Ideal S128x2048 .bf16 := k0_pay12 (View.readAt (Elt Ideal) E.arg2.view (Rect.unit ![0, 0, 0] S1x128x2048.size inb_S1x128x2048_S1x128x2048_0_0_0).toLoadRect (E.harg2.unread E.x0))
def q : FVec Ideal S2048x128 .bf16 := k0_pay13 (View.readAt (Elt Ideal) E.arg3.view (Rect.unit ![0, 0, 0] S1x2048x128.size inb_S1x2048x128_S1x2048x128_0_0_0).toLoadRect (E.harg3.unread E.x1))
def dO : FVec Ideal S2048x64 .bf16 := k0_pay14 (View.readAt (Elt Ideal) E.arg9.view (Rect.unit ![0, 0, 0] S1x2048x64.size inb_S1x2048x64_S1x2048x64_0_0_0).toLoadRect (E.harg9.unread E.x7))
def dOt : FVec Ideal S64x2048 .bf16 := k0_pay15 (View.readAt (Elt Ideal) E.arg10.view (Rect.unit ![0, 0, 0] S1x64x2048.size inb_S1x64x2048_S1x64x2048_0_0_0).toLoadRect (E.harg10.unread E.x8))
def lse : FVec Ideal S1x2048 .f32 := k0_pay16 (View.readAt (Elt Ideal) E.arg8.view (Rect.unit ![0, 0, 0] S1x1x2048.size inb_S1x1x2048_S1x1x2048_0_0_0).toLoadRect (E.harg8.unread E.x6))
def dl : FVec Ideal S1x2048 .f32 := k0_pay17 (View.readAt (Elt Ideal) E.arg10.view (Rect.unit ![0, 0, 0] S1x64x2048.size inb_S1x64x2048_S1x64x2048_0_0_0).toLoadRect (E.harg10.unread E.x8))
  (View.readAt (Elt Ideal) E.arg7.view (Rect.unit ![0, 0, 0] S1x64x2048.size inb_S1x64x2048_S1x64x2048_0_0_0).toLoadRect (E.harg7.unread E.x5))

/-- The number of key blocks before the diagonal. -/
def v20 : BitVec 32 := Scalar.muli E.qb 8#32

/-- The key block of the diagonal's step `d`. -/
def jb (d : BitVec 32) : BitVec 32 := Scalar.addi E.v20 d

/-- The second loop's lower bound. -/
def v33 : BitVec 32 := Scalar.addi 0#32 (Scalar.muli (Scalar.divsi (Scalar.subi E.v20 0#32) 1#32) 1#32)

/-- The state of the first loop after `n` trips. -/
def loop1 (n : ℕ) : State :=
  st_k0_t1 Variants.none E.c none E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.qb E.qt E.q E.dO E.dOt E.lse E.dl k0_pay18 E.v20 (E.jb 0#32) 6#32
    (E.harg4.unread E.x2) (E.harg5.unread E.x3) (E.harg6.unread E.x4) (E.arg12.view.writes (Elt Ideal) E.B12 (E.J12 [])) (E.arg13.view.writes (Elt Ideal) E.B13 (E.J13 []))
    k0_pay18 n

/-- The first loop's end. -/
def end1 : State := E.loop1 (Scf.trips (k0_t1_loop E.i).lb (k0_t1_loop E.i).ub (k0_t1_loop E.i).st)

/-- The second loop's end. -/
def end2 : State :=
  st_k0_t2 Variants.none E.c none E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.qb E.qt E.q E.dO E.dOt E.lse E.dl k0_pay18 E.v20 (E.jb 0#32) 6#32 E.v33
    (E.harg4.unread E.x2) (E.harg5.unread E.x3) (E.harg6.unread E.x4) (E.arg12.view.writes (Elt Ideal) E.B12 (E.J12 E.end1.2.1)) (E.arg13.view.writes (Elt Ideal) E.B13 (E.J13 E.end1.2.2))
    E.end1.1 (Scf.trips (k0_t2_loop E.i).lb (k0_t2_loop E.i).ub (k0_t2_loop E.i).st)

/-- The queries' gradient when the diagonal begins. -/
def dq0 : FVec Ideal S128x2048 .f32 := E.end2.1

/-- The stores when the diagonal begins. -/
def start : Stores := (E.end2.2.1 ++ E.J12 E.end1.2.1, E.end2.2.2 ++ E.J13 E.end1.2.2)

/-- One step of the diagonal: what it stores over what the outputs hold at the key block's rows. -/
def step (o7 : Fin 3 → ℕ) (h7 : ∀ a, o7 a + S1x256x128.size a ≤ S1x8192x128.size a) (o8 : Fin 3 → ℕ) (h8 : ∀ a, o8 a + S1x256x64.size a ≤ S1x8192x64.size a)
    (fk : Vec Ideal S1x256x128 .f32 → FVec Ideal S1x256x128 .f32) (fv : Vec Ideal S1x256x64 .f32 → FVec Ideal S1x256x64 .f32) (s : Stores) : Stores :=
  (⟨Rect.unit (s := S1x8192x128) o7 S1x256x128.size h7, fk (View.readAt (Elt Ideal) E.arg12.view (Rect.unit (s := S1x8192x128) o7 S1x256x128.size h7).toLoadRect (E.arg12.view.writes (Elt Ideal) E.B12 s.1))⟩ :: s.1,
   ⟨Rect.unit (s := S1x8192x64) o8 S1x256x64.size h8, fv (View.readAt (Elt Ideal) E.arg13.view (Rect.unit (s := S1x8192x64) o8 S1x256x64.size h8).toLoadRect (E.arg13.view.writes (Elt Ideal) E.B13 s.2))⟩ :: s.2)

/-- The diagonal step's keys, values, and keys the other way round. -/
def kb (d : BitVec 32) (h : ∀ a, (k0_off7 E.i d) a + S1x256x128.size a ≤ S1x8192x128.size a) : Vec Ideal S1x256x128 .bf16 :=
  View.readAt (Elt Ideal) E.arg4.view (Rect.unit (s := S1x8192x128) (k0_off7 E.i d) S1x256x128.size h).toLoadRect (E.harg4.unread E.x2)
def vb (d : BitVec 32) (h : ∀ a, (k0_off8 E.i d) a + S1x256x64.size a ≤ S1x8192x64.size a) : Vec Ideal S1x256x64 .bf16 :=
  View.readAt (Elt Ideal) E.arg6.view (Rect.unit (s := S1x8192x64) (k0_off8 E.i d) S1x256x64.size h).toLoadRect (E.harg6.unread E.x4)
def kt (d : BitVec 32) (h : ∀ a, (k0_off9 E.i d) a + S1x1x128x256.size a ≤ S1x32x128x256.size a) : Vec Ideal S1x1x128x256 .bf16 :=
  View.readAt (Elt Ideal) E.arg5.view (Rect.unit (s := S1x32x128x256) (k0_off9 E.i d) S1x1x128x256.size h).toLoadRect (E.harg5.unread E.x3)

/-- The diagonal's step 0. -/
def step0 (s : Stores) : Stores :=
  E.step (k0_off7 E.i 0#32) (k0_off7_inb E.i 0) (k0_off8 E.i 0#32) (k0_off8_inb E.i 0)
    (fun old => k0_pay24 E.q (k0_pay22 E.qb E.qt E.dOt E.lse E.dl (E.jb 0#32) (E.kb 0#32 (k0_off7_inb E.i 0)) (E.vb 0#32 (k0_off8_inb E.i 0))) (k0_pay23 old) (constant S256x128 .f32 0x00000000#32))
    (fun old => k0_pay25 E.dO (k0_pay21 E.qb E.qt E.lse (E.jb 0#32) (E.kb 0#32 (k0_off7_inb E.i 0))) old) s

/-- The queries' gradient after the diagonal's step 0. -/
def dq1 : FVec Ideal S128x2048 .f32 := k0_pay26 E.dq0 (k0_pay22 E.qb E.qt E.dOt E.lse E.dl (E.jb 0#32) (E.kb 0#32 (k0_off7_inb E.i 0)) (E.vb 0#32 (k0_off8_inb E.i 0))) (E.kt 0#32 (k0_off9_inb E.i 0))

/-- The diagonal's step 1. -/
def step1 (s : Stores) : Stores :=
  E.step (k0_off7 E.i 1#32) (k0_off7_inb E.i 1) (k0_off8 E.i 1#32) (k0_off8_inb E.i 1)
    (fun old => k0_pay32 E.q E.dOt E.lse E.dl (k0_pay27 E.qt (E.kb 1#32 (k0_off7_inb E.i 1))) (k0_pay28 E.qb (E.jb 1#32)) k0_pay29 (E.vb 1#32 (k0_off8_inb E.i 1)) old)
    (fun old => k0_pay33 E.dO E.lse (k0_pay27 E.qt (E.kb 1#32 (k0_off7_inb E.i 1))) (k0_pay28 E.qb (E.jb 1#32)) k0_pay29 old) s

/-- The queries' gradient after the diagonal's step 1. -/
def dq2 : FVec Ideal S128x2048 .f32 := k0_pay36 E.dq1 (k0_pay34 E.dq1) (k0_pay35 E.dOt E.lse E.dl (k0_pay27 E.qt (E.kb 1#32 (k0_off7_inb E.i 1))) (k0_pay28 E.qb (E.jb 1#32)) k0_pay29 (E.vb 1#32 (k0_off8_inb E.i 1)) (E.kt 1#32 (k0_off9_inb E.i 1)))

/-- The diagonal's step 2. -/
def step2 (s : Stores) : Stores :=
  E.step (k0_off7 E.i 2#32) (k0_off7_inb E.i 2) (k0_off8 E.i 2#32) (k0_off8_inb E.i 2)
    (fun old => k0_pay40 (k0_pay39 E.qb E.qt E.q E.dOt E.lse E.dl (E.jb 2#32) (E.kb 2#32 (k0_off7_inb E.i 2)) (E.vb 2#32 (k0_off8_inb E.i 2)) old))
    (fun old => k0_pay41 E.dO (k0_pay37 E.qb E.qt E.lse (E.jb 2#32) (E.kb 2#32 (k0_off7_inb E.i 2))) old) s

/-- The queries' gradient after the diagonal's step 2. -/
def dq3 : FVec Ideal S128x2048 .f32 := k0_pay42 E.dq2 (k0_pay38 E.qb E.qt E.dOt E.lse E.dl (E.jb 2#32) (E.kb 2#32 (k0_off7_inb E.i 2)) (E.vb 2#32 (k0_off8_inb E.i 2))) (E.kt 2#32 (k0_off9_inb E.i 2))

/-- The diagonal's step 3. -/
def step3 (s : Stores) : Stores :=
  E.step (k0_off7 E.i 3#32) (k0_off7_inb E.i 3) (k0_off8 E.i 3#32) (k0_off8_inb E.i 3)
    (fun old => k0_pay47 E.q E.dOt E.dl (k0_pay43 E.qb E.qt (E.jb 3#32) (E.kb 3#32 (k0_off7_inb E.i 3))) (k0_pay44 E.lse) (E.vb 3#32 (k0_off8_inb E.i 3)) old)
    (fun old => k0_pay48 E.dO (k0_pay43 E.qb E.qt (E.jb 3#32) (E.kb 3#32 (k0_off7_inb E.i 3))) (k0_pay44 E.lse) old) s

/-- The queries' gradient after the diagonal's step 3. -/
def dq4 : FVec Ideal S128x2048 .f32 := k0_pay51 (k0_pay49 E.dOt E.dl E.dq3 (k0_pay43 E.qb E.qt (E.jb 3#32) (E.kb 3#32 (k0_off7_inb E.i 3))) (k0_pay44 E.lse) (E.vb 3#32 (k0_off8_inb E.i 3)) (E.kt 3#32 (k0_off9_inb E.i 3))) (k0_pay50 E.dq3)

/-- The diagonal's step 4. -/
def step4 (s : Stores) : Stores :=
  E.step (k0_off7 E.i 4#32) (k0_off7_inb E.i 4) (k0_off8 E.i 4#32) (k0_off8_inb E.i 4)
    (fun old => k0_pay54 E.qb E.qt E.q E.dOt E.lse E.dl (E.jb 4#32) (E.kb 4#32 (k0_off7_inb E.i 4)) (E.vb 4#32 (k0_off8_inb E.i 4)) old)
    (fun old => k0_pay55 E.dO (k0_pay52 E.qb E.qt E.lse (E.jb 4#32) (E.kb 4#32 (k0_off7_inb E.i 4))) old) s

/-- The queries' gradient after the diagonal's step 4. -/
def dq5 : FVec Ideal S128x2048 .f32 := k0_pay56 E.dq4 (k0_pay53 E.qb E.qt E.dOt E.lse E.dl (E.jb 4#32) (E.kb 4#32 (k0_off7_inb E.i 4)) (E.vb 4#32 (k0_off8_inb E.i 4))) (E.kt 4#32 (k0_off9_inb E.i 4))

/-- The diagonal's step 5. -/
def step5 (s : Stores) : Stores :=
  E.step (k0_off7 E.i 5#32) (k0_off7_inb E.i 5) (k0_off8 E.i 5#32) (k0_off8_inb E.i 5)
    (fun old => k0_pay60 E.q E.dOt E.dl (k0_pay57 E.qb E.qt E.lse (E.jb 5#32) (E.kb 5#32 (k0_off7_inb E.i 5))) (E.vb 5#32 (k0_off8_inb E.i 5)) old)
    (fun old => k0_pay61 E.dO (k0_pay57 E.qb E.qt E.lse (E.jb 5#32) (E.kb 5#32 (k0_off7_inb E.i 5))) old) s

/-- The queries' gradient after the diagonal's step 5. -/
def dq6 : FVec Ideal S128x2048 .f32 := k0_pay62 E.dOt E.dl E.dq5 (k0_pay57 E.qb E.qt E.lse (E.jb 5#32) (E.kb 5#32 (k0_off7_inb E.i 5))) (E.vb 5#32 (k0_off8_inb E.i 5)) (E.kt 5#32 (k0_off9_inb E.i 5))

/-- The diagonal's step 6. -/
def step6 (s : Stores) : Stores :=
  E.step (k0_off7 E.i 6#32) (k0_off7_inb E.i 6) (k0_off8 E.i 6#32) (k0_off8_inb E.i 6)
    (fun old => k0_pay65 E.qb E.qt E.q E.dOt E.lse E.dl (E.jb 6#32) (E.kb 6#32 (k0_off7_inb E.i 6)) (E.vb 6#32 (k0_off8_inb E.i 6)) old)
    (fun old => k0_pay66 E.dO (k0_pay63 E.qb E.qt E.lse (E.jb 6#32) (E.kb 6#32 (k0_off7_inb E.i 6))) old) s

/-- The queries' gradient after the diagonal's step 6. -/
def dq7 : FVec Ideal S128x2048 .f32 := k0_pay67 E.dq6 (k0_pay64 E.qb E.qt E.dOt E.lse E.dl (E.jb 6#32) (E.kb 6#32 (k0_off7_inb E.i 6)) (E.vb 6#32 (k0_off8_inb E.i 6))) (E.kt 6#32 (k0_off9_inb E.i 6))

/-- The diagonal's step 7. -/
def step7 (s : Stores) : Stores :=
  E.step (k0_off7 E.i 7#32) (k0_off7_inb E.i 7) (k0_off8 E.i 7#32) (k0_off8_inb E.i 7)
    (fun old => k0_pay70 E.q E.dOt E.dl (k0_pay68 E.qb E.qt E.lse (E.jb 7#32) (E.kb 7#32 (k0_off7_inb E.i 7))) (E.vb 7#32 (k0_off8_inb E.i 7)) old)
    (fun old => k0_pay71 E.dO (k0_pay68 E.qb E.qt E.lse (E.jb 7#32) (E.kb 7#32 (k0_off7_inb E.i 7))) old) s

/-- The queries' gradient after the diagonal's step 7. -/
def dq8 : FVec Ideal S128x2048 .f32 := k0_pay72 E.dOt E.dl E.dq7 (k0_pay68 E.qb E.qt E.lse (E.jb 7#32) (E.kb 7#32 (k0_off7_inb E.i 7))) (E.vb 7#32 (k0_off8_inb E.i 7)) (E.kt 7#32 (k0_off9_inb E.i 7))

/-- The stores at the point's end. -/
def final : Stores := E.step7 (E.step6 (E.step5 (E.step4 (E.step3 (E.step2 (E.step1 (E.step0 E.start)))))))

end Env

/-- A head's first point: the two outputs are filled with zeros before the loops. -/
def envA (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) : Env :=
  ⟨c, i, arg2, harg2, arg3, harg3, arg4, harg4, arg5, harg5, arg6, harg6, arg7, harg7, arg8, harg8, arg9, harg9, arg10, harg10, arg11, harg11, arg12, harg12, arg13, harg13, x0, x1, x2, x3, x4, x5, x6, x7, x8, arg12.view.junk, arg13.view.junk, fun L => L ++ [⟨Rect.unit (s := S1x8192x128) ![0, 0, 0] S1x8192x128.size inb_S1x8192x128_S1x8192x128_0_0_0, k0_pay10 (F := Ideal)⟩], fun L => L ++ [⟨Rect.unit (s := S1x8192x64) ![0, 0, 0] S1x8192x64.size inb_S1x8192x64_S1x8192x64_0_0_0, k0_pay11 (F := Ideal)⟩]⟩

/-- A head's later point: the two outputs hold what the point before left. -/
def envB (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) (xo10 : Vec Ideal S1x8192x128 .f32) (xo11 : Vec Ideal S1x8192x64 .f32) : Env :=
  ⟨c, i, arg2, harg2, arg3, harg3, arg4, harg4, arg5, harg5, arg6, harg6, arg7, harg7, arg8, harg8, arg9, harg9, arg10, harg10, arg11, harg11, arg12, harg12, arg13, harg13, x0, x1, x2, x3, x4, x5, x6, x7, x8, harg12.unread xo10, harg13.unread xo11, id, id⟩

set_option maxHeartbeats 4000000 in
theorem runA_9 (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole) (hc0 : cond0_0 i)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1
      = [⟨Rect.unit (s := S1x128x2048) ![0, 0, 0] ![1, 128, 2048] inb_S1x128x2048_S1x128x2048_0_0_0, k0_pay1 (envA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).dq8⟩] := rfl

set_option maxHeartbeats 4000000 in
theorem runA_10 (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole) (hc0 : cond0_0 i)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1
      = (envA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).final.1 := rfl

set_option maxHeartbeats 4000000 in
theorem runA_11 (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole) (hc0 : cond0_0 i)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1
      = (envA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).final.2 := rfl

set_option maxHeartbeats 4000000 in
theorem runB_9 (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole) (hc0 : ¬cond0_0 i)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) (xo10 : Vec Ideal S1x8192x128 .f32) (xo11 : Vec Ideal S1x8192x64 .f32) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).1
      = [⟨Rect.unit (s := S1x128x2048) ![0, 0, 0] ![1, 128, 2048] inb_S1x128x2048_S1x128x2048_0_0_0, k0_pay1 (envB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11).dq8⟩] := rfl

set_option maxHeartbeats 4000000 in
theorem runB_10 (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole) (hc0 : ¬cond0_0 i)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) (xo10 : Vec Ideal S1x8192x128 .f32) (xo11 : Vec Ideal S1x8192x64 .f32) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.1
      = (envB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11).final.1 := rfl

set_option maxHeartbeats 4000000 in
theorem runB_11 (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole) (hc0 : ¬cond0_0 i)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) (xo10 : Vec Ideal S1x8192x128 .f32) (xo11 : Vec Ideal S1x8192x64 .f32) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.2.1
      = (envB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11).final.2 := rfl

end Cert.Chain
-- ==== Proof.Steps.lean ====
module
public import proofs.«01_k».proof.Proof.Tiles
public import proofs.«01_k».proof.Proof.Chain
public import Idealize.ShloMosaic.Lib.WritesUnit
public import Idealize.ShloMosaic.Lib.Pipeline.ValueKit
@[expose] public section

/-!
What one step of the body does to the two collecting outputs and to the queries' gradient: after the key blocks below
`n` the outputs hold what they held before plus query block `b`'s part at the rows below `256 n`, and the queries'
gradient is the sum over the keys below `256 n`.
-/

set_option maxRecDepth 16384
noncomputable section
namespace Cert.Steps
open Cert.KernelIdeal Cert.KernelIdeal.Gen Cert.AttnGrad Cert.Tiles Cert.Chain
open Idealize.ShloMosaic Idealize.ShloMosaic.TcCoe

variable (Q K : Fin 8192 → Fin 128 → ℝ) (V D : Fin 8192 → Fin 64 → ℝ)

/-- What row `r` of the keys' gradient gains from query block `b`. -/
def colK (b : Fin 4) (r : Fin 8192) (c : Fin 128) : ℝ := ∑ i, dscore Q K V D (row b i) r * Q (row b i) c
/-- What row `r` of the values' gradient gains from query block `b`. -/
def colV (b : Fin 4) (r : Fin 8192) (e : Fin 64) : ℝ := ∑ i, prob Q K (row b i) r * D (row b i) e
/-- The gradient of query `i` of block `b` from the keys below `256 n`. -/
def partQ (b : Fin 4) (n : ℕ) (a : Fin 128) (i : Fin 2048) : ℝ :=
  ∑ j : Fin 8192, if j.val < 256 * n then K j a * dscore Q K V D (row b i) j else 0

/-- A sum over the keys below `256 (n + 1)` is the sum below `256 n` and the sum over key block `n`. -/
theorem sum_block {M : Type} [AddCommMonoid M] (n : Fin 32) (f : Fin 8192 → M) :
    (∑ j : Fin 8192, if j.val < 256 * (n.val + 1) then f j else 0) = (∑ j : Fin 8192, if j.val < 256 * n.val then f j else 0) + ∑ r, f (key n r) := by
  have hi : ∑ r, f (key n r) = ∑ j : Fin 8192, if 256 * n.val ≤ j.val ∧ j.val < 256 * (n.val + 1) then f j else 0 := by
    rw [← Finset.sum_image (g := fun r : Fin 256 => key n r) (f := f)
      (fun x _ y _ e => Fin.ext (by have := congrArg Fin.val e; simpa [key] using this)), ← Finset.sum_filter]
    refine Finset.sum_congr (Finset.ext fun j => ?_) fun _ _ => rfl
    simp only [Finset.mem_image, Finset.mem_univ, true_and, Finset.mem_filter]
    constructor
    · rintro ⟨r, rfl⟩; simp only [key]; omega
    · rintro ⟨h1, h2⟩
      exact ⟨⟨j.val - 256 * n.val, by omega⟩, Fin.ext (by simp only [key]; omega)⟩
  rw [hi, ← Finset.sum_add_distrib]
  refine Finset.sum_congr rfl fun j _ => ?_
  by_cases h1 : j.val < 256 * n.val
  · rw [if_pos (by omega), if_pos h1, if_neg (by omega), add_zero]
  · by_cases h2 : j.val < 256 * (n.val + 1)
    · rw [if_pos h2, if_neg h1, if_pos (by omega), zero_add]
    · rw [if_neg h2, if_neg h1, if_neg (by omega), add_zero]

theorem partQ_succ (b : Fin 4) (n : Fin 32) (a : Fin 128) (i : Fin 2048) :
    partQ Q K V D b (n.val + 1) a i = partQ Q K V D b n.val a i + addQ Q K V D b n a i :=
  sum_block n fun j => K j a * dscore Q K V D (row b i) j

theorem partQ_zero (b : Fin 4) (a : Fin 128) (i : Fin 2048) : partQ Q K V D b 0 a i = 0 :=
  Finset.sum_eq_zero fun j _ => if_neg (by omega)

/-- After the diagonal nothing is missing: the later keys contribute nothing. -/
theorem partQ_end (b : Fin 4) (a : Fin 128) (i : Fin 2048) : partQ Q K V D b (8 * b.val + 8) a i = gradQ Q K V D (row b i) a := by
  refine Finset.sum_congr rfl fun j _ => ?_
  split
  · rfl
  · rw [dscore_of_lt, mul_zero]
    show 2048 * b.val + i.val < j.val
    omega

theorem colK_late (b : Fin 4) (r : Fin 8192) (c : Fin 128) (h : ¬r.val < 256 * (8 * b.val + 8)) : colK Q K V D b r c = 0 := by
  refine Finset.sum_eq_zero fun i _ => ?_
  rw [dscore_of_lt, zero_mul]
  show 2048 * b.val + i.val < r.val
  omega

theorem colV_late (b : Fin 4) (r : Fin 8192) (e : Fin 64) (h : ¬r.val < 256 * (8 * b.val + 8)) : colV Q K D b r e = 0 := by
  refine Finset.sum_eq_zero fun i _ => ?_
  rw [prob_of_lt, zero_mul]
  show 2048 * b.val + i.val < r.val
  omega

/-! ## Storing a key block's rows -/

/-- The rows of key block `n` rewritten to what they held plus `g`. -/
theorem put {κ : Kind} {sp : Space} {m : ℕ} (v : View sig κ sp ⟨3, ![1, 8192, m]⟩ .f32) (f : v.ty.Contents (Elt Ideal))
    (L : List (View.Piece (Elt Ideal) ⟨3, ![1, 8192, m]⟩ .f32)) (n : ℕ) (o : Fin 3 → ℕ)
    (h : ∀ a : Fin 3, o a + (![1, 256, m] : Fin 3 → ℕ) a ≤ (![1, 8192, m] : Fin 3 → ℕ) a) (eo : o = ![0, 256 * n, 0])
    (w : Vec Ideal ⟨3, ![1, 256, m]⟩ .f32) (G g : Fin 8192 → Fin m → ℝ)
    (hL : ∀ r c, v.read (Elt Ideal) (v.writes (Elt Ideal) f L) (ix3 0 r c) = ((G r c + if r.val < 256 * n then g r c else 0 : ℝ) : EReal))
    (hw : ∀ (r : Fin 256) (c : Fin m) (hr : 256 * n + r.val < 8192), w (ix3 0 r c)
      = View.readAt (Elt Ideal) v (Rect.unit (s := ⟨3, ![1, 8192, m]⟩) o ![1, 256, m] h).toLoadRect (v.writes (Elt Ideal) f L) (ix3 0 r c)
        + ((g ⟨256 * n + r.val, hr⟩ c : ℝ) : EReal)) :
    ∀ r c, v.read (Elt Ideal) (v.writes (Elt Ideal) f (⟨Rect.unit (s := ⟨3, ![1, 8192, m]⟩) o ![1, 256, m] h, w⟩ :: L)) (ix3 0 r c)
      = ((G r c + if r.val < 256 * (n + 1) then g r c else 0 : ℝ) : EReal) := by
  intro r c
  by_cases hin : 256 * n ≤ r.val ∧ r.val < 256 * (n + 1)
  · have hr : 256 * n + (r.val - 256 * n) < 8192 := by omega
    rw [View.read_writes_cons_unit_of_mem v f h w L (ix3 0 r c) (ix3 0 ⟨r.val - 256 * n, by omega⟩ c) eo (fun a => by
      match a with
      | ⟨0, _⟩ => rfl
      | ⟨1, _⟩ => show r.val = 256 * n + (r.val - 256 * n); omega
      | ⟨2, _⟩ => show c.val = 0 + c.val; omega)]
    rw [hw _ _ hr, View.readAt_apply]
    have ei : (Rect.unit (s := ⟨3, ![1, 8192, m]⟩) o ![1, 256, m] h).toLoadRect.idx (ix3 0 ⟨r.val - 256 * n, by omega⟩ c) = ix3 0 r c :=
      funext fun a => Fin.ext (by
        refine (Rect.idx_unit_val o ![1, 256, m] h _ a).trans ?_
        subst eo
        match a with
        | ⟨0, _⟩ => rfl
        | ⟨1, _⟩ => show 256 * n + (r.val - 256 * n) = r.val; omega
        | ⟨2, _⟩ => show 0 + c.val = c.val; omega)
    have er : (⟨256 * n + (r.val - 256 * n), hr⟩ : Fin 8192) = r := Fin.ext (by show 256 * n + (r.val - 256 * n) = r.val; omega)
    rw [ei, hL, er, if_neg (by omega), if_pos hin.2, add_zero, EReal.coe_add]
  · rw [View.read_writes_cons_unit_of_not_mem v f h w L (ix3 0 r c) eo 1 (by
      show r.val < 256 * n ∨ 256 * n + 256 ≤ r.val
      omega), hL]
    by_cases h1 : r.val < 256 * n
    · rw [if_pos h1, if_pos (by omega)]
    · rw [if_neg h1, if_neg (by omega)]

/-! ## What the body holds and loads -/

variable {Q K V D}

/-- The blocks of the point of query block `b`, and how its stores are listed. -/
structure Blocks (Q K : Fin 8192 → Fin 128 → ℝ) (V D : Fin 8192 → Fin 64 → ℝ) (E : Env) (b : Fin 4) : Prop where
  i1 : (E.i 1).val = b.val
  x0 : ∀ a i, E.x0 (ix3 0 a i) = ((Q (row b i) a : ℝ) : EReal)
  x1 : ∀ i a, E.x1 (ix3 0 i a) = ((Q (row b i) a : ℝ) : EReal)
  x2 : ∀ j a, E.x2 (ix3 0 j a) = ((K j a : ℝ) : EReal)
  x3 : ∀ n a r, E.x3 (ix4 0 n a r) = ((K (key n r) a : ℝ) : EReal)
  x4 : ∀ j e, E.x4 (ix3 0 j e) = ((V j e : ℝ) : EReal)
  x5 : ∀ e i, E.x5 (ix3 0 e i) = ((out Q K V (row b i) e : ℝ) : EReal)
  x6 : ∀ i, E.x6 (ix3 0 0 i) = ((top Q K (row b i) + Real.log (mass Q K (row b i)) : ℝ) : EReal)
  x7 : ∀ i e, E.x7 (ix3 0 i e) = ((D (row b i) e : ℝ) : EReal)
  x8 : ∀ e i, E.x8 (ix3 0 e i) = ((D (row b i) e : ℝ) : EReal)
  J12 : ∀ L, E.J12 L = L ++ E.J12 []
  J13 : ∀ L, E.J13 L = L ++ E.J13 []

/-- A load of a whole buffer gives its contents. -/
theorem whole {κ : Kind} {sp : Space} {s : Shape} {e : EltTy} {m : Memref sig κ sp s e} (hm : m.IsWhole) (X : Vec Ideal s e)
    {off : Fin s.rank → ℕ} (inb : ∀ a, off a + s.size a ≤ s.size a) (h : ∀ a, off a = 0) :
    View.readAt (Elt Ideal) m.view (Rect.unit off s.size inb).toLoadRect (hm.unread X) = X := by
  rw [View.readAt_eq_ld, hm.read_unread]
  exact View.ld_unit_lit inb X h

theorem held {E : Env} {b : Fin 4} (B : Blocks Q K V D E b) : Held Q K V D b E.qt E.q E.dO E.dOt E.lse E.dl where
  qt a i := by
    unfold Env.qt; rw [whole E.harg2 E.x0 _ (by decide), ← B.x0]; pointwise [k0_pay12]
  q i a := by
    unfold Env.q; rw [whole E.harg3 E.x1 _ (by decide), ← B.x1]; pointwise [k0_pay13]
  dO i e := by
    unfold Env.dO; rw [whole E.harg9 E.x7 _ (by decide), ← B.x7]; pointwise [k0_pay14]
  dOt e i := by
    unfold Env.dOt; rw [whole E.harg10 E.x8 _ (by decide), ← B.x8]; pointwise [k0_pay15]
  lse i := by
    unfold Env.lse; rw [whole E.harg8 E.x6 _ (by decide), ← B.x6]; pointwise [k0_pay16]
  dl i := by
    unfold Env.dl; rw [whole E.harg10 E.x8 _ (by decide), whole E.harg7 E.x5 _ (by decide), ← sum_mul_out, ← coe_sum_mul]
    simp only [← B.x8, ← B.x5]
    pointwise [k0_pay17, k0_pay15]

/-- What a load from key block `n` on finds. -/
theorem loaded {E : Env} {b : Fin 4} (B : Blocks Q K V D E b) (n : Fin 32)
    (o7 : Fin 3 → ℕ) (h7 : ∀ a, o7 a + S1x256x128.size a ≤ S1x8192x128.size a) (e7 : o7 = ![0, 256 * n.val, 0])
    (o8 : Fin 3 → ℕ) (h8 : ∀ a, o8 a + S1x256x64.size a ≤ S1x8192x64.size a) (e8 : o8 = ![0, 256 * n.val, 0])
    (o9 : Fin 4 → ℕ) (h9 : ∀ a, o9 a + S1x1x128x256.size a ≤ S1x32x128x256.size a) (e9 : o9 = ![0, n.val, 0, 0]) :
    Loaded K V n (View.readAt (Elt Ideal) E.arg4.view (Rect.unit (s := S1x8192x128) o7 S1x256x128.size h7).toLoadRect (E.harg4.unread E.x2))
      (View.readAt (Elt Ideal) E.arg6.view (Rect.unit (s := S1x8192x64) o8 S1x256x64.size h8).toLoadRect (E.harg6.unread E.x4))
      (View.readAt (Elt Ideal) E.arg5.view (Rect.unit (s := S1x32x128x256) o9 S1x1x128x256.size h9).toLoadRect (E.harg5.unread E.x3)) where
  kb r a := by
    subst e7
    rw [View.readAt_eq_ld, E.harg4.read_unread, ← B.x2]
    exact View.ld_unit_apply_of E.x2 _ _ h7 _ _ fun d => by
      match d with
      | ⟨0, _⟩ => rfl
      | ⟨1, _⟩ => rfl
      | ⟨2, _⟩ => show a.val = 0 + a.val; omega
  vb r a := by
    subst e8
    rw [View.readAt_eq_ld, E.harg6.read_unread, ← B.x4]
    exact View.ld_unit_apply_of E.x4 _ _ h8 _ _ fun d => by
      match d with
      | ⟨0, _⟩ => rfl
      | ⟨1, _⟩ => rfl
      | ⟨2, _⟩ => show a.val = 0 + a.val; omega
  kt a r := by
    subst e9
    rw [View.readAt_eq_ld, E.harg5.read_unread, ← B.x3]
    exact View.ld_unit_apply_of E.x3 _ _ h9 _ _ fun d => by
      match d with
      | ⟨0, _⟩ => rfl
      | ⟨1, _⟩ => rfl
      | ⟨2, _⟩ => show a.val = 0 + a.val; omega
      | ⟨3, _⟩ => show r.val = 0 + r.val; omega

end Cert.Steps
end
-- ==== Proof.Walk.lean ====
module
public import proofs.«01_k».proof.Proof.Steps
@[expose] public section

/-!
The body's walk over the key blocks of one query block: the loop before the diagonal, then the diagonal's eight steps.
At its end the two collecting outputs hold what they held at the start plus query block `b`'s part, and the queries'
gradient is complete.
-/

set_option maxRecDepth 16384
noncomputable section
namespace Cert.Walk
open Cert.KernelIdeal Cert.KernelIdeal.Gen Cert.AttnGrad Cert.Tiles Cert.Chain Cert.Steps
open Idealize.ShloMosaic Idealize.ShloMosaic.TcCoe

/-! ## The words -/

theorem diag_word : ∀ (b : Fin 4) (d : Fin 8),
    (Scalar.indexCast (Scalar.muli (Scalar.addi (Scalar.muli (BitVec.ofNat 32 b.val) 8#32) (BitVec.ofNat 32 d.val)) 256#32)).toNat
      = 256 * (8 * b.val + d.val) := by decide
theorem diag_word' : ∀ (b : Fin 4) (d : Fin 8),
    (Scalar.indexCast (Scalar.addi (Scalar.muli (BitVec.ofNat 32 b.val) 8#32) (BitVec.ofNat 32 d.val))).toNat = 8 * b.val + d.val := by decide
theorem diag_block : ∀ (b : Fin 4) (d : Fin 8),
    Scalar.addi (Scalar.muli (BitVec.ofNat 32 b.val) 8#32) (BitVec.ofNat 32 d.val) = BitVec.ofNat 32 (8 * b.val + d.val) := by decide
theorem loop_word : ∀ k : Fin 32, (Scalar.indexCast (Scalar.muli (Scf.iv 0#32 1#32 k.val) 256#32)).toNat = 256 * k.val := by decide
theorem loop_word' : ∀ k : Fin 32, (Scalar.indexCast (Scf.iv 0#32 1#32 k.val)).toNat = k.val := by decide
theorem trips_word : ∀ b : Fin 4, Scf.trips 0#32
    (Scalar.addi 0#32 (Scalar.muli (Scalar.divsi (Scalar.subi (Scalar.muli (BitVec.ofNat 32 b.val) 8#32) 0#32) 1#32) 1#32)) 1#32 = 8 * b.val := by decide
theorem trips_word' : ∀ b : Fin 4, Scf.trips
    (Scalar.addi 0#32 (Scalar.muli (Scalar.divsi (Scalar.subi (Scalar.muli (BitVec.ofNat 32 b.val) 8#32) 0#32) 1#32) 1#32))
    (Scalar.addi 0#32 (Scalar.subi (Scalar.muli (BitVec.ofNat 32 b.val) 8#32) 0#32)) 1#32 = 0 := by decide

section Words
variable {i : grid0.Coords} {b : Fin 4} (hi : (i 1).val = b.val)
include hi

theorem off7_eq (d : Fin 8) : k0_off7 i (BitVec.ofNat 32 d.val) = ![0, 256 * (8 * b.val + d.val), 0] := by
  rw [← diag_word b d, ← hi]; rfl
theorem off8_eq (d : Fin 8) : k0_off8 i (BitVec.ofNat 32 d.val) = ![0, 256 * (8 * b.val + d.val), 0] := by
  rw [← diag_word b d, ← hi]; rfl
theorem off9_eq (d : Fin 8) : k0_off9 i (BitVec.ofNat 32 d.val) = ![0, 8 * b.val + d.val, 0, 0] := by
  rw [← diag_word' b d, ← hi]; rfl
theorem trips1 : (k0_t1_loop i).trips = 8 * b.val := by
  rw [← trips_word b, ← hi]
theorem trips2 : (k0_t2_loop i).trips = 0 := by
  rw [← trips_word' b, ← hi]
end Words

theorem off1_eq (i : grid0.Coords) (k : Fin (k0_t1_loop i).trips) (hk : k.val < 32) : k0_off1 i k = ![0, 256 * k.val, 0] := by
  have := loop_word ⟨k.val, hk⟩
  show ![0, (Scalar.indexCast (Scalar.muli (Scf.iv 0#32 1#32 k.val) 256#32)).toNat, 0] = _
  rw [this]
theorem off2_eq (i : grid0.Coords) (k : Fin (k0_t1_loop i).trips) (hk : k.val < 32) : k0_off2 i k = ![0, 256 * k.val, 0] := by
  have := loop_word ⟨k.val, hk⟩
  show ![0, (Scalar.indexCast (Scalar.muli (Scf.iv 0#32 1#32 k.val) 256#32)).toNat, 0] = _
  rw [this]
theorem off3_eq (i : grid0.Coords) (k : Fin (k0_t1_loop i).trips) (hk : k.val < 32) : k0_off3 i k = ![0, k.val, 0, 0] := by
  have := loop_word' ⟨k.val, hk⟩
  show ![0, (Scalar.indexCast (Scf.iv 0#32 1#32 k.val)).toNat, 0, 0] = _
  rw [this]

/-! ## The loop before the diagonal -/

section Loop
variable (E : Env)

/-- Trip `k`'s keys, values, and keys the other way round. -/
def kb1 (k : Fin (k0_t1_loop E.i).trips) : Vec Ideal S1x256x128 .bf16 :=
  View.readAt (Elt Ideal) E.arg4.view (Rect.unit (s := S1x8192x128) (k0_off1 E.i k) S1x256x128.size (k0_off1_inb E.i k)).toLoadRect (E.harg4.unread E.x2)
def vb1 (k : Fin (k0_t1_loop E.i).trips) : Vec Ideal S1x256x64 .bf16 :=
  View.readAt (Elt Ideal) E.arg6.view (Rect.unit (s := S1x8192x64) (k0_off2 E.i k) S1x256x64.size (k0_off2_inb E.i k)).toLoadRect (E.harg6.unread E.x4)
def kt1 (k : Fin (k0_t1_loop E.i).trips) : Vec Ideal S1x1x128x256 .bf16 :=
  View.readAt (Elt Ideal) E.arg5.view (Rect.unit (s := S1x32x128x256) (k0_off3 E.i k) S1x1x128x256.size (k0_off3_inb E.i k)).toLoadRect (E.harg5.unread E.x3)

/-- What the two collecting outputs hold when the loop begins. -/
def base12 : BufTy.Contents (Elt Ideal) E.arg12.view.ty := E.arg12.view.writes (Elt Ideal) E.B12 (E.J12 [])
def base13 : BufTy.Contents (Elt Ideal) E.arg13.view.ty := E.arg13.view.writes (Elt Ideal) E.B13 (E.J13 [])

/-- One trip: its stores and its contribution to the queries' gradient. -/
theorem loop1_succ (k : Fin (k0_t1_loop E.i).trips) : E.loop1 (k.val + 1)
    = (k0_pay19 (E.loop1 k.val).1 (k0_pay3 E.qt E.dOt E.lse E.dl (kb1 E k) (vb1 E k)) (kt1 E k),
       ⟨Rect.unit (s := S1x8192x128) (k0_off1 E.i k) S1x256x128.size (k0_off1_inb E.i k),
         k0_pay4 E.qt E.q E.dOt E.lse E.dl (kb1 E k) (vb1 E k)
           (View.readAt (Elt Ideal) E.arg12.view (Rect.unit (s := S1x8192x128) (k0_off1 E.i k) S1x256x128.size (k0_off1_inb E.i k)).toLoadRect
             (E.arg12.view.writes (Elt Ideal) (base12 E) (E.loop1 k.val).2.1))⟩ :: (E.loop1 k.val).2.1,
       ⟨Rect.unit (s := S1x8192x64) (k0_off2 E.i k) S1x256x64.size (k0_off2_inb E.i k),
         k0_pay5 E.qt E.dO E.lse (kb1 E k)
           (View.readAt (Elt Ideal) E.arg13.view (Rect.unit (s := S1x8192x64) (k0_off2 E.i k) S1x256x64.size (k0_off2_inb E.i k)).toLoadRect
             (E.arg13.view.writes (Elt Ideal) (base13 E) (E.loop1 k.val).2.2))⟩ :: (E.loop1 k.val).2.2) := by
  unfold Env.loop1
  rw [st_k0_t1_succ]
  unfold tripR_k0_t1 tripL_k0_t1 trip_k0_t1
  rfl

variable {Q K : Fin 8192 → Fin 128 → ℝ} {V D : Fin 8192 → Fin 64 → ℝ} {E} {b : Fin 4}
variable {G : Fin 8192 → Fin 128 → ℝ} {H : Fin 8192 → Fin 64 → ℝ}

/-- The outputs hold `G` and `H` plus query block `b`'s part at the rows below `256 n`. -/
def Has (Q K : Fin 8192 → Fin 128 → ℝ) (V D : Fin 8192 → Fin 64 → ℝ) (G : Fin 8192 → Fin 128 → ℝ) (H : Fin 8192 → Fin 64 → ℝ) (E : Env) (b : Fin 4)
    (f12 : BufTy.Contents (Elt Ideal) E.arg12.view.ty) (f13 : BufTy.Contents (Elt Ideal) E.arg13.view.ty) (n : ℕ) (s : Stores) : Prop :=
  (∀ r c, E.arg12.view.read (Elt Ideal) (E.arg12.view.writes (Elt Ideal) f12 s.1) (ix3 0 r c)
    = ((G r c + if r.val < 256 * n then colK Q K V D b r c else 0 : ℝ) : EReal)) ∧
  (∀ r c, E.arg13.view.read (Elt Ideal) (E.arg13.view.writes (Elt Ideal) f13 s.2) (ix3 0 r c)
    = ((H r c + if r.val < 256 * n then colV Q K D b r c else 0 : ℝ) : EReal))

theorem loop1_has (B : Blocks Q K V D E b) (h0 : Has Q K V D G H E b (base12 E) (base13 E) 0 ([], [])) : ∀ n, n ≤ 8 * b.val →
    Has Q K V D G H E b (base12 E) (base13 E) n (E.loop1 n).2 ∧ ∀ a i, (E.loop1 n).1 (ix2 a i) = ((partQ Q K V D b n a i : ℝ) : EReal)
  | 0, _ => ⟨h0, fun a i => by
      rw [partQ_zero]
      show k0_pay18 (F := Ideal) (ix2 a i) = _
      pointwise [k0_pay18]
      exact EReal.coe_zero.symm⟩
  | n + 1, hn => by
      obtain ⟨⟨hK, hV⟩, hQ⟩ := loop1_has B h0 n (by omega)
      have hk : n < (k0_t1_loop E.i).trips := by rw [trips1 B.i1]; omega
      have h32 : n < 32 := by omega
      have e := loop1_succ E ⟨n, hk⟩
      have L : Loaded K V ⟨n, h32⟩ (kb1 E ⟨n, hk⟩) (vb1 E ⟨n, hk⟩) (kt1 E ⟨n, hk⟩) :=
        loaded B ⟨n, h32⟩ _ _ (off1_eq E.i ⟨n, hk⟩ h32) _ _ (off2_eq E.i ⟨n, hk⟩ h32) _ _ (off3_eq E.i ⟨n, hk⟩ h32)
      have hb : (⟨n, h32⟩ : Fin 32).val < 8 * b.val := by show n < 8 * b.val; omega
      rw [e]
      refine ⟨⟨?_, ?_⟩, fun a i => ?_⟩
      · exact put _ _ _ n _ (k0_off1_inb E.i ⟨n, hk⟩) (off1_eq E.i ⟨n, hk⟩ h32) _ G (colK Q K V D b) hK
          fun r c _ => loop_k (held B) L hb _ r c
      · exact put _ _ _ n _ (k0_off2_inb E.i ⟨n, hk⟩) (off2_eq E.i ⟨n, hk⟩ h32) _ H (colV Q K D b) hV
          fun r c _ => loop_v (held B) L hb _ r c
      · refine (loop_q (held B) L hb _ a i).trans ?_
        rw [hQ, ← EReal.coe_add]
        exact congrArg _ (partQ_succ Q K V D b ⟨n, h32⟩ a i).symm

/-! ## The diagonal -/

/-- When the diagonal begins. -/
theorem start_has (B : Blocks Q K V D E b) (h0 : Has Q K V D G H E b (base12 E) (base13 E) 0 ([], [])) :
    Has Q K V D G H E b E.B12 E.B13 (8 * b.val) E.start ∧ ∀ a i, E.dq0 (ix2 a i) = ((partQ Q K V D b (8 * b.val) a i : ℝ) : EReal) := by
  obtain ⟨⟨hK, hV⟩, hQ⟩ := loop1_has B h0 (8 * b.val) le_rfl
  have e1 : E.end1 = E.loop1 (8 * b.val) := congrArg E.loop1 (trips1 B.i1)
  have e2 : E.end2 = (E.end1.1, [], []) := by
    unfold Env.end2
    rw [show Scf.trips (k0_t2_loop E.i).lb (k0_t2_loop E.i).ub (k0_t2_loop E.i).st = 0 from trips2 B.i1]
    rfl
  refine ⟨⟨fun r c => ?_, fun r c => ?_⟩, fun a i => ?_⟩
  · rw [← hK, ← e1]; unfold Env.start; rw [e2, B.J12]
    show E.arg12.view.read (Elt Ideal) (E.arg12.view.writes (Elt Ideal) E.B12 (E.end1.2.1 ++ E.J12 [])) _ = _
    rw [View.writes_append]; rfl
  · rw [← hV, ← e1]; unfold Env.start; rw [e2, B.J13]
    show E.arg13.view.read (Elt Ideal) (E.arg13.view.writes (Elt Ideal) E.B13 (E.end1.2.2 ++ E.J13 [])) _ = _
    rw [View.writes_append]; rfl
  · rw [← hQ, ← e1]; unfold Env.dq0; rw [e2]

/-- A diagonal step: what it stores, given that its two payloads add query block `b`'s part. -/
theorem step_has (n : Fin 32) {o7 : Fin 3 → ℕ} {h7 : ∀ a, o7 a + S1x256x128.size a ≤ S1x8192x128.size a} {o8 : Fin 3 → ℕ}
    {h8 : ∀ a, o8 a + S1x256x64.size a ≤ S1x8192x64.size a} (e7 : o7 = ![0, 256 * n.val, 0]) (e8 : o8 = ![0, 256 * n.val, 0])
    {fk : Vec Ideal S1x256x128 .f32 → FVec Ideal S1x256x128 .f32} {fv : Vec Ideal S1x256x64 .f32 → FVec Ideal S1x256x64 .f32} {s : Stores}
    (hs : Has Q K V D G H E b E.B12 E.B13 n.val s)
    (hk : ∀ old r c, fk old (ix3 0 r c) = old (ix3 0 r c) + ((addK Q K V D b n r c : ℝ) : EReal))
    (hv : ∀ old r c, fv old (ix3 0 r c) = old (ix3 0 r c) + ((addV Q K D b n r c : ℝ) : EReal)) :
    Has Q K V D G H E b E.B12 E.B13 (n.val + 1) (E.step o7 h7 o8 h8 fk fv s) :=
  ⟨put _ _ _ n.val _ h7 e7 _ G (colK Q K V D b) hs.1 fun r c _ => hk _ r c,
   put _ _ _ n.val _ h8 e8 _ H (colV Q K D b) hs.2 fun r c _ => hv _ r c⟩

/-- The key block of the diagonal's step `d`. -/
def dkey (b : Fin 4) (d : Fin 8) : Fin 32 := ⟨8 * b.val + d.val, by omega⟩

theorem qb_eq (B : Blocks Q K V D E b) : E.qb = BitVec.ofNat 32 b.val := by unfold Env.qb; rw [B.i1]

theorem jb_eq (B : Blocks Q K V D E b) (d : Fin 8) : E.jb (BitVec.ofNat 32 d.val) = BitVec.ofNat 32 (dkey b d).val := by
  unfold Env.jb Env.v20; rw [qb_eq B]; exact diag_block b d

theorem diag_loaded (B : Blocks Q K V D E b) (d : Fin 8) :
    Loaded K V (dkey b d) (E.kb (BitVec.ofNat 32 d.val) (k0_off7_inb E.i d)) (E.vb (BitVec.ofNat 32 d.val) (k0_off8_inb E.i d))
      (E.kt (BitVec.ofNat 32 d.val) (k0_off9_inb E.i d)) :=
  loaded B (dkey b d) _ _ (off7_eq B.i1 d) _ _ (off8_eq B.i1 d) _ _ (off9_eq B.i1 d)

/-- A step's contribution to the queries' gradient. -/
theorem grow {b : Fin 4} (n : Fin 32) {dq dq' : FVec Ideal S128x2048 .f32} (h : ∀ a i, dq (ix2 a i) = ((partQ Q K V D b n.val a i : ℝ) : EReal))
    (e : ∀ a i, dq' (ix2 a i) = dq (ix2 a i) + ((addQ Q K V D b n a i : ℝ) : EReal)) :
    ∀ a i, dq' (ix2 a i) = ((partQ Q K V D b (n.val + 1) a i : ℝ) : EReal) := fun a i => by
  rw [e, h, ← EReal.coe_add, partQ_succ]

theorem step0_has (B : Blocks Q K V D E b) {s : Stores} (hs : Has Q K V D G H E b E.B12 E.B13 (8 * b.val + 0) s)
    (hq : ∀ a i, E.dq0 (ix2 a i) = ((partQ Q K V D b (8 * b.val + 0) a i : ℝ) : EReal)) :
    Has Q K V D G H E b E.B12 E.B13 (8 * b.val + 1) (E.step0 s)
      ∧ ∀ a i, E.dq1 (ix2 a i) = ((partQ Q K V D b (8 * b.val + 1) a i : ℝ) : EReal) :=
  ⟨step_has (dkey b 0) (off7_eq B.i1 0) (off8_eq B.i1 0) hs
    (fun old r c => diag0_k (held B) (diag_loaded B 0) (qb_eq B) (jb_eq B 0) rfl old r c)
    (fun old r c => diag0_v (held B) (diag_loaded B 0) (qb_eq B) (jb_eq B 0) rfl old r c),
   grow (dkey b 0) hq fun a i => diag0_q (held B) (diag_loaded B 0) (qb_eq B) (jb_eq B 0) rfl _ a i⟩

theorem step1_has (B : Blocks Q K V D E b) {s : Stores} (hs : Has Q K V D G H E b E.B12 E.B13 (8 * b.val + 1) s)
    (hq : ∀ a i, E.dq1 (ix2 a i) = ((partQ Q K V D b (8 * b.val + 1) a i : ℝ) : EReal)) :
    Has Q K V D G H E b E.B12 E.B13 (8 * b.val + 2) (E.step1 s)
      ∧ ∀ a i, E.dq2 (ix2 a i) = ((partQ Q K V D b (8 * b.val + 2) a i : ℝ) : EReal) :=
  ⟨step_has (dkey b 1) (off7_eq B.i1 1) (off8_eq B.i1 1) hs
    (fun old r c => diag1_k (held B) (diag_loaded B 1) (qb_eq B) (jb_eq B 1) rfl old r c)
    (fun old r c => diag1_v (held B) (diag_loaded B 1) (qb_eq B) (jb_eq B 1) rfl old r c),
   grow (dkey b 1) hq fun a i => diag1_q (held B) (diag_loaded B 1) (qb_eq B) (jb_eq B 1) rfl _ a i⟩

theorem step2_has (B : Blocks Q K V D E b) {s : Stores} (hs : Has Q K V D G H E b E.B12 E.B13 (8 * b.val + 2) s)
    (hq : ∀ a i, E.dq2 (ix2 a i) = ((partQ Q K V D b (8 * b.val + 2) a i : ℝ) : EReal)) :
    Has Q K V D G H E b E.B12 E.B13 (8 * b.val + 3) (E.step2 s)
      ∧ ∀ a i, E.dq3 (ix2 a i) = ((partQ Q K V D b (8 * b.val + 3) a i : ℝ) : EReal) :=
  ⟨step_has (dkey b 2) (off7_eq B.i1 2) (off8_eq B.i1 2) hs
    (fun old r c => diag2_k (held B) (diag_loaded B 2) (qb_eq B) (jb_eq B 2) rfl old r c)
    (fun old r c => diag2_v (held B) (diag_loaded B 2) (qb_eq B) (jb_eq B 2) rfl old r c),
   grow (dkey b 2) hq fun a i => diag2_q (held B) (diag_loaded B 2) (qb_eq B) (jb_eq B 2) rfl _ a i⟩

theorem step3_has (B : Blocks Q K V D E b) {s : Stores} (hs : Has Q K V D G H E b E.B12 E.B13 (8 * b.val + 3) s)
    (hq : ∀ a i, E.dq3 (ix2 a i) = ((partQ Q K V D b (8 * b.val + 3) a i : ℝ) : EReal)) :
    Has Q K V D G H E b E.B12 E.B13 (8 * b.val + 4) (E.step3 s)
      ∧ ∀ a i, E.dq4 (ix2 a i) = ((partQ Q K V D b (8 * b.val + 4) a i : ℝ) : EReal) :=
  ⟨step_has (dkey b 3) (off7_eq B.i1 3) (off8_eq B.i1 3) hs
    (fun old r c => diag3_k (held B) (diag_loaded B 3) (qb_eq B) (jb_eq B 3) rfl old r c)
    (fun old r c => diag3_v (held B) (diag_loaded B 3) (qb_eq B) (jb_eq B 3) rfl old r c),
   grow (dkey b 3) hq fun a i => diag3_q (held B) (diag_loaded B 3) (qb_eq B) (jb_eq B 3) rfl _ a i⟩

theorem step4_has (B : Blocks Q K V D E b) {s : Stores} (hs : Has Q K V D G H E b E.B12 E.B13 (8 * b.val + 4) s)
    (hq : ∀ a i, E.dq4 (ix2 a i) = ((partQ Q K V D b (8 * b.val + 4) a i : ℝ) : EReal)) :
    Has Q K V D G H E b E.B12 E.B13 (8 * b.val + 5) (E.step4 s)
      ∧ ∀ a i, E.dq5 (ix2 a i) = ((partQ Q K V D b (8 * b.val + 5) a i : ℝ) : EReal) :=
  ⟨step_has (dkey b 4) (off7_eq B.i1 4) (off8_eq B.i1 4) hs
    (fun old r c => diag4_k (held B) (diag_loaded B 4) (qb_eq B) (jb_eq B 4) rfl old r c)
    (fun old r c => diag4_v (held B) (diag_loaded B 4) (qb_eq B) (jb_eq B 4) rfl old r c),
   grow (dkey b 4) hq fun a i => diag4_q (held B) (diag_loaded B 4) (qb_eq B) (jb_eq B 4) rfl _ a i⟩

theorem step5_has (B : Blocks Q K V D E b) {s : Stores} (hs : Has Q K V D G H E b E.B12 E.B13 (8 * b.val + 5) s)
    (hq : ∀ a i, E.dq5 (ix2 a i) = ((partQ Q K V D b (8 * b.val + 5) a i : ℝ) : EReal)) :
    Has Q K V D G H E b E.B12 E.B13 (8 * b.val + 6) (E.step5 s)
      ∧ ∀ a i, E.dq6 (ix2 a i) = ((partQ Q K V D b (8 * b.val + 6) a i : ℝ) : EReal) :=
  ⟨step_has (dkey b 5) (off7_eq B.i1 5) (off8_eq B.i1 5) hs
    (fun old r c => diag5_k (held B) (diag_loaded B 5) (qb_eq B) (jb_eq B 5) rfl old r c)
    (fun old r c => diag5_v (held B) (diag_loaded B 5) (qb_eq B) (jb_eq B 5) rfl old r c),
   grow (dkey b 5) hq fun a i => diag5_q (held B) (diag_loaded B 5) (qb_eq B) (jb_eq B 5) rfl _ a i⟩

theorem step6_has (B : Blocks Q K V D E b) {s : Stores} (hs : Has Q K V D G H E b E.B12 E.B13 (8 * b.val + 6) s)
    (hq : ∀ a i, E.dq6 (ix2 a i) = ((partQ Q K V D b (8 * b.val + 6) a i : ℝ) : EReal)) :
    Has Q K V D G H E b E.B12 E.B13 (8 * b.val + 7) (E.step6 s)
      ∧ ∀ a i, E.dq7 (ix2 a i) = ((partQ Q K V D b (8 * b.val + 7) a i : ℝ) : EReal) :=
  ⟨step_has (dkey b 6) (off7_eq B.i1 6) (off8_eq B.i1 6) hs
    (fun old r c => diag6_k (held B) (diag_loaded B 6) (qb_eq B) (jb_eq B 6) rfl old r c)
    (fun old r c => diag6_v (held B) (diag_loaded B 6) (qb_eq B) (jb_eq B 6) rfl old r c),
   grow (dkey b 6) hq fun a i => diag6_q (held B) (diag_loaded B 6) (qb_eq B) (jb_eq B 6) rfl _ a i⟩

theorem step7_has (B : Blocks Q K V D E b) {s : Stores} (hs : Has Q K V D G H E b E.B12 E.B13 (8 * b.val + 7) s)
    (hq : ∀ a i, E.dq7 (ix2 a i) = ((partQ Q K V D b (8 * b.val + 7) a i : ℝ) : EReal)) :
    Has Q K V D G H E b E.B12 E.B13 (8 * b.val + 8) (E.step7 s)
      ∧ ∀ a i, E.dq8 (ix2 a i) = ((partQ Q K V D b (8 * b.val + 8) a i : ℝ) : EReal) :=
  ⟨step_has (dkey b 7) (off7_eq B.i1 7) (off8_eq B.i1 7) hs
    (fun old r c => diag7_k (held B) (diag_loaded B 7) (qb_eq B) (jb_eq B 7) rfl old r c)
    (fun old r c => diag7_v (held B) (diag_loaded B 7) (qb_eq B) (jb_eq B 7) rfl old r c),
   grow (dkey b 7) hq fun a i => diag7_q (held B) (diag_loaded B 7) (qb_eq B) (jb_eq B 7) rfl _ a i⟩

/-- The point's end: both outputs hold query block `b`'s part at every row, and the queries' gradient is complete. -/
theorem final_has (B : Blocks Q K V D E b) (h0 : Has Q K V D G H E b (base12 E) (base13 E) 0 ([], [])) :
    (∀ r c, E.arg12.view.read (Elt Ideal) (E.arg12.view.writes (Elt Ideal) E.B12 E.final.1) (ix3 0 r c) = ((G r c + colK Q K V D b r c : ℝ) : EReal)) ∧
    (∀ r c, E.arg13.view.read (Elt Ideal) (E.arg13.view.writes (Elt Ideal) E.B13 E.final.2) (ix3 0 r c) = ((H r c + colV Q K D b r c : ℝ) : EReal)) ∧
    ∀ a i, E.dq8 (ix2 a i) = ((gradQ Q K V D (row b i) a : ℝ) : EReal) := by
  obtain ⟨s0, q0⟩ := start_has B h0
  obtain ⟨s1, q1⟩ := step0_has B s0 q0
  obtain ⟨s2, q2⟩ := step1_has B s1 q1
  obtain ⟨s3, q3⟩ := step2_has B s2 q2
  obtain ⟨s4, q4⟩ := step3_has B s3 q3
  obtain ⟨s5, q5⟩ := step4_has B s4 q4
  obtain ⟨s6, q6⟩ := step5_has B s5 q5
  obtain ⟨s7, q7⟩ := step6_has B s6 q6
  obtain ⟨s8, q8⟩ := step7_has B s7 q7
  refine ⟨fun r c => (s8.1 r c).trans ?_, fun r c => (s8.2 r c).trans ?_, fun a i => ?_⟩
  · by_cases h : r.val < 256 * (8 * b.val + 8)
    · rw [if_pos h]
    · rw [if_neg h, colK_late Q K V D b r c h]
  · by_cases h : r.val < 256 * (8 * b.val + 8)
    · rw [if_pos h]
    · rw [if_neg h, colV_late Q K D b r c h]
  · rw [q8, partQ_end]

end Loop
end Cert.Walk
end
-- ==== Proof.Points.lean ====
module
public import proofs.«01_k».proof.Proof.Walk
public import proofs.«01_k».proof.Proof.Gen.KernelIdeal.Value
@[expose] public section

/-!
What the three outputs hold after each point of one head: the queries' gradient of the point's query block, and the
keys' and the values' gradients summed over the query blocks up to it.
-/

set_option maxRecDepth 16384
noncomputable section
namespace Cert.Points
open Cert.KernelIdeal Cert.KernelIdeal.Gen Cert.AttnGrad Cert.Tiles Cert.Chain Cert.Steps Cert.Walk
open Idealize.ShloMosaic Idealize.ShloMosaic.TcCoe

/-- The nine input blocks of a point at query block `b` of a head with real queries, keys, values and output gradient. -/
structure Reads (Q K : Fin 8192 → Fin 128 → ℝ) (V D : Fin 8192 → Fin 64 → ℝ) (b : Fin 4) (i : grid0.Coords)
    (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16) : Prop where
  i1 : (i 1).val = b.val
  r0 : ∀ (a : Fin 128) (n : Fin 2048), x0 (ix3 0 a n) = ((Q (row b n) a : ℝ) : EReal)
  r1 : ∀ (n : Fin 2048) (a : Fin 128), x1 (ix3 0 n a) = ((Q (row b n) a : ℝ) : EReal)
  r2 : ∀ (j : Fin 8192) (a : Fin 128), x2 (ix3 0 j a) = ((K j a : ℝ) : EReal)
  r3 : ∀ (n : Fin 32) (a : Fin 128) (r : Fin 256), x3 (ix4 0 n a r) = ((K (key n r) a : ℝ) : EReal)
  r4 : ∀ (j : Fin 8192) (e : Fin 64), x4 (ix3 0 j e) = ((V j e : ℝ) : EReal)
  r5 : ∀ (e : Fin 64) (n : Fin 2048), x5 (ix3 0 e n) = ((out Q K V (row b n) e : ℝ) : EReal)
  r6 : ∀ n : Fin 2048, x6 (ix3 0 0 n) = ((top Q K (row b n) + Real.log (mass Q K (row b n)) : ℝ) : EReal)
  r7 : ∀ (n : Fin 2048) (e : Fin 64), x7 (ix3 0 n e) = ((D (row b n) e : ℝ) : EReal)
  r8 : ∀ (e : Fin 64) (n : Fin 2048), x8 (ix3 0 e n) = ((D (row b n) e : ℝ) : EReal)

section
variable {Q K : Fin 8192 → Fin 128 → ℝ} {V D : Fin 8192 → Fin 64 → ℝ} {b : Fin 4}
variable (c : Dev nD) (i : grid0.Coords) (arg2 : Memref sig .tc .vmem S1x128x2048 .bf16) (harg2 : arg2.IsWhole) (arg3 : Memref sig .tc .vmem S1x2048x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x8192x64 .bf16) (harg6 : arg6.IsWhole) (arg7 : Memref sig .tc .vmem S1x64x2048 .f32) (harg7 : arg7.IsWhole) (arg8 : Memref sig .tc .vmem S1x1x2048 .f32) (harg8 : arg8.IsWhole) (arg9 : Memref sig .tc .vmem S1x2048x64 .bf16) (harg9 : arg9.IsWhole) (arg10 : Memref sig .tc .vmem S1x64x2048 .bf16) (harg10 : arg10.IsWhole) (arg11 : Memref sig .tc .vmem S1x128x2048 .f32) (harg11 : arg11.IsWhole) (arg12 : Memref sig .tc .vmem S1x8192x128 .f32) (harg12 : arg12.IsWhole) (arg13 : Memref sig .tc .vmem S1x8192x64 .f32) (harg13 : arg13.IsWhole)
variable (x0 : Vec Ideal S1x128x2048 .bf16) (x1 : Vec Ideal S1x2048x128 .bf16) (x2 : Vec Ideal S1x8192x128 .bf16) (x3 : Vec Ideal S1x32x128x256 .bf16) (x4 : Vec Ideal S1x8192x64 .bf16) (x5 : Vec Ideal S1x64x2048 .f32) (x6 : Vec Ideal S1x1x2048 .f32) (x7 : Vec Ideal S1x2048x64 .bf16) (x8 : Vec Ideal S1x64x2048 .bf16)
variable (xo10 : Vec Ideal S1x8192x128 .f32) (xo11 : Vec Ideal S1x8192x64 .f32)

theorem blocksA (R : Reads Q K V D b i x0 x1 x2 x3 x4 x5 x6 x7 x8) : Blocks Q K V D (envA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8) b :=
  ⟨R.i1, R.r0, R.r1, R.r2, R.r3, R.r4, R.r5, R.r6, R.r7, R.r8, fun _ => rfl, fun _ => rfl⟩

theorem blocksB (R : Reads Q K V D b i x0 x1 x2 x3 x4 x5 x6 x7 x8) : Blocks Q K V D (envB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11) b :=
  ⟨R.i1, R.r0, R.r1, R.r2, R.r3, R.r4, R.r5, R.r6, R.r7, R.r8, fun L => (List.append_nil L).symm, fun L => (List.append_nil L).symm⟩

theorem pay1_at (v : FVec Ideal S128x2048 .f32) (a : Fin 128) (n : Fin 2048) : k0_pay1 v (ix3 0 a n) = v (ix2 a n) := by
  pointwise [k0_pay1]

theorem pay10_at (j : Fin 8192) (a : Fin 128) : k0_pay10 (F := Ideal) (ix3 0 j a) = ((0 : ℝ) : EReal) := by
  show Ideal.ofBits .f32 0x00000000#32 = _
  exact Ideal.ofBits_zero_f32.trans EReal.coe_zero.symm

theorem pay11_at (j : Fin 8192) (e : Fin 64) : k0_pay11 (F := Ideal) (ix3 0 j e) = ((0 : ℝ) : EReal) := by
  show Ideal.ofBits .f32 0x00000000#32 = _
  exact Ideal.ofBits_zero_f32.trans EReal.coe_zero.symm

theorem startA : Has Q K V D (fun _ _ => 0) (fun _ _ => 0) (envA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8) b
    (base12 (envA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)) (base13 (envA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)) 0 ([], []) := by
  refine ⟨fun r a => ?_, fun r e => ?_⟩
  · rw [if_neg (by omega), add_zero]
    show arg12.view.read (Elt Ideal) (arg12.view.writes (Elt Ideal) arg12.view.junk
      [⟨Rect.unit (s := S1x8192x128) ![0, 0, 0] S1x8192x128.size inb_S1x8192x128_S1x8192x128_0_0_0, k0_pay10 (F := Ideal)⟩]) (ix3 0 r a) = _
    rw [View.read_writes_junk_eq_canon, View.canon_cons_unit_lit _ _ _ (by decide), pay10_at]
  · rw [if_neg (by omega), add_zero]
    show arg13.view.read (Elt Ideal) (arg13.view.writes (Elt Ideal) arg13.view.junk
      [⟨Rect.unit (s := S1x8192x64) ![0, 0, 0] S1x8192x64.size inb_S1x8192x64_S1x8192x64_0_0_0, k0_pay11 (F := Ideal)⟩]) (ix3 0 r e) = _
    rw [View.read_writes_junk_eq_canon, View.canon_cons_unit_lit _ _ _ (by decide), pay11_at]

theorem startB {G : Fin 8192 → Fin 128 → ℝ} {H : Fin 8192 → Fin 64 → ℝ}
    (hG : ∀ r a, xo10 (ix3 0 r a) = ((G r a : ℝ) : EReal)) (hH : ∀ r e, xo11 (ix3 0 r e) = ((H r e : ℝ) : EReal)) :
    Has Q K V D G H (envB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11) b
      (base12 (envB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11)) (base13 (envB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11)) 0 ([], []) := by
  refine ⟨fun r a => ?_, fun r e => ?_⟩
  · rw [if_neg (by omega), add_zero]
    show arg12.view.read (Elt Ideal) (harg12.unread xo10) (ix3 0 r a) = _
    rw [harg12.read_unread, hG]
  · rw [if_neg (by omega), add_zero]
    show arg13.view.read (Elt Ideal) (harg13.unread xo11) (ix3 0 r e) = _
    rw [harg13.read_unread, hH]

/-- A head's first point. -/
theorem pointA (hc0 : cond0_0 i) (R : Reads Q K V D b i x0 x1 x2 x3 x4 x5 x6 x7 x8) :
    (∀ a n, out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 a n) = ((gradQ Q K V D (row b n) a : ℝ) : EReal)) ∧
    (∀ r a, out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 r a) = ((colK Q K V D b r a : ℝ) : EReal)) ∧
    (∀ r e, out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 r e) = ((colV Q K D b r e : ℝ) : EReal)) := by
  obtain ⟨h1, h2, h3⟩ := final_has (blocksA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 R) (startA c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)
  refine ⟨fun a n => ?_, fun r a => ?_, fun r e => ?_⟩
  · unfold out0_A_9
    rw [runA_9, View.read_writes_junk_eq_canon, View.canon_cons_unit_lit _ _ _ (by decide), pay1_at, h3]
  · unfold out0_A_10
    rw [runA_10, View.read_writes_junk_eq_canon]
    refine Eq.trans ?_ ((h1 r a).trans (by rw [zero_add]))
    exact (congrFun (View.read_writes_junk_eq_canon arg12.view _) _).symm
  · unfold out0_A_11
    rw [runA_11, View.read_writes_junk_eq_canon]
    refine Eq.trans ?_ ((h2 r e).trans (by rw [zero_add]))
    exact (congrFun (View.read_writes_junk_eq_canon arg13.view _) _).symm

/-- A head's later point. -/
theorem pointB (hc0 : ¬cond0_0 i) (R : Reads Q K V D b i x0 x1 x2 x3 x4 x5 x6 x7 x8) {G : Fin 8192 → Fin 128 → ℝ} {H : Fin 8192 → Fin 64 → ℝ}
    (hG : ∀ r a, xo10 (ix3 0 r a) = ((G r a : ℝ) : EReal)) (hH : ∀ r e, xo11 (ix3 0 r e) = ((H r e : ℝ) : EReal)) :
    (∀ a n, out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 a n) = ((gradQ Q K V D (row b n) a : ℝ) : EReal)) ∧
    (∀ r a, out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 r a) = ((G r a + colK Q K V D b r a : ℝ) : EReal)) ∧
    (∀ r e, out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 r e) = ((H r e + colV Q K D b r e : ℝ) : EReal)) := by
  obtain ⟨h1, h2, h3⟩ := final_has (blocksB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11 R) (startB c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xo10 xo11 hG hH)
  refine ⟨fun a n => ?_, fun r a => ?_, fun r e => ?_⟩
  · unfold out0_B_9
    rw [runB_9, View.read_writes_junk_eq_canon, View.canon_cons_unit_lit _ _ _ (by decide), pay1_at, h3]
  · unfold out0_B_10
    rw [runB_10]
    exact h1 r a
  · unfold out0_B_11
    rw [runB_11]
    exact h2 r e

end

/-! ## Along the grid -/

section
variable (m : (ℓ : Loc nD τ sig) → Buf (Elt Ideal) ℓ) (c : Dev nD)
variable (Q K : Fin 8 → Fin 8192 → Fin 128 → ℝ) (V D : Fin 8 → Fin 8192 → Fin 64 → ℝ)

/-- Point `t`'s head and query block. -/
def headOf (t : Fin cfg0.N) : Fin 8 := ⟨t.val / 4, by have h : t.val < 32 := t.isLt; omega⟩
def blockOf (t : Fin cfg0.N) : Fin 4 := ⟨t.val % 4, by omega⟩

/-- The input blocks of point `t`. -/
def ReadsAt (t : Fin cfg0.N) : Prop :=
  Reads (Q (headOf t)) (K (headOf t)) (V (headOf t)) (D (headOf t)) (blockOf t) (grid0.coords t)
    (iblk m c 0 t) (iblk m c 1 t) (iblk m c 2 t) (iblk m c 3 t) (iblk m c 4 t) (iblk m c 5 t) (iblk m c 6 t) (iblk m c 7 t) (iblk m c 8 t)

set_option maxHeartbeats 2000000 in
/-- A head's first point, on the grid. -/
theorem first (t : Fin cfg0.N) (R : ReadsAt m c Q K V D t) (h0 : t.val % 4 = 0) :
    (∀ a i, (outsAt0 (F := Ideal) m c t.val t.isLt).1 (ix3 0 a i)
      = ((gradQ (Q (headOf t)) (K (headOf t)) (V (headOf t)) (D (headOf t)) (row (blockOf t) i) a : ℝ) : EReal)) ∧
    (∀ r a, (outsAt0 (F := Ideal) m c t.val t.isLt).2.1 (ix3 0 r a)
      = ((colK (Q (headOf t)) (K (headOf t)) (V (headOf t)) (D (headOf t)) (blockOf t) r a : ℝ) : EReal)) ∧
    (∀ r e, (outsAt0 (F := Ideal) m c t.val t.isLt).2.2 (ix3 0 r e)
      = ((colV (Q (headOf t)) (K (headOf t)) (D (headOf t)) (blockOf t) r e : ℝ) : EReal)) := by
  have p := pointA (Q := Q (headOf t)) (K := K (headOf t)) (V := V (headOf t)) (D := D (headOf t)) (b := blockOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ _ _ ((hcond0_0 t).mpr h0) R
  rw [outsAt0_A (F := Ideal) m c t h0]
  dsimp only
  exact ⟨p.1, p.2.1, p.2.2⟩

set_option maxHeartbeats 2000000 in
/-- A head's later point, on the grid. -/
theorem later (t : Fin cfg0.N) (R : ReadsAt m c Q K V D t) (h0 : ¬t.val % 4 = 0) {G : Fin 8192 → Fin 128 → ℝ} {H : Fin 8192 → Fin 64 → ℝ}
    (hG : ∀ r a, (outsAt0 (F := Ideal) m c (t.val - 1) (Nat.lt_of_le_of_lt (Nat.sub_le _ _) t.isLt)).2.1 (ix3 0 r a) = ((G r a : ℝ) : EReal))
    (hH : ∀ r e, (outsAt0 (F := Ideal) m c (t.val - 1) (Nat.lt_of_le_of_lt (Nat.sub_le _ _) t.isLt)).2.2 (ix3 0 r e) = ((H r e : ℝ) : EReal)) :
    (∀ a i, (outsAt0 (F := Ideal) m c t.val t.isLt).1 (ix3 0 a i)
      = ((gradQ (Q (headOf t)) (K (headOf t)) (V (headOf t)) (D (headOf t)) (row (blockOf t) i) a : ℝ) : EReal)) ∧
    (∀ r a, (outsAt0 (F := Ideal) m c t.val t.isLt).2.1 (ix3 0 r a)
      = ((G r a + colK (Q (headOf t)) (K (headOf t)) (V (headOf t)) (D (headOf t)) (blockOf t) r a : ℝ) : EReal)) ∧
    (∀ r e, (outsAt0 (F := Ideal) m c t.val t.isLt).2.2 (ix3 0 r e)
      = ((H r e + colV (Q (headOf t)) (K (headOf t)) (D (headOf t)) (blockOf t) r e : ℝ) : EReal)) := by
  have p := pointB (Q := Q (headOf t)) (K := K (headOf t)) (V := V (headOf t)) (D := D (headOf t)) (b := blockOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ _ _ _ _ (fun h => h0 ((hcond0_0 t).mp h)) R hG hH
  rw [outsAt0_B (F := Ideal) m c t h0]
  dsimp only
  exact ⟨p.1, p.2.1, p.2.2⟩

/-- The part of a sum over the query blocks that point `n` has reached. -/
def upTo (n : ℕ) (f : Fin 4 → ℝ) : ℝ := ∑ b : Fin 4, if b.val ≤ n % 4 then f b else 0

theorem upTo_first (n : ℕ) (h : n % 4 = 0) (b : Fin 4) (hb : b.val = n % 4) (f : Fin 4 → ℝ) : f b = upTo n f := by
  have e : b = 0 := Fin.ext (hb.trans h)
  rw [upTo, Fin.sum_univ_four, h, e]; simp

theorem upTo_later (n : ℕ) (h : ¬(n + 1) % 4 = 0) (b : Fin 4) (hb : b.val = (n + 1) % 4) (f : Fin 4 → ℝ) : upTo n f + f b = upTo (n + 1) f := by
  have h4 : n % 4 < 4 := Nat.mod_lt _ (by omega)
  obtain h | h | h : n % 4 = 0 ∨ n % 4 = 1 ∨ n % 4 = 2 := by omega
  · have e : b = 1 := Fin.ext (by show b.val = 1; omega)
    rw [e, upTo, upTo, Fin.sum_univ_four, Fin.sum_univ_four, h, show (n + 1) % 4 = 1 by omega]; simp
  · have e : b = 2 := Fin.ext (by show b.val = 2; omega)
    rw [e, upTo, upTo, Fin.sum_univ_four, Fin.sum_univ_four, h, show (n + 1) % 4 = 2 by omega]; simp
  · have e : b = 3 := Fin.ext (by show b.val = 3; omega)
    rw [e, upTo, upTo, Fin.sum_univ_four, Fin.sum_univ_four, h, show (n + 1) % 4 = 3 by omega]; simp

/-- After point `n`: its queries' gradient, and the other two summed over the head's query blocks so far. -/
theorem outs_at (R : ∀ t, ReadsAt m c Q K V D t) (n : ℕ) : ∀ (t : Fin cfg0.N), t.val = n →
    (∀ a i, (outsAt0 (F := Ideal) m c t.val t.isLt).1 (ix3 0 a i)
      = ((gradQ (Q (headOf t)) (K (headOf t)) (V (headOf t)) (D (headOf t)) (row (blockOf t) i) a : ℝ) : EReal)) ∧
    (∀ r a, (outsAt0 (F := Ideal) m c t.val t.isLt).2.1 (ix3 0 r a)
      = ((upTo t.val fun b => colK (Q (headOf t)) (K (headOf t)) (V (headOf t)) (D (headOf t)) b r a : ℝ) : EReal)) ∧
    (∀ r e, (outsAt0 (F := Ideal) m c t.val t.isLt).2.2 (ix3 0 r e)
      = ((upTo t.val fun b => colV (Q (headOf t)) (K (headOf t)) (D (headOf t)) b r e : ℝ) : EReal)) := by
  induction n with
  | zero =>
    intro t ht
    have h0 : t.val % 4 = 0 := by omega
    obtain ⟨p1, p2, p3⟩ := first m c Q K V D t (R t) h0
    exact ⟨p1, fun r a => (p2 r a).trans (congrArg _ (upTo_first t.val h0 (blockOf t) rfl fun b => colK _ _ _ _ b r a)),
      fun r e => (p3 r e).trans (congrArg _ (upTo_first t.val h0 (blockOf t) rfl fun b => colV _ _ _ b r e))⟩
  | succ n ih =>
    intro t ht
    by_cases h0 : t.val % 4 = 0
    · obtain ⟨p1, p2, p3⟩ := first m c Q K V D t (R t) h0
      exact ⟨p1, fun r a => (p2 r a).trans (congrArg _ (upTo_first t.val h0 (blockOf t) rfl fun b => colK _ _ _ _ b r a)),
        fun r e => (p3 r e).trans (congrArg _ (upTo_first t.val h0 (blockOf t) rfl fun b => colV _ _ _ b r e))⟩
    · have hp : t.val - 1 = n := by omega
      have hs : (t.val - 1) + 1 = t.val := by omega
      obtain ⟨-, q2, q3⟩ := ih ⟨t.val - 1, Nat.lt_of_le_of_lt (Nat.sub_le _ _) t.isLt⟩ hp
      have hh : headOf ⟨t.val - 1, Nat.lt_of_le_of_lt (Nat.sub_le _ _) t.isLt⟩ = headOf t :=
        Fin.ext (by show (t.val - 1) / 4 = t.val / 4; omega)
      rw [hh] at q2 q3
      obtain ⟨p1, p2, p3⟩ := later m c Q K V D t (R t) h0 q2 q3
      have hl := upTo_later (t.val - 1) (by rw [hs]; exact h0) (blockOf t) (by rw [hs]; rfl)
      rw [hs] at hl
      exact ⟨p1, fun r a => (p2 r a).trans (congrArg _ (hl fun b => colK _ _ _ _ b r a)),
        fun r e => (p3 r e).trans (congrArg _ (hl fun b => colV _ _ _ b r e))⟩

end

/-! ## The four query blocks together -/

/-- A sum over the queries is a sum over the query blocks and the rows of each. -/
theorem sum_rows (f : Fin 8192 → ℝ) : ∑ b : Fin 4, ∑ i : Fin 2048, f (row b i) = ∑ i : Fin 8192, f i := by
  rw [← Fintype.sum_prod_type']
  refine Fintype.sum_equiv ⟨fun p => row p.1 p.2, fun j => (⟨j.val / 2048, by omega⟩, ⟨j.val % 2048, by omega⟩), ?_, ?_⟩ _ _ fun _ => rfl
  · rintro ⟨b, i⟩
    refine Prod.ext (Fin.ext ?_) (Fin.ext ?_)
    · show (2048 * b.val + i.val) / 2048 = b.val; omega
    · show (2048 * b.val + i.val) % 2048 = i.val; omega
  · intro j
    refine Fin.ext ?_
    show 2048 * (j.val / 2048) + j.val % 2048 = j.val; omega

theorem sum_colK (Q K : Fin 8192 → Fin 128 → ℝ) (V D : Fin 8192 → Fin 64 → ℝ) (r : Fin 8192) (a : Fin 128) :
    (∑ b : Fin 4, if b.val ≤ 3 then colK Q K V D b r a else 0) = gradK Q K V D r a := by
  rw [Finset.sum_congr rfl fun (b : Fin 4) _ => if_pos (by omega : b.val ≤ 3)]
  exact sum_rows fun i => dscore Q K V D i r * Q i a

theorem sum_colV (Q K : Fin 8192 → Fin 128 → ℝ) (D : Fin 8192 → Fin 64 → ℝ) (r : Fin 8192) (e : Fin 64) :
    (∑ b : Fin 4, if b.val ≤ 3 then colV Q K D b r e else 0) = gradV Q K D r e := by
  rw [Finset.sum_congr rfl fun (b : Fin 4) _ => if_pos (by omega : b.val ≤ 3)]
  exact sum_rows fun i => prob Q K i r * D i e

end Cert.Points
end
-- ==== Proof.Windows.lean ====
module
public import proofs.«01_k».proof.Proof.Points
public import Idealize.ShloMosaic.Lib.Pipeline.ValueKit
@[expose] public section

/-!
Where each window's block lies in its array: head `t / 4`, and for the windows over the queries also query block `t % 4`.
-/

set_option maxRecDepth 16384
noncomputable section
namespace Cert.Windows
open Cert.KernelIdeal Cert.KernelIdeal.Gen Cert.Tiles Cert.Points
open Idealize.ShloMosaic Idealize.ShloMosaic.TcCoe

variable {F : FTy → Type} [FloatOps F] [Named F]
variable (m : (ℓ : Loc nD τ sig) → Buf (Elt F) ℓ) (c : Dev nD)

theorem idx0 : ∀ t : Fin cfg0.N, win0_0.index t = ![t.val / 4, 0, t.val % 4] :=
  (by decide +kernel : ∀ t : Fin grid0.N, win0_0.index t = ![t.val / 4, 0, t.val % 4])
theorem idx1 : ∀ t : Fin cfg0.N, win0_1.index t = ![t.val / 4, t.val % 4, 0] :=
  (by decide +kernel : ∀ t : Fin grid0.N, win0_1.index t = ![t.val / 4, t.val % 4, 0])
theorem idx2 : ∀ t : Fin cfg0.N, win0_2.index t = ![t.val / 4, 0, 0] :=
  (by decide +kernel : ∀ t : Fin grid0.N, win0_2.index t = ![t.val / 4, 0, 0])
theorem idx3 : ∀ t : Fin cfg0.N, win0_3.index t = ![t.val / 4, 0, 0, 0] :=
  (by decide +kernel : ∀ t : Fin grid0.N, win0_3.index t = ![t.val / 4, 0, 0, 0])
theorem idx4 : ∀ t : Fin cfg0.N, win0_4.index t = ![t.val / 4, 0, 0] :=
  (by decide +kernel : ∀ t : Fin grid0.N, win0_4.index t = ![t.val / 4, 0, 0])
theorem idx5 : ∀ t : Fin cfg0.N, win0_5.index t = ![t.val / 4, 0, t.val % 4] :=
  (by decide +kernel : ∀ t : Fin grid0.N, win0_5.index t = ![t.val / 4, 0, t.val % 4])
theorem idx6 : ∀ t : Fin cfg0.N, win0_6.index t = ![t.val / 4, 0, t.val % 4] :=
  (by decide +kernel : ∀ t : Fin grid0.N, win0_6.index t = ![t.val / 4, 0, t.val % 4])
theorem idx7 : ∀ t : Fin cfg0.N, win0_7.index t = ![t.val / 4, t.val % 4, 0] :=
  (by decide +kernel : ∀ t : Fin grid0.N, win0_7.index t = ![t.val / 4, t.val % 4, 0])
theorem idx8 : ∀ t : Fin cfg0.N, win0_8.index t = ![t.val / 4, 0, t.val % 4] :=
  (by decide +kernel : ∀ t : Fin grid0.N, win0_8.index t = ![t.val / 4, 0, t.val % 4])
theorem idx9 : ∀ t : Fin cfg0.N, win0_9.index t = ![t.val / 4, 0, t.val % 4] :=
  (by decide +kernel : ∀ t : Fin grid0.N, win0_9.index t = ![t.val / 4, 0, t.val % 4])
theorem idx10 : ∀ t : Fin cfg0.N, win0_10.index t = ![t.val / 4, 0, 0] :=
  (by decide +kernel : ∀ t : Fin grid0.N, win0_10.index t = ![t.val / 4, 0, 0])
theorem idx11 : ∀ t : Fin cfg0.N, win0_11.index t = ![t.val / 4, 0, 0] :=
  (by decide +kernel : ∀ t : Fin grid0.N, win0_11.index t = ![t.val / 4, 0, 0])

theorem coord1 : ∀ t : Fin cfg0.N, ((grid0.coords t) 1).val = t.val % 4 :=
  (by decide +kernel : ∀ t : Fin grid0.N, ((grid0.coords t) 1).val = t.val % 4)

theorem blk0 (t : Fin cfg0.N) (a : Fin 128) (n : Fin 2048) : iblk m c 0 t (ix3 0 a n) = V m c main_v25 (ix3 (headOf t) a (row (blockOf t) n)) := by
  show V m c main_v25 _ = _
  refine congrArg (V m c main_v25) (funext fun x => Fin.ext ?_)
  match x with
  | ⟨0, _⟩ =>
    refine (Pipeline.Window.rect_emb_val (cfg0.win 0) t _ _ rfl).trans ((congrArg (fun q : Nat => q * 1 + 0) (congrFun (idx0 t) 0)).trans ?_)
    show (t.val / 4) * 1 + 0 = t.val / 4
    omega
  | ⟨1, _⟩ =>
    refine (Pipeline.Window.rect_emb_val (cfg0.win 0) t _ _ rfl).trans ((congrArg (fun q : Nat => q * 128 + a.val) (congrFun (idx0 t) 1)).trans ?_)
    show (0) * 128 + a.val = a.val
    omega
  | ⟨2, _⟩ =>
    refine (Pipeline.Window.rect_emb_val (cfg0.win 0) t _ _ rfl).trans ((congrArg (fun q : Nat => q * 2048 + n.val) (congrFun (idx0 t) 2)).trans ?_)
    show (t.val % 4) * 2048 + n.val = 2048 * (t.val % 4) + n.val
    omega

theorem blk1 (t : Fin cfg0.N) (n : Fin 2048) (a : Fin 128) : iblk m c 1 t (ix3 0 n a) = V m c main_arg0 (ix3 (headOf t) (row (blockOf t) n) a) := by
  show V m c main_arg0 _ = _
  refine congrArg (V m c main_arg0) (funext fun x => Fin.ext ?_)
  match x with
  | ⟨0, _⟩ =>
    refine (Pipeline.Window.rect_emb_val (cfg0.win 1) t _ _ rfl).trans ((congrArg (fun q : Nat => q * 1 + 0) (congrFun (idx1 t) 0)).trans ?_)
    show (t.val / 4) * 1 + 0 = t.val / 4
    omega
  | ⟨1, _⟩ =>
    refine (Pipeline.Window.rect_emb_val (cfg0.win 1) t _ _ rfl).trans ((congrArg (fun q : Nat => q * 2048 + n.val) (congrFun (idx1 t) 1)).trans ?_)
    show (t.val % 4) * 2048 + n.val = 2048 * (t.val % 4) + n.val
    omega
  | ⟨2, _⟩ =>
    refine (Pipeline.Window.rect_emb_val (cfg0.win 1) t _ _ rfl).trans ((congrArg (fun q : Nat => q * 128 + a.val) (congrFun (idx1 t) 2)).trans ?_)
    show (0) * 128 + a.val = a.val
    omega

theorem blk2 (t : Fin cfg0.N) (j : Fin 8192) (a : Fin 128) : iblk m c 2 t (ix3 0 j a) = V m c main_arg1 (ix3 (headOf t) j a) := by
  show V m c main_arg1 _ = _
  refine congrArg (V m c main_arg1) (funext fun x => Fin.ext ?_)
  match x with
  | ⟨0, _⟩ =>
    refine (Pipeline.Window.rect_emb_val (cfg0.win 2) t _ _ rfl).trans ((congrArg (fun q : Nat => q * 1 + 0) (congrFun (idx2 t) 0)).trans ?_)
    show (t.val / 4) * 1 + 0 = t.val / 4
    omega
  | ⟨1, _⟩ =>
    refine (Pipeline.Window.rect_emb_val (cfg0.win 2) t _ _ rfl).trans ((congrArg (fun q : Nat => q * 8192 + j.val) (congrFun (idx2 t) 1)).trans ?_)
    show (0) * 8192 + j.val = j.val
    omega
  | ⟨2, _⟩ =>
    refine (Pipeline.Window.rect_emb_val (cfg0.win 2) t _ _ rfl).trans ((congrArg (fun q : Nat => q * 128 + a.val) (congrFun (idx2 t) 2)).trans ?_)
    show (0) * 128 + a.val = a.val
    omega

theorem blk3 (t : Fin cfg0.N) (n : Fin 32) (a : Fin 128) (r : Fin 256) : iblk m c 3 t (ix4 0 n a r) = V m c main_v27 (ix4 (headOf t) n a r) := by
  show V m c main_v27 _ = _
  refine congrArg (V m c main_v27) (funext fun x => Fin.ext ?_)
  match x with
  | ⟨0, _⟩ =>
    refine (Pipeline.Window.rect_emb_val (cfg0.win 3) t _ _ rfl).trans ((congrArg (fun q : Nat => q * 1 + 0) (congrFun (idx3 t) 0)).trans ?_)
    show (t.val / 4) * 1 + 0 = t.val / 4
    omega
  | ⟨1, _⟩ =>
    refine (Pipeline.Window.rect_emb_val (cfg0.win 3) t _ _ rfl).trans ((congrArg (fun q : Nat => q * 32 + n.val) (congrFun (idx3 t) 1)).trans ?_)
    show (0) * 32 + n.val = n.val
    omega
  | ⟨2, _⟩ =>
    refine (Pipeline.Window.rect_emb_val (cfg0.win 3) t _ _ rfl).trans ((congrArg (fun q : Nat => q * 128 + a.val) (congrFun (idx3 t) 2)).trans ?_)
    show (0) * 128 + a.val = a.val
    omega
  | ⟨3, _⟩ =>
    refine (Pipeline.Window.rect_emb_val (cfg0.win 3) t _ _ rfl).trans ((congrArg (fun q : Nat => q * 256 + r.val) (congrFun (idx3 t) 3)).trans ?_)
    show (0) * 256 + r.val = r.val
    omega

theorem blk4 (t : Fin cfg0.N) (j : Fin 8192) (e : Fin 64) : iblk m c 4 t (ix3 0 j e) = V m c main_arg2 (ix3 (headOf t) j e) := by
  show V m c main_arg2 _ = _
  refine congrArg (V m c main_arg2) (funext fun x => Fin.ext ?_)
  match x with
  | ⟨0, _⟩ =>
    refine (Pipeline.Window.rect_emb_val (cfg0.win 4) t _ _ rfl).trans ((congrArg (fun q : Nat => q * 1 + 0) (congrFun (idx4 t) 0)).trans ?_)
    show (t.val / 4) * 1 + 0 = t.val / 4
    omega
  | ⟨1, _⟩ =>
    refine (Pipeline.Window.rect_emb_val (cfg0.win 4) t _ _ rfl).trans ((congrArg (fun q : Nat => q * 8192 + j.val) (congrFun (idx4 t) 1)).trans ?_)
    show (0) * 8192 + j.val = j.val
    omega
  | ⟨2, _⟩ =>
    refine (Pipeline.Window.rect_emb_val (cfg0.win 4) t _ _ rfl).trans ((congrArg (fun q : Nat => q * 64 + e.val) (congrFun (idx4 t) 2)).trans ?_)
    show (0) * 64 + e.val = e.val
    omega

theorem blk5 (t : Fin cfg0.N) (e : Fin 64) (n : Fin 2048) : iblk m c 5 t (ix3 0 e n) = V m c main_v21 (ix3 (headOf t) e (row (blockOf t) n)) := by
  show V m c main_v21 _ = _
  refine congrArg (V m c main_v21) (funext fun x => Fin.ext ?_)
  match x with
  | ⟨0, _⟩ =>
    refine (Pipeline.Window.rect_emb_val (cfg0.win 5) t _ _ rfl).trans ((congrArg (fun q : Nat => q * 1 + 0) (congrFun (idx5 t) 0)).trans ?_)
    show (t.val / 4) * 1 + 0 = t.val / 4
    omega
  | ⟨1, _⟩ =>
    refine (Pipeline.Window.rect_emb_val (cfg0.win 5) t _ _ rfl).trans ((congrArg (fun q : Nat => q * 64 + e.val) (congrFun (idx5 t) 1)).trans ?_)
    show (0) * 64 + e.val = e.val
    omega
  | ⟨2, _⟩ =>
    refine (Pipeline.Window.rect_emb_val (cfg0.win 5) t _ _ rfl).trans ((congrArg (fun q : Nat => q * 2048 + n.val) (congrFun (idx5 t) 2)).trans ?_)
    show (t.val % 4) * 2048 + n.val = 2048 * (t.val % 4) + n.val
    omega

theorem blk6 (t : Fin cfg0.N) (n : Fin 2048) : iblk m c 6 t (ix3 0 0 n) = V m c main_v24 (ix3 (headOf t) 0 (row (blockOf t) n)) := by
  show V m c main_v24 _ = _
  refine congrArg (V m c main_v24) (funext fun x => Fin.ext ?_)
  match x with
  | ⟨0, _⟩ =>
    refine (Pipeline.Window.rect_emb_val (cfg0.win 6) t _ _ rfl).trans ((congrArg (fun q : Nat => q * 1 + 0) (congrFun (idx6 t) 0)).trans ?_)
    show (t.val / 4) * 1 + 0 = t.val / 4
    omega
  | ⟨1, _⟩ =>
    refine (Pipeline.Window.rect_emb_val (cfg0.win 6) t _ _ rfl).trans ((congrArg (fun q : Nat => q * 1 + 0) (congrFun (idx6 t) 1)).trans ?_)
    show (0) * 1 + 0 = 0
    omega
  | ⟨2, _⟩ =>
    refine (Pipeline.Window.rect_emb_val (cfg0.win 6) t _ _ rfl).trans ((congrArg (fun q : Nat => q * 2048 + n.val) (congrFun (idx6 t) 2)).trans ?_)
    show (t.val % 4) * 2048 + n.val = 2048 * (t.val % 4) + n.val
    omega

theorem blk7 (t : Fin cfg0.N) (n : Fin 2048) (e : Fin 64) : iblk m c 7 t (ix3 0 n e) = V m c main_arg3 (ix3 (headOf t) (row (blockOf t) n) e) := by
  show V m c main_arg3 _ = _
  refine congrArg (V m c main_arg3) (funext fun x => Fin.ext ?_)
  match x with
  | ⟨0, _⟩ =>
    refine (Pipeline.Window.rect_emb_val (cfg0.win 7) t _ _ rfl).trans ((congrArg (fun q : Nat => q * 1 + 0) (congrFun (idx7 t) 0)).trans ?_)
    show (t.val / 4) * 1 + 0 = t.val / 4
    omega
  | ⟨1, _⟩ =>
    refine (Pipeline.Window.rect_emb_val (cfg0.win 7) t _ _ rfl).trans ((congrArg (fun q : Nat => q * 2048 + n.val) (congrFun (idx7 t) 1)).trans ?_)
    show (t.val % 4) * 2048 + n.val = 2048 * (t.val % 4) + n.val
    omega
  | ⟨2, _⟩ =>
    refine (Pipeline.Window.rect_emb_val (cfg0.win 7) t _ _ rfl).trans ((congrArg (fun q : Nat => q * 64 + e.val) (congrFun (idx7 t) 2)).trans ?_)
    show (0) * 64 + e.val = e.val
    omega

theorem blk8 (t : Fin cfg0.N) (e : Fin 64) (n : Fin 2048) : iblk m c 8 t (ix3 0 e n) = V m c main_v28 (ix3 (headOf t) e (row (blockOf t) n)) := by
  show V m c main_v28 _ = _
  refine congrArg (V m c main_v28) (funext fun x => Fin.ext ?_)
  match x with
  | ⟨0, _⟩ =>
    refine (Pipeline.Window.rect_emb_val (cfg0.win 8) t _ _ rfl).trans ((congrArg (fun q : Nat => q * 1 + 0) (congrFun (idx8 t) 0)).trans ?_)
    show (t.val / 4) * 1 + 0 = t.val / 4
    omega
  | ⟨1, _⟩ =>
    refine (Pipeline.Window.rect_emb_val (cfg0.win 8) t _ _ rfl).trans ((congrArg (fun q : Nat => q * 64 + e.val) (congrFun (idx8 t) 1)).trans ?_)
    show (0) * 64 + e.val = e.val
    omega
  | ⟨2, _⟩ =>
    refine (Pipeline.Window.rect_emb_val (cfg0.win 8) t _ _ rfl).trans ((congrArg (fun q : Nat => q * 2048 + n.val) (congrFun (idx8 t) 2)).trans ?_)
    show (t.val % 4) * 2048 + n.val = 2048 * (t.val % 4) + n.val
    omega

theorem emb9 (t : Fin cfg0.N) (a : Fin 128) (n : Fin 2048) :
    (((cfg0.win 9).blk t).view.emb (ix3 0 a n) : S8x128x8192.Idx) = ix3 (headOf t) a (row (blockOf t) n) := by
  refine funext fun x => Fin.ext ?_
  match x with
  | ⟨0, _⟩ =>
    refine (Pipeline.Window.rect_emb_val (cfg0.win 9) t _ _ rfl).trans ((congrArg (fun q : Nat => q * 1 + 0) (congrFun (idx9 t) 0)).trans ?_)
    show (t.val / 4) * 1 + 0 = t.val / 4
    omega
  | ⟨1, _⟩ =>
    refine (Pipeline.Window.rect_emb_val (cfg0.win 9) t _ _ rfl).trans ((congrArg (fun q : Nat => q * 128 + a.val) (congrFun (idx9 t) 1)).trans ?_)
    show (0) * 128 + a.val = a.val
    omega
  | ⟨2, _⟩ =>
    refine (Pipeline.Window.rect_emb_val (cfg0.win 9) t _ _ rfl).trans ((congrArg (fun q : Nat => q * 2048 + n.val) (congrFun (idx9 t) 2)).trans ?_)
    show (t.val % 4) * 2048 + n.val = 2048 * (t.val % 4) + n.val
    omega

theorem emb10 (t : Fin cfg0.N) (j : Fin 8192) (a : Fin 128) :
    (((cfg0.win 10).blk t).view.emb (ix3 0 j a) : S8x8192x128.Idx) = ix3 (headOf t) j a := by
  refine funext fun x => Fin.ext ?_
  match x with
  | ⟨0, _⟩ =>
    refine (Pipeline.Window.rect_emb_val (cfg0.win 10) t _ _ rfl).trans ((congrArg (fun q : Nat => q * 1 + 0) (congrFun (idx10 t) 0)).trans ?_)
    show (t.val / 4) * 1 + 0 = t.val / 4
    omega
  | ⟨1, _⟩ =>
    refine (Pipeline.Window.rect_emb_val (cfg0.win 10) t _ _ rfl).trans ((congrArg (fun q : Nat => q * 8192 + j.val) (congrFun (idx10 t) 1)).trans ?_)
    show (0) * 8192 + j.val = j.val
    omega
  | ⟨2, _⟩ =>
    refine (Pipeline.Window.rect_emb_val (cfg0.win 10) t _ _ rfl).trans ((congrArg (fun q : Nat => q * 128 + a.val) (congrFun (idx10 t) 2)).trans ?_)
    show (0) * 128 + a.val = a.val
    omega

theorem emb11 (t : Fin cfg0.N) (j : Fin 8192) (e : Fin 64) :
    (((cfg0.win 11).blk t).view.emb (ix3 0 j e) : S8x8192x64.Idx) = ix3 (headOf t) j e := by
  refine funext fun x => Fin.ext ?_
  match x with
  | ⟨0, _⟩ =>
    refine (Pipeline.Window.rect_emb_val (cfg0.win 11) t _ _ rfl).trans ((congrArg (fun q : Nat => q * 1 + 0) (congrFun (idx11 t) 0)).trans ?_)
    show (t.val / 4) * 1 + 0 = t.val / 4
    omega
  | ⟨1, _⟩ =>
    refine (Pipeline.Window.rect_emb_val (cfg0.win 11) t _ _ rfl).trans ((congrArg (fun q : Nat => q * 8192 + j.val) (congrFun (idx11 t) 1)).trans ?_)
    show (0) * 8192 + j.val = j.val
    omega
  | ⟨2, _⟩ =>
    refine (Pipeline.Window.rect_emb_val (cfg0.win 11) t _ _ rfl).trans ((congrArg (fun q : Nat => q * 64 + e.val) (congrFun (idx11 t) 2)).trans ?_)
    show (0) * 64 + e.val = e.val
    omega

end Cert.Windows
end
-- ==== Proof.HostValue.lean ====
/- What the host lines before the call leave for its windows: the transposed queries and output gradient, the key
   blocks, and from reference.py's attention lines the transposed output and the row's log of the sum of exponentials. -/
module

public import proofs.«01_k».proof.Proof.Spec
public import proofs.«01_k».proof.Proof.RefValue
public import proofs.«01_k».proof.Proof.Tiles
public import proofs.«01_k».proof.Proof.Gen.KernelIdeal.Frame.Runs
public import Idealize.ShloMosaic.Lib.IdealHost
public import Idealize.ShloMosaic.Lib.Claim
public import Idealize.ShloMosaic.Lib.StableHlo.RunRead

@[expose] public section

set_option maxRecDepth 16384

noncomputable section

namespace Cert.HostValue

open Cert.KernelIdeal Cert.KernelIdeal.Gen Cert.AttnGrad
open Idealize.ShloMosaic Idealize.ShloMosaic.TcCoe

section
variable {F : FTy → Type} [FloatOps F]
variable (x0 x1 : (⟨S8x8192x128, .bf16⟩ : BufTy).Contents (Elt F)) (x2 x3 : (⟨S8x8192x64, .bf16⟩ : BufTy).Contents (Elt F))

/-- The scores. -/
def scoreArr : FVec F S8x8192x8192 .f32 :=
  Host.dotGeneral dot_S8x8192x128_S8x8192x128_S8x8192x8192_2_2_1_1_0_0 none (extf .f32 x0 bitsLt_bf16_f32) (extf .f32 x1 bitsLt_bf16_f32)
/-- Whether a query sees a key. -/
def seen : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
/-- The masked scores. -/
def maskedArr : FVec F S8x8192x8192 .f32 :=
  select (broadcastInDim S8x8192x8192 ![1, 2] bcast_S8192x8192_S8x8192x8192_1_2 seen) (scoreArr x0 x1)
    (broadcastInDim S8x8192x8192 ![] bcast_S_S8x8192x8192 (constant (F := F) S_ .f32 0xFF800000#32))
/-- Each row's largest masked score. -/
def topArr : FVec F S8x8192x1 .f32 :=
  broadcastInDim S8x8192x1 ![0, 1] bcast_S8x8192_S8x8192x1_0_1
    (Host.reduce FloatOps.maximumf (maskedArr x0 x1) (constant (F := F) S_ .f32 0xFF800000#32) reducesTo_S8x8192x8192_S8x8192_d2 h_S_)
/-- The unnormalised weights. -/
def wtArr : FVec F S8x8192x8192 .f32 :=
  Host.exp (subf (maskedArr x0 x1) (broadcastInDim S8x8192x8192 ![0, 1, 2] bcast_S8x8192x1_S8x8192x8192_0_1_2 (topArr x0 x1)))
/-- Their sums. -/
def massArr : FVec F S8x8192x1 .f32 :=
  broadcastInDim S8x8192x1 ![0, 1] bcast_S8x8192_S8x8192x1_0_1
    (Host.reduceAdd (wtArr x0 x1) (constant (F := F) S_ .f32 0x00000000#32) reducesTo_S8x8192x8192_S8x8192_d2 h_S_)
/-- The attention probabilities. -/
def probArr : FVec F S8x8192x8192 .f32 :=
  Host.divf (wtArr x0 x1) (broadcastInDim S8x8192x8192 ![0, 1, 2] bcast_S8x8192x1_S8x8192x8192_0_1_2 (massArr x0 x1))
/-- The attention's output. -/
def outArr : FVec F S8x8192x64 .f32 :=
  Host.dotGeneral dot_S8x8192x8192_S8x8192x64_S8x8192x64_2_1_1_2_0_0 none (probArr x0 x1) (extf .f32 x2 bitsLt_bf16_f32)
/-- Each row's log of its sum of exponentials. -/
def lseArr : FVec F S8x8192x1 .f32 := addf (topArr x0 x1) (Host.log (massArr x0 x1))

end

section
variable {x0 x1 : (⟨S8x8192x128, .bf16⟩ : BufTy).Contents (Elt Ideal)} {x2 x3 : (⟨S8x8192x64, .bf16⟩ : BufTy).Contents (Elt Ideal)}
variable {Q K : Fin 8 → Fin 8192 → Fin 128 → ℝ} {V D : Fin 8 → Fin 8192 → Fin 64 → ℝ}

theorem seen_at (i j : Fin 8192) : seen (ix2 i j) = if j ≤ i then 1#1 else 0#1 := by
  rw [← RefValue.cmp_pos]
  pointwise [seen]

variable (h0 : ∀ h i a, x0 (ix3 h i a) = ((Q h i a : ℝ) : EReal)) (h1 : ∀ h i a, x1 (ix3 h i a) = ((K h i a : ℝ) : EReal))
include h0 h1

theorem score_at (h : Fin 8) (i j : Fin 8192) : scoreArr x0 x1 (ix3 h i j) = ((score (Q h) (K h) i j : ℝ) : EReal) := by
  pointwise [scoreArr]
  simp only [h0, h1]
  exact coe_sum_mul _ _ _

theorem masked_at (h : Fin 8) (i j : Fin 8192) : maskedArr x0 x1 (ix3 h i j) = masked (Q h) (K h) i j := by
  have e : maskedArr x0 x1 (ix3 h i j) = Scalar.select (seen (ix2 i j)) (scoreArr x0 x1 (ix3 h i j)) (Ideal.ofBits .f32 0xFF800000#32) := by
    unfold maskedArr
    generalize scoreArr x0 x1 = y
    generalize seen = z
    refine congrArg (fun w => Scalar.select w (y (ix3 h i j)) (Ideal.ofBits .f32 0xFF800000#32)) ?_
    exact broadcastInDim_apply _ bcast_S8192x8192_S8x8192x8192_1_2 z (ix3 h i j) (ix2 i j) (fun a => match a with
      | ⟨0, _⟩ => by show i.val = if (8192 : Nat) = 1 then 0 else i.val; rw [if_neg (by decide)]
      | ⟨1, _⟩ => by show j.val = if (8192 : Nat) = 1 then 0 else j.val; rw [if_neg (by decide)])
  rw [e, seen_at, score_at h0 h1, RefValue.bits_bot, masked]
  by_cases hij : j ≤ i
  · rw [if_pos hij, if_pos hij]; rfl
  · rw [if_neg hij, if_neg hij]; rfl

omit h0 h1 in
/-- A row's one value, read off the array with a column. -/
theorem column_at (y : FVec Ideal S8x8192 .f32) (h : Fin 8) (i : Fin 8192) (z : Fin 1) :
    broadcastInDim S8x8192x1 ![0, 1] bcast_S8x8192_S8x8192x1_0_1 y (ix3 h i z) = y (ix2 h i) :=
  broadcastInDim_apply _ bcast_S8x8192_S8x8192x1_0_1 y (ix3 h i z) (ix2 h i) (fun a => match a with
    | ⟨0, _⟩ => by show h.val = if (8 : Nat) = 1 then 0 else h.val; rw [if_neg (by decide)]
    | ⟨1, _⟩ => by show i.val = if (8192 : Nat) = 1 then 0 else i.val; rw [if_neg (by decide)])

omit h0 h1 in
/-- A row's one value, repeated along the row. -/
theorem along_at (y : FVec Ideal S8x8192x1 .f32) (h : Fin 8) (i j : Fin 8192) :
    broadcastInDim S8x8192x8192 ![0, 1, 2] bcast_S8x8192x1_S8x8192x8192_0_1_2 y (ix3 h i j) = y (ix3 h i 0) :=
  broadcastInDim_apply _ bcast_S8x8192x1_S8x8192x8192_0_1_2 y (ix3 h i j) (ix3 h i 0) (fun a => match a with
    | ⟨0, _⟩ => by show h.val = if (8 : Nat) = 1 then 0 else h.val; rw [if_neg (by decide)]
    | ⟨1, _⟩ => by show i.val = if (8192 : Nat) = 1 then 0 else i.val; rw [if_neg (by decide)]
    | ⟨2, _⟩ => by show 0 = if (1 : Nat) = 1 then 0 else j.val; rw [if_pos rfl])

omit h0 h1 in
theorem sum_row (y : S8x8192x8192.Idx → EReal) (z : S_.Idx → EReal) (h : Fin 8) (i : Fin 8192) :
    Host.reduceAdd (F := Ideal) (φ := .f32) y z reducesTo_S8x8192x8192_S8x8192_d2 h_S_ (ix2 h i)
      = z (Shape.Idx.first h_S_) + ∑ j : Fin 8192, y (ix3 h i j) := by
  simp only [Host.reduceAdd, Ideal.hostReduceAdd_def]
  rw [Ideal.hostReduceAdd_single reducesTo_S8x8192x8192_S8x8192_d2 (by decide)]
  refine congrArg (_ + ·) (Finset.sum_congr rfl fun j _ => ?_)
  exact congrArg y (funext fun a => by match a with | ⟨0, _⟩ => rfl | ⟨1, _⟩ => rfl | ⟨2, _⟩ => rfl)

theorem top_at (h : Fin 8) (i : Fin 8192) (z : Fin 1) : topArr x0 x1 (ix3 h i z) = ((top (Q h) (K h) i : ℝ) : EReal) := by
  have hm : (fun j => maskedArr x0 x1 (ix3 h i j)) = masked (Q h) (K h) i := funext fun j => masked_at h0 h1 h i j
  have e : topArr x0 x1 (ix3 h i z) = Host.reduce (α := EReal) (FloatOps.maximumf (F := Ideal) (φ := .f32)) (maskedArr x0 x1)
      (constant (F := Ideal) S_ .f32 0xFF800000#32) reducesTo_S8x8192x8192_S8x8192_d2 h_S_ (ix2 h i) := by
    unfold topArr
    exact column_at _ h i z
  rw [e, RefValue.max_row, hm, ← fold_masked]
  exact congrArg (fun t => Finset.univ.fold max t _) RefValue.bits_bot

theorem wt_at (h : Fin 8) (i j : Fin 8192) : wtArr x0 x1 (ix3 h i j) = ((wt (Q h) (K h) i j : ℝ) : EReal) := by
  unfold wtArr
  show Ideal.exp (maskedArr x0 x1 (ix3 h i j) - broadcastInDim S8x8192x8192 ![0, 1, 2] bcast_S8x8192x1_S8x8192x8192_0_1_2 (topArr x0 x1) (ix3 h i j)) = _
  rw [along_at, masked_at h0 h1, top_at h0 h1]
  exact exp_masked (Q h) (K h) i j

theorem mass_at (h : Fin 8) (i : Fin 8192) (z : Fin 1) : massArr x0 x1 (ix3 h i z) = ((mass (Q h) (K h) i : ℝ) : EReal) := by
  unfold massArr
  rw [column_at, sum_row, mass, coe_sum]
  refine (congrArg (· + _) RefValue.bits_zero).trans ((zero_add _).trans ?_)
  exact Finset.sum_congr rfl fun j _ => wt_at h0 h1 h i j

theorem prob_at (h : Fin 8) (i j : Fin 8192) : probArr x0 x1 (ix3 h i j) = ((prob (Q h) (K h) i j : ℝ) : EReal) := by
  unfold probArr
  show Ideal.div (wtArr x0 x1 (ix3 h i j)) (broadcastInDim S8x8192x8192 ![0, 1, 2] bcast_S8x8192x1_S8x8192x8192_0_1_2 (massArr x0 x1) (ix3 h i j)) = _
  rw [along_at, wt_at h0 h1, mass_at h0 h1]
  exact div_real _ _ (mass_pos _ _ _).ne'

end

end Cert.HostValue
end
-- ==== Proof.HostArrays.lean ====
/- What the windows' arrays hold as the call begins: the transposed queries and output gradient, the key blocks, and from
   reference.py's attention lines the transposed output and each row's log of the sum of exponentials. -/
module

public import proofs.«01_k».proof.Proof.HostValue

@[expose] public section

set_option maxRecDepth 16384

noncomputable section

namespace Cert.HostValue

open Cert.KernelIdeal Cert.KernelIdeal.Gen Cert.AttnGrad
open Idealize.ShloMosaic Idealize.ShloMosaic.TcCoe

section
variable {x0 x1 : (⟨S8x8192x128, .bf16⟩ : BufTy).Contents (Elt Ideal)} {x2 x3 : (⟨S8x8192x64, .bf16⟩ : BufTy).Contents (Elt Ideal)}
variable {Q K : Fin 8 → Fin 8192 → Fin 128 → ℝ} {V D : Fin 8 → Fin 8192 → Fin 64 → ℝ}

theorem lse_cell (y w : FVec Ideal S8x8192x1 .f32) (x : S8x8192x1.Idx) (t l : EReal) (hy : y x = t) (hw : Ideal.log (w x) = l) :
    addf y (Host.log w) x = t + l := by
  rw [← hy, ← hw]
  rfl

variable (h0 : ∀ h i a, x0 (ix3 h i a) = ((Q h i a : ℝ) : EReal)) (h1 : ∀ h i a, x1 (ix3 h i a) = ((K h i a : ℝ) : EReal))
include h0 h1

theorem lse_at (h : Fin 8) (i : Fin 8192) (z : Fin 1) :
    lseArr x0 x1 (ix3 h i z) = ((top (Q h) (K h) i + Real.log (mass (Q h) (K h) i) : ℝ) : EReal) := by
  rw [EReal.coe_add]
  exact lse_cell (topArr x0 x1) (massArr x0 x1) (ix3 h i z) _ _ (top_at h0 h1 h i z)
    ((congrArg Ideal.log (mass_at h0 h1 h i z)).trans (log_real _ (mass_pos _ _ _)))

variable (h2 : ∀ h i a, x2 (ix3 h i a) = ((V h i a : ℝ) : EReal))
include h2

theorem out_at (h : Fin 8) (i : Fin 8192) (e : Fin 64) : outArr x0 x1 x2 (ix3 h i e) = ((out (Q h) (K h) (V h) i e : ℝ) : EReal) := by
  pointwise [outArr]
  simp only [prob_at h0 h1, h2]
  exact coe_sum_mul _ _ _

end

/-- The key blocks with their rows and columns exchanged, read at an index. -/
theorem keys_cast (y : FVec Ideal S8x8192x128 .bf16) (h : Fin 8) (n : Fin 32) (a : Fin 128) (r : Fin 256) :
    transpose S8x32x128x256 [0, 1, 3, 2] (shapeCast S8x32x256x128 y shapeCasts_S8x8192x128_S8x32x256x128)
      transposes_S8x32x256x128_S8x32x128x256_0_1_3_2 (ix4 h n a r) = y (ix3 h (Tiles.key n r) a) := by
  refine (transpose_apply [0, 1, 3, 2] _ transposes_S8x32x256x128_S8x32x128x256_0_1_3_2 (ix4 h n a r) (ix4 h n r a) (fun b => match b with
    | ⟨0, _⟩ => rfl
    | ⟨1, _⟩ => rfl
    | ⟨2, _⟩ => rfl
    | ⟨3, _⟩ => rfl)).trans ?_
  refine shapeCast_apply y shapeCasts_S8x8192x128_S8x32x256x128 (ix4 h n r a) (ix3 h (Tiles.key n r) a) ?_
  rw [Shape.rowMajor_val_three, Shape.rowMajor_val_four]
  show (h.val * 8192 + (256 * n.val + r.val)) * 128 + a.val = ((h.val * 32 + n.val) * 256 + r.val) * 128 + a.val
  omega

/-! ## The windows' arrays -/

section
variable {F : FTy → Type} [FloatOps F] [Named F] (m : (ℓ : Loc nD τ sig) → Buf (Elt F) ℓ) (c : Dev nD)

theorem V_out : V m c main_v21 = transpose S8x64x8192 [0, 2, 1]
    (outArr (m ((c : Thread nD τ).loc main_arg0)) (m ((c : Thread nD τ).loc main_arg1)) (m ((c : Thread nD τ).loc main_arg2)))
    transposes_S8x8192x64_S8x64x8192_0_2_1 := by
  show StableHlo.after (hostOps0 ++ (hostOps0_1 ++ (hostOps0_2 ++ []))) (fun b => m (c, b)) (Proc.tc.devRef main_v21) = _
  after_reads_simp
  try simp -implicitDefEqProofs only [StableHlo.TRef.toBuf, StableHlo.TRef.ofBuf, cast_cast, cast_eq, id_eq]
  try rfl
theorem V_lse : V m c main_v24 = transpose S8x1x8192 [0, 2, 1]
    (lseArr (m ((c : Thread nD τ).loc main_arg0)) (m ((c : Thread nD τ).loc main_arg1)))
    transposes_S8x8192x1_S8x1x8192_0_2_1 := by
  show StableHlo.after (hostOps0 ++ (hostOps0_1 ++ (hostOps0_2 ++ []))) (fun b => m (c, b)) (Proc.tc.devRef main_v24) = _
  after_reads_simp
  try simp -implicitDefEqProofs only [StableHlo.TRef.toBuf, StableHlo.TRef.ofBuf, cast_cast, cast_eq, id_eq]
  try rfl
theorem V_qt : V m c main_v25 = transpose S8x128x8192 [0, 2, 1] (m ((c : Thread nD τ).loc main_arg0))
    transposes_S8x8192x128_S8x128x8192_0_2_1 := by
  show StableHlo.after (hostOps0 ++ (hostOps0_1 ++ (hostOps0_2 ++ []))) (fun b => m (c, b)) (Proc.tc.devRef main_v25) = _
  after_reads_simp
  try simp -implicitDefEqProofs only [StableHlo.TRef.toBuf, StableHlo.TRef.ofBuf, cast_cast, cast_eq, id_eq]
  try rfl
theorem V_keys : V m c main_v27 = transpose S8x32x128x256 [0, 1, 3, 2]
    (shapeCast S8x32x256x128 (m ((c : Thread nD τ).loc main_arg1)) shapeCasts_S8x8192x128_S8x32x256x128)
    transposes_S8x32x256x128_S8x32x128x256_0_1_3_2 := by
  show StableHlo.after (hostOps0 ++ (hostOps0_1 ++ (hostOps0_2 ++ []))) (fun b => m (c, b)) (Proc.tc.devRef main_v27) = _
  after_reads_simp
  try simp -implicitDefEqProofs only [StableHlo.TRef.toBuf, StableHlo.TRef.ofBuf, cast_cast, cast_eq, id_eq]
  try rfl
theorem V_dot : V m c main_v28 = transpose S8x64x8192 [0, 2, 1] (m ((c : Thread nD τ).loc main_arg3))
    transposes_S8x8192x64_S8x64x8192_0_2_1 := by
  show StableHlo.after (hostOps0 ++ (hostOps0_1 ++ (hostOps0_2 ++ []))) (fun b => m (c, b)) (Proc.tc.devRef main_v28) = _
  after_reads_simp
  try simp -implicitDefEqProofs only [StableHlo.TRef.toBuf, StableHlo.TRef.ofBuf, cast_cast, cast_eq, id_eq]
  try rfl

end

section
variable (m : (ℓ : Loc nD τ sig) → Buf (Elt Ideal) ℓ) (c : Dev nD)
variable {Q K : Fin 8 → Fin 8192 → Fin 128 → ℝ} {V' D : Fin 8 → Fin 8192 → Fin 64 → ℝ}

theorem qt_at (h0 : ∀ h i a, m ((c : Thread nD τ).loc main_arg0) (ix3 h i a) = ((Q h i a : ℝ) : EReal)) (h : Fin 8) (a : Fin 128) (i : Fin 8192) :
    V m c main_v25 (ix3 h a i) = ((Q h i a : ℝ) : EReal) := by
  rw [V_qt, ← h0]
  pointwise

theorem dot_at (h3 : ∀ h i a, m ((c : Thread nD τ).loc main_arg3) (ix3 h i a) = ((D h i a : ℝ) : EReal)) (h : Fin 8) (a : Fin 64) (i : Fin 8192) :
    V m c main_v28 (ix3 h a i) = ((D h i a : ℝ) : EReal) := by
  rw [V_dot, ← h3]
  pointwise

theorem keys_at (h1 : ∀ h i a, m ((c : Thread nD τ).loc main_arg1) (ix3 h i a) = ((K h i a : ℝ) : EReal)) (h : Fin 8) (n : Fin 32) (a : Fin 128) (r : Fin 256) :
    V m c main_v27 (ix4 h n a r) = ((K h (Tiles.key n r) a : ℝ) : EReal) := by
  rw [V_keys, ← h1]
  exact keys_cast (m ((c : Thread nD τ).loc main_arg1)) h n a r

section
variable (h0 : ∀ h i a, m ((c : Thread nD τ).loc main_arg0) (ix3 h i a) = ((Q h i a : ℝ) : EReal))
  (h1 : ∀ h i a, m ((c : Thread nD τ).loc main_arg1) (ix3 h i a) = ((K h i a : ℝ) : EReal))
include h0 h1

theorem vlse_at (h : Fin 8) (z : Fin 1) (i : Fin 8192) :
    V m c main_v24 (ix3 h z i) = ((top (Q h) (K h) i + Real.log (mass (Q h) (K h) i) : ℝ) : EReal) := by
  rw [V_lse, ← lse_at h0 h1 h i z]
  generalize lseArr (F := Ideal) _ _ = y
  exact transpose_apply [0, 2, 1] y transposes_S8x8192x1_S8x1x8192_0_2_1 (ix3 h z i) (ix3 h i z) (fun b => match b with
    | ⟨0, _⟩ => rfl
    | ⟨1, _⟩ => rfl
    | ⟨2, _⟩ => rfl)

theorem vout_at (h2 : ∀ h i a, m ((c : Thread nD τ).loc main_arg2) (ix3 h i a) = ((V' h i a : ℝ) : EReal)) (h : Fin 8) (a : Fin 64) (i : Fin 8192) :
    V m c main_v21 (ix3 h a i) = ((out (Q h) (K h) (V' h) i a : ℝ) : EReal) := by
  rw [V_out, ← out_at h0 h1 h2 h i a]
  generalize outArr (F := Ideal) _ _ _ = y
  exact transpose_apply [0, 2, 1] y transposes_S8x8192x64_S8x64x8192_0_2_1 (ix3 h a i) (ix3 h i a) (fun b => match b with
    | ⟨0, _⟩ => rfl
    | ⟨1, _⟩ => rfl
    | ⟨2, _⟩ => rfl)
end

end

end Cert.HostValue
end
-- ==== Proof.Arrays.lean ====
module
public import proofs.«01_k».proof.Proof.Windows
public import proofs.«01_k».proof.Proof.HostArrays
@[expose] public section

/-!
The three result arrays after the call: every head's query gradient, key gradient and value gradient.
-/

set_option maxRecDepth 16384
noncomputable section
namespace Cert.Arrays
open Cert.KernelIdeal Cert.KernelIdeal.Gen Cert.Tiles Cert.Points Cert.Windows Cert.AttnGrad
open Cert.KernelIdeal.Value
open Idealize.ShloMosaic Idealize.ShloMosaic.TcCoe

/-- Two heads' last blocks share no place. -/
theorem disjoint10 (t t' : Fin cfg0.N) (hf : (cfg0.win 10).flush t = true) (hf' : (cfg0.win 10).flush t' = true) (hne : t ≠ t') :
    Disjoint ((cfg0.win 10).blk t).view.set ((cfg0.win 10).blk t').view.set := by
  refine (cfg0.win 10).disjoint_blk fun h => hne (Fin.ext ?_)
  have e : t.val / 4 = t'.val / 4 := congrFun ((idx10 t).symm.trans (h.trans (idx10 t'))) 0
  have f := (flush0_10 t).1 hf
  have f' := (flush0_10 t').1 hf'
  omega

/-- Two heads' last blocks share no place. -/
theorem disjoint11 (t t' : Fin cfg0.N) (hf : (cfg0.win 11).flush t = true) (hf' : (cfg0.win 11).flush t' = true) (hne : t ≠ t') :
    Disjoint ((cfg0.win 11).blk t).view.set ((cfg0.win 11).blk t').view.set := by
  refine (cfg0.win 11).disjoint_blk fun h => hne (Fin.ext ?_)
  have e : t.val / 4 = t'.val / 4 := congrFun ((idx11 t).symm.trans (h.trans (idx11 t'))) 0
  have f := (flush0_11 t).1 hf
  have f' := (flush0_11 t').1 hf'
  omega

variable (m : (ℓ : Loc nD τ sig) → Buf (Elt Ideal) ℓ) (c : Dev nD)
variable {Q K : Fin 8 → Fin 8192 → Fin 128 → ℝ} {V' D : Fin 8 → Fin 8192 → Fin 64 → ℝ}
variable (h0 : ∀ h i a, m ((c : Thread nD τ).loc main_arg0) (ix3 h i a) = ((Q h i a : ℝ) : EReal))
  (h1 : ∀ h i a, m ((c : Thread nD τ).loc main_arg1) (ix3 h i a) = ((K h i a : ℝ) : EReal))
  (h2 : ∀ h i a, m ((c : Thread nD τ).loc main_arg2) (ix3 h i a) = ((V' h i a : ℝ) : EReal))
  (h3 : ∀ h i a, m ((c : Thread nD τ).loc main_arg3) (ix3 h i a) = ((D h i a : ℝ) : EReal))
include h0 h1 h2 h3

/-- The call's blocks hold the heads' queries, keys, values, outputs and output gradients. -/
theorem readsAt (t : Fin cfg0.N) : ReadsAt m c Q K V' D t where
  i1 := coord1 t
  r0 := fun a n => (blk0 m c t a n).trans (HostValue.qt_at m c h0 _ _ _)
  r1 := fun n a => (blk1 m c t n a).trans ((congrFun (V_main_arg0 m c) _).trans (h0 _ _ _))
  r2 := fun j a => (blk2 m c t j a).trans ((congrFun (V_main_arg1 m c) _).trans (h1 _ _ _))
  r3 := fun n a r => (blk3 m c t n a r).trans (HostValue.keys_at m c h1 _ _ _ _)
  r4 := fun j e => (blk4 m c t j e).trans ((congrFun (V_main_arg2 m c) _).trans (h2 _ _ _))
  r5 := fun e n => (blk5 m c t e n).trans (HostValue.vout_at m c h0 h1 h2 _ _ _)
  r6 := fun n => (blk6 m c t n).trans (HostValue.vlse_at m c h0 h1 _ _ _)
  r7 := fun n e => (blk7 m c t n e).trans ((congrFun (V_main_arg3 m c) _).trans (h3 _ _ _))
  r8 := fun e n => (blk8 m c t e n).trans (HostValue.dot_at m c h3 _ _ _)

theorem arr9 (h : Fin 8) (a : Fin 128) (i : Fin 8192) :
    (dats m 0 c).arrAt 9 cfg0.N (ix3 h a i) = ((gradQ (Q h) (K h) (V' h) (D h) i a : ℝ) : EReal) := by
  have hh := h.isLt
  have hi := i.isLt
  let t : Fin cfg0.N := ⟨4 * h.val + i.val / 2048, by show _ < 32; omega⟩
  let n : Fin 2048 := ⟨i.val % 2048, by omega⟩
  have hn : n.val = i.val % 2048 := rfl
  have eh : headOf t = h := Fin.ext (by show (4 * h.val + i.val / 2048) / 4 = h.val; omega)
  have er : row (blockOf t) n = i := Fin.ext (by show 2048 * ((4 * h.val + i.val / 2048) % 4) + i.val % 2048 = i.val; omega)
  have o := (outs_at m c Q K V' D (readsAt m c h0 h1 h2 h3) t.val t rfl).1 a n
  have e := congrFun ((blocks9 m c t (flush0_9 t)).trans (flushed9 m c t)) (ix3 0 a n)
  have g := congrArg ((dats m 0 c).arrAt 9 cfg0.N) (emb9 t a n)
  rw [eh, er] at g o
  exact g.symm.trans (e.trans o)

theorem last_flush (h : Fin 8) : ∃ t : Fin cfg0.N, t.val % 4 = 3 ∧ headOf t = h := by
  have hh := h.isLt
  exact ⟨⟨4 * h.val + 3, by show _ < 32; omega⟩, by show (4 * h.val + 3) % 4 = 3; omega, Fin.ext (by show (4 * h.val + 3) / 4 = h.val; omega)⟩

theorem arr10 (h : Fin 8) (r : Fin 8192) (a : Fin 128) :
    (dats m 0 c).arrAt 10 cfg0.N (ix3 h r a) = ((gradK (Q h) (K h) (V' h) (D h) r a : ℝ) : EReal) := by
  obtain ⟨t, ht, eh⟩ := last_flush m c h0 h1 h2 h3 h
  have o := (outs_at m c Q K V' D (readsAt m c h0 h1 h2 h3) t.val t rfl).2.1 r a
  have e := congrFun (((dats m 0 c).read_blk_arrAt_eq_flushed 10 disjoint10 cfg0.N t t.isLt ((flush0_10 t).2 ht)).trans (flushed10 m c t)) (ix3 0 r a)
  have g := congrArg ((dats m 0 c).arrAt 10 cfg0.N) (emb10 t r a)
  rw [eh] at g o
  rw [upTo, ht, sum_colK] at o
  exact g.symm.trans (e.trans o)

theorem arr11 (h : Fin 8) (r : Fin 8192) (e : Fin 64) :
    (dats m 0 c).arrAt 11 cfg0.N (ix3 h r e) = ((gradV (Q h) (K h) (D h) r e : ℝ) : EReal) := by
  obtain ⟨t, ht, eh⟩ := last_flush m c h0 h1 h2 h3 h
  have o := (outs_at m c Q K V' D (readsAt m c h0 h1 h2 h3) t.val t rfl).2.2 r e
  have f := congrFun (((dats m 0 c).read_blk_arrAt_eq_flushed 11 disjoint11 cfg0.N t t.isLt ((flush0_11 t).2 ht)).trans (flushed11 m c t)) (ix3 0 r e)
  have g := congrArg ((dats m 0 c).arrAt 11 cfg0.N) (emb11 t r e)
  rw [eh] at g o
  rw [upTo, ht, sum_colV] at o
  exact g.symm.trans (f.trans o)

end Cert.Arrays
end
-- ==== Proof.Entry.lean ====
module
public import proofs.«01_k».proof.Defs
public import proofs.«01_k».proof.Proof.Arrays
@[expose] public section

/-!
The preconditions read: with them, every entry of the arguments that they name is a real number.
-/

set_option maxRecDepth 16384
noncomputable section
namespace Cert.Entry
open Idealize.ShloMosaic Idealize.ShloMosaic.TcCoe

theorem pre_facts : Cert.Pre_finite.Facts where
  bitsLt_bf16_f32 := by decide
  bcast_S_S8x8192x128 := by decide
  bcast_S_S8x8192x64 := by decide

theorem bits_top : Ideal.ofBits .f32 0x7F800000#32 = (⊤ : EReal) := by
  simp [Ideal.ofBits, Ideal.ieee]

theorem lt_of_cmp (x : EReal) (h : Ideal.cmp .olt (max x (-x)) (Ideal.ofBits .f32 0x7F800000#32) = 1#1) : ((x.toReal : ℝ) : EReal) = x := by
  refine AttnGrad.coe_toReal_of_abs ?_
  rw [bits_top] at h
  by_contra hx
  revert h
  simp [Ideal.cmp, hx]

theorem pre_facts_qk : Cert.Pre_finite_qk.Facts where
  bitsLt_bf16_f32 := by decide
  bcast_S_S8x8192x128 := by decide

section
variable [Cert.Pre_finite.Facts]

theorem reals (x0 x1 : FVec Ideal Cert.Pre_finite.S8x8192x128 .bf16) (x2 x3 : FVec Ideal Cert.Pre_finite.S8x8192x64 .bf16)
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2.1 = (fun _ => 1#1)
      ∧ (Cert.Pre_finite.fn (F := Ideal) x0 x1 x2 x3).2.2.2 = (fun _ => 1#1)) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  obtain ⟨h0, h1, h2, h3⟩ := h
  exact ⟨fun i => (lt_of_cmp _ (congrFun h0 i)).symm, fun i => (lt_of_cmp _ (congrFun h1 i)).symm,
    fun i => (lt_of_cmp _ (congrFun h2 i)).symm, fun i => (lt_of_cmp _ (congrFun h3 i)).symm⟩

end

variable [Cert.Pre_finite_qk.Facts]

theorem reals_qk (x0 x1 : FVec Ideal Cert.Pre_finite_qk.S8x8192x128 .bf16) (x2 : FVec Ideal Cert.Pre_finite_qk.S8x8192x64 .bf16)
    (h : (Cert.Pre_finite_qk.fn (F := Ideal) x0 x1 x2).1 = (fun _ => 1#1)
      ∧ (Cert.Pre_finite_qk.fn (F := Ideal) x0 x1 x2).2 = (fun _ => 1#1)) :
    (∀ i, x0 i = (((x0 i : EReal).toReal : ℝ) : EReal)) ∧ (∀ i, x1 i = (((x1 i : EReal).toReal : ℝ) : EReal)) := by
  obtain ⟨h0, h1⟩ := h
  exact ⟨fun i => (lt_of_cmp _ (congrFun h0 i)).symm, fun i => (lt_of_cmp _ (congrFun h1 i)).symm⟩

end Cert.Entry
end
-- ==== Proof.Products.lean ====
module
public import Idealize.ShloMosaic.Lib.Pipeline.ValueKit
public import Idealize.ShloMosaic.Lib.Pipeline.ReadBack
public import Idealize.ShloMosaic.Lib.Pointwise.Contract
public import Idealize.ShloMosaic.Lib.StableHlo.RunRead
@[expose] public section

/-!
Matrix products at any sizes: the sums the calls' results are stated by, the kernels' block products as such sums, and a
product summed over blocks of its contraction.
-/

noncomputable section
namespace Cert.Products
open Idealize.ShloMosaic
open scoped BigOperators

variable {p k n : Nat}

/-- Two places of a matrix with the same row and the same column are one. -/
theorem idx_ext {s : Fin 2 → Nat} {i j : Shape.Idx ⟨2, s⟩} (h0 : (i 0).val = (j 0).val) (h1 : (i 1).val = (j 1).val) : i = j :=
  funext fun x => Fin.ext (match x with
    | ⟨0, _⟩ => h0
    | ⟨1, _⟩ => h1)

/-- The transposed matrix. -/
def flip (x : FVec Ideal ⟨2, ![p, n]⟩ .bf16) : FVec Ideal ⟨2, ![n, p]⟩ .bf16 := fun i => x (ix2 (i 1) (i 0))

/-- The product of two matrices. -/
def mul (x : FVec Ideal ⟨2, ![p, k]⟩ .bf16) (w : FVec Ideal ⟨2, ![k, n]⟩ .bf16) (i : Shape.Idx ⟨2, ![p, n]⟩) : EReal :=
  ∑ r : Fin k, x (ix2 (i 0) r) * w (ix2 r (i 1))

theorem transpose_eq_flip (x : FVec Ideal ⟨2, ![p, n]⟩ .bf16) (h : Shape.Transposes ⟨2, ![p, n]⟩ [1, 0] ⟨2, ![n, p]⟩) :
    transpose ⟨2, ![n, p]⟩ [1, 0] x h = flip x :=
  funext fun j => transpose_apply [1, 0] x h j (ix2 (j 1) (j 0)) (fun b => match b with
    | ⟨0, _⟩ => rfl
    | ⟨1, _⟩ => rfl)

/-- A row repeated down the rows of a matrix. -/
theorem row_at (g : FVec Ideal ⟨2, ![1, n]⟩ .f32) (h : Shape.Broadcasts ⟨2, ![1, n]⟩ ⟨2, ![p, n]⟩) (j : Shape.Idx ⟨2, ![p, n]⟩) :
    broadcastTo ⟨2, ![p, n]⟩ g h j = g (ix2 0 (j 1)) :=
  broadcastTo_apply g h j (ix2 0 (j 1)) (fun a => match a with
    | ⟨0, _⟩ => rfl
    | ⟨1, _⟩ => by
      show (j 1).val = if n = 1 then 0 else (j 1).val
      have : (j 1).val < n := (j 1).isLt
      split <;> omega)

/-- A block product over a zero accumulator. -/
theorem matmul_eq (h : DotDims.WF ⟨2, ![p, k]⟩ ⟨2, ![k, n]⟩ ⟨2, ![p, n]⟩ [1] [0] [0] [1] [] [])
    (x : FVec Ideal ⟨2, ![p, k]⟩ .bf16) (w : FVec Ideal ⟨2, ![k, n]⟩ .bf16) :
    matmul ⟨[1], [0], [0], [1], [], [], h⟩ none x w (constant (F := Ideal) ⟨2, ![p, n]⟩ .f32 0x00000000#32) = mul x w := by
  funext j
  refine (Ideal.matmul_apply₁_of ⟨[1], [0], [0], [1], [], [], h⟩ rfl rfl x w _ j
    (fun r => ix2 (j 0) r) (fun r => ix2 r (j 1)) (fun _ => idx_ext rfl rfl) (fun _ => idx_ext rfl rfl)).trans ?_
  show Ideal.ofBits .f32 0x00000000#32 + _ = _
  rw [Ideal.ofBits_zero_f32, zero_add]
  rfl

/-- A block product with a transposed left side, over a zero accumulator. -/
theorem matmul_flip_eq (h : DotDims.WF ⟨2, ![k, p]⟩ ⟨2, ![k, n]⟩ ⟨2, ![p, n]⟩ [0] [0] [1] [1] [] [])
    (x : FVec Ideal ⟨2, ![k, p]⟩ .bf16) (w : FVec Ideal ⟨2, ![k, n]⟩ .bf16) :
    matmul ⟨[0], [0], [1], [1], [], [], h⟩ none x w (constant (F := Ideal) ⟨2, ![p, n]⟩ .f32 0x00000000#32) = mul (flip x) w := by
  funext j
  refine (Ideal.matmul_apply₁_of ⟨[0], [0], [1], [1], [], [], h⟩ rfl rfl x w _ j
    (fun r => ix2 r (j 0)) (fun r => ix2 r (j 1)) (fun _ => idx_ext rfl rfl) (fun _ => idx_ext rfl rfl)).trans ?_
  show Ideal.ofBits .f32 0x00000000#32 + _ = _
  rw [Ideal.ofBits_zero_f32, zero_add]
  rfl

/-- A product of blocks at a place is the arrays' product at another, where the blocks' row and column are the arrays'. -/
theorem mul_congr {p' n' : Nat} {x : FVec Ideal ⟨2, ![p, k]⟩ .bf16} {w : FVec Ideal ⟨2, ![k, n]⟩ .bf16} {x' : FVec Ideal ⟨2, ![p', k]⟩ .bf16}
    {w' : FVec Ideal ⟨2, ![k, n']⟩ .bf16} {j : Shape.Idx ⟨2, ![p, n]⟩} {i : Shape.Idx ⟨2, ![p', n']⟩}
    (hx : ∀ r, x (ix2 (j 0) r) = x' (ix2 (i 0) r)) (hw : ∀ r, w (ix2 r (j 1)) = w' (ix2 r (i 1))) : mul x w j = mul x' w' i :=
  Finset.sum_congr rfl fun r _ => congrArg₂ (· * ·) (hx r) (hw r)

/-- A running sum restarted every `J` points: after a run's last point it is the arrays' product, where the run's blocks
    together are the arrays' row and column. -/
theorem run_mul {N J b p' n' : Nat} [NeZero J] {f : (t : Nat) → t < N → Shape.Idx ⟨2, ![p, n]⟩ → EReal}
    {x : Fin N → FVec Ideal ⟨2, ![p, b]⟩ .bf16} {w : Fin N → FVec Ideal ⟨2, ![b, n]⟩ .bf16}
    {x' : FVec Ideal ⟨2, ![p', k]⟩ .bf16} {w' : FVec Ideal ⟨2, ![k, n']⟩ .bf16}
    (h0 : ∀ t : Fin N, t.val % J = 0 → ∀ j, f t.val t.isLt j = mul (x t) (w t) j)
    (hs : ∀ t : Fin N, ¬t.val % J = 0 → ∀ j,
      f t.val t.isLt j = f (t.val - 1) (Nat.lt_of_le_of_lt (Nat.sub_le _ _) t.isLt) j + mul (x t) (w t) j)
    (hk : k = J * b) (t : Fin N) (ht : t.val % J = J - 1) (j : Shape.Idx ⟨2, ![p, n]⟩) (i : Shape.Idx ⟨2, ![p', n']⟩)
    (hx : ∀ (u : Fin N) (s : Fin J) (r : Fin b) (h : s.val * b + r.val < k), u.val = J * (t.val / J) + s.val →
      x u (ix2 (j 0) r) = x' (ix2 (i 0) ⟨s.val * b + r.val, h⟩))
    (hw : ∀ (u : Fin N) (s : Fin J) (r : Fin b) (h : s.val * b + r.val < k), u.val = J * (t.val / J) + s.val →
      w u (ix2 r (j 1)) = w' (ix2 ⟨s.val * b + r.val, h⟩ (i 1))) :
    f t.val t.isLt j = mul x' w' i := by
  rw [Pipeline.eq_sum_fin_of_reset_step_apply_of_flush f J (fun _ => 0) (fun t j => mul (x t) (w t) j)
    (fun t h j => (h0 t h j).trans (zero_add _).symm) hs t ht j, zero_add]
  exact Fin.sum_mul_add_congr (fun s r h => congrArg₂ (· * ·) (hx _ s r h rfl) (hw _ s r h rfl)) hk

/-- The same with the left blocks transposed. -/
theorem run_flip_mul {N J b p' n' : Nat} [NeZero J] {f : (t : Nat) → t < N → Shape.Idx ⟨2, ![p, n]⟩ → EReal}
    {x : Fin N → FVec Ideal ⟨2, ![b, p]⟩ .bf16} {w : Fin N → FVec Ideal ⟨2, ![b, n]⟩ .bf16}
    {x' : FVec Ideal ⟨2, ![k, p']⟩ .bf16} {w' : FVec Ideal ⟨2, ![k, n']⟩ .bf16}
    (h0 : ∀ t : Fin N, t.val % J = 0 → ∀ j, f t.val t.isLt j = mul (flip (x t)) (w t) j)
    (hs : ∀ t : Fin N, ¬t.val % J = 0 → ∀ j,
      f t.val t.isLt j = f (t.val - 1) (Nat.lt_of_le_of_lt (Nat.sub_le _ _) t.isLt) j + mul (flip (x t)) (w t) j)
    (hk : k = J * b) (t : Fin N) (ht : t.val % J = J - 1) (j : Shape.Idx ⟨2, ![p, n]⟩) (i : Shape.Idx ⟨2, ![p', n']⟩)
    (hx : ∀ (u : Fin N) (s : Fin J) (r : Fin b) (h : s.val * b + r.val < k), u.val = J * (t.val / J) + s.val →
      x u (ix2 r (j 0)) = x' (ix2 ⟨s.val * b + r.val, h⟩ (i 0)))
    (hw : ∀ (u : Fin N) (s : Fin J) (r : Fin b) (h : s.val * b + r.val < k), u.val = J * (t.val / J) + s.val →
      w u (ix2 r (j 1)) = w' (ix2 ⟨s.val * b + r.val, h⟩ (i 1))) :
    f t.val t.isLt j = mul (flip x') w' i :=
  run_mul (x := fun t => flip (x t)) (x' := flip x') h0 hs hk t ht j i hx hw

/-- The sum a host's product of a matrix and a transposed one is read as. -/
theorem sum_eq_mul {x : FVec Ideal ⟨2, ![p, k]⟩ .bf16} {w : FVec Ideal ⟨2, ![k, n]⟩ .bf16} {i : Shape.Idx ⟨2, ![p, n]⟩} {f : Fin k → EReal}
    (h : ∀ r, f r = x (ix2 (i 0) r) * w (ix2 r (i 1))) : ∑ r, f r = mul x w i :=
  Finset.sum_congr rfl fun r _ => h r

end Cert.Products
end
-- ==== Proof.InGrad.lean ====
module
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Products
@[expose] public section

/-!
The gradients of the input projection: each call's blocked product, against the whole one.
-/

set_option maxRecDepth 16384
noncomputable section
namespace Cert.InGrad
open Cert.Products
open Idealize.ShloMosaic Idealize.ShloMosaic.TcCoe
open scoped BigOperators

/-! The gradient of its weights. -/

namespace Weights
open Cert.Kernel2Ideal Cert.Kernel2Ideal.Gen
variable (m : (ℓ : Loc nD τ sig) → Buf (Elt Ideal) ℓ) (c : Dev nD)

theorem idx0 : ∀ t : Fin cfg0.N, win0_0.index t = ![t.val % 4, 0] := by decide +kernel
theorem idx1 : ∀ t : Fin cfg0.N, win0_1.index t = ![t.val % 4, t.val / 4] := by decide +kernel
theorem idx2 : ∀ t : Fin cfg0.N, win0_2.index t = ![0, t.val / 4] := by decide +kernel

theorem pay (x : Vec Ideal S2048x1024 .bf16) (y : Vec Ideal S2048x512 .bf16) : k0_pay1 x y = mul (flip x) y :=
  matmul_flip_eq _ x y

/-- The result array: the whole product. -/
theorem arr : (dats m 0 c).arrAt 2 cfg0.N = mul (flip (m ((c : Thread nD τ).loc main_arg0))) (m ((c : Thread nD τ).loc main_arg1)) := by
  refine (dats m 0 c).arrAt_eq_of_covers 2 (mul (flip (m ((c : Thread nD τ).loc main_arg0))) (m ((c : Thread nD τ).loc main_arg1)))
    (by decide +kernel) fun t hf y => ?_
  have ht := (flush0_2 t).1 hf
  blk_simp
  refine run_flip_mul (f := fun n h => outsAt0 m c n h) (x := iblk m c 0) (w := iblk m c 1)
    (fun t h j => by rw [outsAt0_A m c t h (by omega), ← pay]; frame_out)
    (fun t h j => by rw [outsAt0_B m c t h (by omega), ← pay]; frame_out; unfold k0_pay2; simp only [shapeCast_self]; rfl)
    rfl t ht y _ (fun u s r _ hu => ?_) (fun u s r _ hu => ?_)
  · rw [← V_main_arg0 m c]
    blk_ext [iblk, V, idx0, idx2]
  · rw [← V_main_arg1 m c]
    blk_ext [iblk, V, idx1, idx2]

/-- The reference's result is the same product. -/
theorem ref : Cert.Reference2Ideal.Read.val_main_v5 (F := Ideal) = fun x y => mul (flip x) y := by
  funext x y i
  rw [Cert.Reference2Ideal.Read.val_main_v5_apply, Cert.Reference2Ideal.Read.val_main_v4_apply]
  refine sum_eq_mul fun r => ?_
  rw [Cert.Reference2Ideal.Read.val_main_v3_apply, Cert.Reference2Ideal.Read.val_main_v1_apply]
  exact (mul_comm _ _).trans (congrArg₂ (· * ·) (congrArg x (idx_ext rfl rfl)) (congrArg y (idx_ext rfl rfl)))

end Weights

/-! The gradient of its input: the products of four blocks of columns are summed in the scratch. -/

namespace Input
open Cert.Kernel3Ideal Cert.Kernel3Ideal.Gen
variable (m : (ℓ : Loc nD τ sig) → Buf (Elt Ideal) ℓ) (c : Dev nD)

theorem idx0 : ∀ t : Fin cfg0.N, win0_0.index t = ![t.val / 8, t.val % 4] := by decide +kernel
theorem idx1 : ∀ t : Fin cfg0.N, win0_1.index t = ![t.val % 4, t.val / 4 % 2] := by decide +kernel
theorem idx2 : ∀ t : Fin cfg0.N, win0_2.index t = ![t.val / 8, t.val / 4 % 2] := by decide +kernel

theorem pay (x : Vec Ideal S2048x2176 .bf16) (w : Vec Ideal S2176x512 .bf16) : k0_pay1 x w = mul x w := by
  unfold k0_pay1
  simp only [shapeCast_self]
  exact matmul_eq _ x w

/-- The transposed weights, as the call begins. -/
theorem weights : V m c main_v0 = flip (m ((c : Thread nD τ).loc main_arg0)) := by
  refine Eq.trans ?_ (transpose_eq_flip _ transposes_S1024x8704_S8704x1024_1_0)
  show StableHlo.after hostOps0 (fun b => m (c, b)) (Proc.tc.devRef main_v0) = _
  after_reads_simp

/-- The running sum after a point: in the scratch, and after a block's last point in its output block. -/
def acc (n : Nat) (h : n < cfg0.N) : Vec Ideal S2048x512 .f32 := if n % 4 = 3 then (outsAt0 m c n h).1 else (outsAt0 m c n h).2

/-- A block's first point starts the sum. -/
theorem acc_start (t : Fin cfg0.N) (h : t.val % 4 = 0) (j : S2048x512.Idx) : acc m c t.val t.isLt j = mul (iblk m c 0 t) (iblk m c 1 t) j := by
  rw [acc, if_neg (by omega), outsAt0_A m c t h (by omega) (by omega), ← pay]
  frame_out
  unfold k0_pay2
  simp only [shapeCast_self]

/-- Every other adds its product. -/
theorem acc_step (t : Fin cfg0.N) (h : ¬t.val % 4 = 0) (j : S2048x512.Idx) : acc m c t.val t.isLt j
    = acc m c (t.val - 1) (Nat.lt_of_le_of_lt (Nat.sub_le _ _) t.isLt) j + mul (iblk m c 0 t) (iblk m c 1 t) j := by
  by_cases h3 : t.val % 4 = 3
  · rw [acc, acc, if_pos h3, if_neg (by omega), outsAt0_C m c t h (by omega) h3, ← pay]
    frame_out
    simp only [read_unread_whole]
    rfl
  · rw [acc, acc, if_neg h3, if_neg (by omega), outsAt0_B m c t h (by omega) h3, ← pay]
    frame_out
    unfold k0_pay3
    simp only [shapeCast_self, read_unread_whole]
    rfl

/-- The result array: the whole product. -/
theorem arr : (dats m 0 c).arrAt 2 cfg0.N = mul (m ((c : Thread nD τ).loc main_arg1)) (flip (m ((c : Thread nD τ).loc main_arg0))) := by
  refine (dats m 0 c).arrAt_eq_of_covers 2 (mul (m ((c : Thread nD τ).loc main_arg1)) (flip (m ((c : Thread nD τ).loc main_arg0))))
    (by decide +kernel) fun t hf y => ?_
  have ht := (flush0_2 t).1 hf
  blk_simp
  refine (congrFun (if_pos ht : acc m c t.val t.isLt = _) y).symm.trans
    (run_mul (acc_start m c) (acc_step m c) rfl t ht y _ (fun u s r _ hu => ?_) (fun u s r _ hu => ?_))
  · rw [← V_main_arg1 m c]
    blk_ext [iblk, V, idx0, idx2]
  · rw [← weights m c]
    blk_ext [iblk, idx1, idx2]

/-- The reference's result is the same product. -/
theorem ref : Cert.Reference3Ideal.Read.val_main_v4 (F := Ideal) = fun w y => mul y (flip w) := by
  funext w y i
  rw [Cert.Reference3Ideal.Read.val_main_v4_apply]
  refine sum_eq_mul fun q => ?_
  rw [Cert.Reference3Ideal.Read.val_main_v3_apply, Cert.Reference3Ideal.Read.val_main_v1_apply]
  exact congrArg₂ (· * ·) (congrArg y (idx_ext rfl rfl)) (congrArg w (idx_ext rfl rfl))

end Input

end Cert.InGrad
end
-- ==== Proof.MlpGrad.lean ====
module
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Products
@[expose] public section

/-!
The gradients of the two layers of the pointwise network: each call's blocked product, against the whole one.
-/

set_option maxRecDepth 16384
noncomputable section
namespace Cert.MlpGrad
open Cert.Products
open Idealize.ShloMosaic Idealize.ShloMosaic.TcCoe
open scoped BigOperators

/-! The second layer: the gradient of its input, carried through the squared rectifier to the first layer's result. -/

namespace DownInput
open Cert.Kernel4Ideal Cert.Kernel4Ideal.Gen
variable (m : (ℓ : Loc nD τ sig) → Buf (Elt Ideal) ℓ) (c : Dev nD)

theorem idx0 : ∀ t : Fin cfg0.N, win0_0.index t = ![t.val / 8, 0] := by decide +kernel
theorem idx1 : ∀ t : Fin cfg0.N, win0_1.index t = ![0, t.val % 8] := by decide +kernel
theorem idx2 : ∀ t : Fin cfg0.N, win0_2.index t = ![t.val / 8, t.val % 8] := by decide +kernel
theorem idx3 : ∀ t : Fin cfg0.N, win0_3.index t = ![t.val / 8, t.val % 8] := by decide +kernel

/-- The derivative of the squared rectifier. -/
def slope (a : EReal) : EReal := Ideal.ofBits .f32 0x40000000#32 * max a 0

/-- The gradient of the first layer's result. -/
def grad (a : FVec Ideal ⟨2, ![8192, 4096]⟩ .f32) (w : FVec Ideal ⟨2, ![4096, 1024]⟩ .bf16) (y : FVec Ideal ⟨2, ![8192, 1024]⟩ .bf16)
    (i : Shape.Idx ⟨2, ![8192, 4096]⟩) : EReal := mul y (flip w) i * slope (a i)

/-- What a point stores. -/
theorem pay (x : Vec Ideal S2048x1024 .bf16) (w : Vec Ideal S1024x512 .bf16) (a : Vec Ideal S2048x512 .f32) (j : S2048x512.Idx) :
    k0_pay1 x w a j = mul x w j * slope (a j) := by
  unfold k0_pay1
  simp only [shapeCast_self]
  show matmul _ none x w _ j * (Ideal.ofBits .f32 0x40000000#32 * max (a j) (Ideal.ofBits .f32 0x00000000#32)) = _
  rw [Ideal.ofBits_zero_f32]
  exact congrArg (· * slope (a j)) (congrFun (matmul_eq _ x w) j)

/-- The transposed weights, as the call begins. -/
theorem weights : V m c main_v0 = flip (m ((c : Thread nD τ).loc main_arg1)) := by
  refine Eq.trans ?_ (transpose_eq_flip _ transposes_S4096x1024_S1024x4096_1_0)
  show StableHlo.after hostOps0 (fun b => m (c, b)) (Proc.tc.devRef main_v0) = _
  after_reads_simp

/-- The result array. -/
theorem arr : (dats m 0 c).arrAt 3 cfg0.N = grad (m ((c : Thread nD τ).loc main_arg0)) (m ((c : Thread nD τ).loc main_arg1))
    (m ((c : Thread nD τ).loc main_arg2)) := by
  refine (dats m 0 c).arrAt_eq_of_covers 3 (grad (m ((c : Thread nD τ).loc main_arg0)) (m ((c : Thread nD τ).loc main_arg1))
    (m ((c : Thread nD τ).loc main_arg2))) (by decide +kernel) fun t hf y => ?_
  blk_simp
  rw [after0_3]; frame_out
  rw [pay]
  refine congrArg₂ (· * ·) (mul_congr (fun r => ?_) (fun r => ?_)) (congrArg slope ?_)
  · rw [← V_main_arg2 m c]
    blk_ext [iblk, V, idx0, idx3]
  · rw [← weights m c]
    blk_ext [iblk, idx1, idx3]
  · rw [← V_main_arg0 m c]
    blk_ext [iblk, V, idx2, idx3]

/-- The rectifier's slope is the one its comparison selects. -/
theorem select_slope (a e : EReal) : Scalar.select (Ideal.cmp .ogt a 0) (e * slope a) 0 = e * slope a := by
  by_cases h : 0 < a
  · simp [Scalar.select, Ideal.cmp, h]
  · simp [Scalar.select, Ideal.cmp, h, slope, max_eq_right (not_lt.1 h)]

/-- The reference's result is the same. -/
theorem ref : Cert.Reference4Ideal.Read.val_main_v14 (F := Ideal) = grad := by
  funext a w y i
  have e : Cert.Reference4Ideal.Read.val_main_v10 (F := Ideal) w y i = mul y (flip w) i := by
    rw [Cert.Reference4Ideal.Read.val_main_v10_apply]
    exact sum_eq_mul fun q => congrArg₂ (· * ·) (congrArg y (idx_ext rfl rfl)) (congrArg w (idx_ext rfl rfl))
  rw [Cert.Reference4Ideal.Read.val_main_v14_apply, Cert.Reference4Ideal.Read.val_main_v13_apply,
    Cert.Reference4Ideal.Read.val_main_v11_apply, Cert.Reference4Ideal.Read.val_main_v6_apply, Cert.Reference4Ideal.Read.val_main_v0_apply,
    Cert.Reference4Ideal.Read.val_main_v2_apply, e]
  show Scalar.select (Ideal.cmp .ogt (a i) (Ideal.ofBits .f32 0x00000000#32))
    (mul y (flip w) i * (Ideal.ofBits .f32 0x40000000#32 * max (a i) (Ideal.ofBits .f32 0x00000000#32))) (Ideal.ofBits .f32 0x00000000#32) = _
  rw [Ideal.ofBits_zero_f32]
  exact select_slope (a i) (mul y (flip w) i)

end DownInput

/-! The second layer: the gradient of its weights. -/

namespace DownWeights
open Cert.Kernel5Ideal Cert.Kernel5Ideal.Gen
variable (m : (ℓ : Loc nD τ sig) → Buf (Elt Ideal) ℓ) (c : Dev nD)

theorem idx0 : ∀ t : Fin cfg0.N, win0_0.index t = ![t.val % 4, t.val / 8] := by decide +kernel
theorem idx1 : ∀ t : Fin cfg0.N, win0_1.index t = ![t.val % 4, t.val / 4 % 2] := by decide +kernel
theorem idx2 : ∀ t : Fin cfg0.N, win0_2.index t = ![t.val / 8, t.val / 4 % 2] := by decide +kernel

theorem pay (x : Vec Ideal S2048x1024 .bf16) (y : Vec Ideal S2048x512 .bf16) : k0_pay1 x y = mul (flip x) y :=
  matmul_flip_eq _ x y

/-- The result array: the whole product. -/
theorem arr : (dats m 0 c).arrAt 2 cfg0.N = mul (flip (m ((c : Thread nD τ).loc main_arg0))) (m ((c : Thread nD τ).loc main_arg1)) := by
  refine (dats m 0 c).arrAt_eq_of_covers 2 (mul (flip (m ((c : Thread nD τ).loc main_arg0))) (m ((c : Thread nD τ).loc main_arg1)))
    (by decide +kernel) fun t hf y => ?_
  have ht := (flush0_2 t).1 hf
  blk_simp
  refine run_flip_mul (f := fun n h => outsAt0 m c n h) (x := iblk m c 0) (w := iblk m c 1)
    (fun t h j => by rw [outsAt0_A m c t h (by omega), ← pay]; frame_out)
    (fun t h j => by rw [outsAt0_B m c t h (by omega), ← pay]; frame_out; unfold k0_pay2; simp only [shapeCast_self]; rfl)
    rfl t ht y _ (fun u s r _ hu => ?_) (fun u s r _ hu => ?_)
  · rw [← V_main_arg0 m c]
    blk_ext [iblk, V, idx0, idx2]
  · rw [← V_main_arg1 m c]
    blk_ext [iblk, V, idx1, idx2]

/-- The reference's result is the same product. -/
theorem ref : Cert.Reference5Ideal.Read.val_main_v5 (F := Ideal) = fun x y => mul (flip x) y := by
  funext x y i
  rw [Cert.Reference5Ideal.Read.val_main_v5_apply, Cert.Reference5Ideal.Read.val_main_v4_apply]
  refine sum_eq_mul fun r => ?_
  rw [Cert.Reference5Ideal.Read.val_main_v3_apply, Cert.Reference5Ideal.Read.val_main_v1_apply]
  exact (mul_comm _ _).trans (congrArg₂ (· * ·) (congrArg x (idx_ext rfl rfl)) (congrArg y (idx_ext rfl rfl)))

end DownWeights

/-! The first layer: the gradient of its input, summed over four blocks of columns in the scratch. -/

namespace UpInput
open Cert.Kernel6Ideal Cert.Kernel6Ideal.Gen
variable (m : (ℓ : Loc nD τ sig) → Buf (Elt Ideal) ℓ) (c : Dev nD)

theorem idx0 : ∀ t : Fin cfg0.N, win0_0.index t = ![t.val / 8, t.val % 4] := by decide +kernel
theorem idx1 : ∀ t : Fin cfg0.N, win0_1.index t = ![t.val % 4, t.val / 4 % 2] := by decide +kernel
theorem idx2 : ∀ t : Fin cfg0.N, win0_2.index t = ![t.val / 8, t.val / 4 % 2] := by decide +kernel

theorem pay (x : Vec Ideal S2048x1024 .bf16) (w : Vec Ideal S1024x512 .bf16) : k0_pay1 x w = mul x w := by
  unfold k0_pay1
  simp only [shapeCast_self]
  exact matmul_eq _ x w

/-- The transposed weights, as the call begins. -/
theorem weights : V m c main_v0 = flip (m ((c : Thread nD τ).loc main_arg0)) := by
  refine Eq.trans ?_ (transpose_eq_flip _ transposes_S1024x4096_S4096x1024_1_0)
  show StableHlo.after hostOps0 (fun b => m (c, b)) (Proc.tc.devRef main_v0) = _
  after_reads_simp

/-- The running sum after a point: in the scratch, and after a block's last point in its output block. -/
def acc (n : Nat) (h : n < cfg0.N) : Vec Ideal S2048x512 .f32 := if n % 4 = 3 then (outsAt0 m c n h).1 else (outsAt0 m c n h).2

/-- A block's first point starts the sum. -/
theorem acc_start (t : Fin cfg0.N) (h : t.val % 4 = 0) (j : S2048x512.Idx) : acc m c t.val t.isLt j = mul (iblk m c 0 t) (iblk m c 1 t) j := by
  rw [acc, if_neg (by omega), outsAt0_A m c t h (by omega) (by omega), ← pay]
  frame_out
  unfold k0_pay2
  simp only [shapeCast_self]

/-- Every other adds its product. -/
theorem acc_step (t : Fin cfg0.N) (h : ¬t.val % 4 = 0) (j : S2048x512.Idx) : acc m c t.val t.isLt j
    = acc m c (t.val - 1) (Nat.lt_of_le_of_lt (Nat.sub_le _ _) t.isLt) j + mul (iblk m c 0 t) (iblk m c 1 t) j := by
  by_cases h3 : t.val % 4 = 3
  · rw [acc, acc, if_pos h3, if_neg (by omega), outsAt0_C m c t h (by omega) h3, ← pay]
    frame_out
    simp only [read_unread_whole]
    rfl
  · rw [acc, acc, if_neg h3, if_neg (by omega), outsAt0_B m c t h (by omega) h3, ← pay]
    frame_out
    unfold k0_pay3
    simp only [shapeCast_self, read_unread_whole]
    rfl

/-- The result array: the whole product. -/
theorem arr : (dats m 0 c).arrAt 2 cfg0.N = mul (m ((c : Thread nD τ).loc main_arg1)) (flip (m ((c : Thread nD τ).loc main_arg0))) := by
  refine (dats m 0 c).arrAt_eq_of_covers 2 (mul (m ((c : Thread nD τ).loc main_arg1)) (flip (m ((c : Thread nD τ).loc main_arg0))))
    (by decide +kernel) fun t hf y => ?_
  have ht := (flush0_2 t).1 hf
  blk_simp
  refine (congrFun (if_pos ht : acc m c t.val t.isLt = _) y).symm.trans
    (run_mul (acc_start m c) (acc_step m c) rfl t ht y _ (fun u s r _ hu => ?_) (fun u s r _ hu => ?_))
  · rw [← V_main_arg1 m c]
    blk_ext [iblk, V, idx0, idx2]
  · rw [← weights m c]
    blk_ext [iblk, idx1, idx2]

/-- The reference's result is the same product. -/
theorem ref : Cert.Reference6Ideal.Read.val_main_v4 (F := Ideal) = fun w y => mul y (flip w) := by
  funext w y i
  rw [Cert.Reference6Ideal.Read.val_main_v4_apply]
  refine sum_eq_mul fun q => ?_
  rw [Cert.Reference6Ideal.Read.val_main_v3_apply, Cert.Reference6Ideal.Read.val_main_v1_apply]
  exact congrArg₂ (· * ·) (congrArg y (idx_ext rfl rfl)) (congrArg w (idx_ext rfl rfl))

end UpInput

/-! The first layer: the gradient of its weights. -/

namespace UpWeights
open Cert.Kernel7Ideal Cert.Kernel7Ideal.Gen
variable (m : (ℓ : Loc nD τ sig) → Buf (Elt Ideal) ℓ) (c : Dev nD)

theorem idx0 : ∀ t : Fin cfg0.N, win0_0.index t = ![t.val % 4, 0] := by decide +kernel
theorem idx1 : ∀ t : Fin cfg0.N, win0_1.index t = ![t.val % 4, t.val / 4] := by decide +kernel
theorem idx2 : ∀ t : Fin cfg0.N, win0_2.index t = ![0, t.val / 4] := by decide +kernel

theorem pay (x : Vec Ideal S2048x1024 .bf16) (y : Vec Ideal S2048x512 .bf16) : k0_pay1 x y = mul (flip x) y :=
  matmul_flip_eq _ x y

/-- The result array: the whole product. -/
theorem arr : (dats m 0 c).arrAt 2 cfg0.N = mul (flip (m ((c : Thread nD τ).loc main_arg0))) (m ((c : Thread nD τ).loc main_arg1)) := by
  refine (dats m 0 c).arrAt_eq_of_covers 2 (mul (flip (m ((c : Thread nD τ).loc main_arg0))) (m ((c : Thread nD τ).loc main_arg1)))
    (by decide +kernel) fun t hf y => ?_
  have ht := (flush0_2 t).1 hf
  blk_simp
  refine run_flip_mul (f := fun n h => outsAt0 m c n h) (x := iblk m c 0) (w := iblk m c 1)
    (fun t h j => by rw [outsAt0_A m c t h (by omega), ← pay]; frame_out)
    (fun t h j => by rw [outsAt0_B m c t h (by omega), ← pay]; frame_out; unfold k0_pay2; simp only [shapeCast_self]; rfl)
    rfl t ht y _ (fun u s r _ hu => ?_) (fun u s r _ hu => ?_)
  · rw [← V_main_arg0 m c]
    blk_ext [iblk, V, idx0, idx2]
  · rw [← V_main_arg1 m c]
    blk_ext [iblk, V, idx1, idx2]

/-- The reference's result is the same product. -/
theorem ref : Cert.Reference7Ideal.Read.val_main_v5 (F := Ideal) = fun x y => mul (flip x) y := by
  funext x y i
  rw [Cert.Reference7Ideal.Read.val_main_v5_apply, Cert.Reference7Ideal.Read.val_main_v4_apply]
  refine sum_eq_mul fun r => ?_
  rw [Cert.Reference7Ideal.Read.val_main_v3_apply, Cert.Reference7Ideal.Read.val_main_v1_apply]
  exact (mul_comm _ _).trans (congrArg₂ (· * ·) (congrArg x (idx_ext rfl rfl)) (congrArg y (idx_ext rfl rfl)))

end UpWeights

end Cert.MlpGrad
end
-- ==== Proof.OutGrad.lean ====
module
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Products
@[expose] public section

/-!
The gradients of the output projection: each call's blocked product, against the whole one.
-/

set_option maxRecDepth 16384
noncomputable section
namespace Cert.OutGrad
open Cert.Products
open Idealize.ShloMosaic Idealize.ShloMosaic.TcCoe
open scoped BigOperators

/-! The gradient of its input. -/

namespace Input
open Cert.Kernel8Ideal Cert.Kernel8Ideal.Gen
variable (m : (ℓ : Loc nD τ sig) → Buf (Elt Ideal) ℓ) (c : Dev nD)

theorem idx0 : ∀ t : Fin cfg0.N, win0_0.index t = ![t.val / 2, 0] := by decide +kernel
theorem idx1 : ∀ t : Fin cfg0.N, win0_1.index t = ![0, t.val % 2] := by decide +kernel
theorem idx2 : ∀ t : Fin cfg0.N, win0_2.index t = ![t.val / 2, t.val % 2] := by decide +kernel

theorem pay (x : Vec Ideal S2048x1024 .bf16) (w : Vec Ideal S1024x512 .bf16) : k0_pay1 x w = mul x w := by
  unfold k0_pay1
  simp only [shapeCast_self]
  exact matmul_eq _ x w

/-- The transposed weights, as the call begins. -/
theorem weights : V m c main_v0 = flip (m ((c : Thread nD τ).loc main_arg0)) := by
  refine Eq.trans ?_ (transpose_eq_flip _ transposes_S1024x1024_S1024x1024_1_0)
  show StableHlo.after hostOps0 (fun b => m (c, b)) (Proc.tc.devRef main_v0) = _
  after_reads_simp

/-- The result array: the whole product. -/
theorem arr : (dats m 0 c).arrAt 2 cfg0.N = mul (m ((c : Thread nD τ).loc main_arg1)) (flip (m ((c : Thread nD τ).loc main_arg0))) := by
  refine (dats m 0 c).arrAt_eq_of_covers 2 (mul (m ((c : Thread nD τ).loc main_arg1)) (flip (m ((c : Thread nD τ).loc main_arg0))))
    (by decide +kernel) fun t hf y => ?_
  blk_simp
  rw [after0_2]; frame_out
  rw [pay]
  refine mul_congr (fun r => ?_) (fun r => ?_)
  · rw [← V_main_arg1 m c]
    blk_ext [iblk, V, idx0, idx2]
  · rw [← weights m c]
    blk_ext [iblk, idx1, idx2]

/-- The reference's result is the same product. -/
theorem ref : Cert.Reference8Ideal.Read.val_main_v4 (F := Ideal) = fun w y => mul y (flip w) := by
  funext w y i
  rw [Cert.Reference8Ideal.Read.val_main_v4_apply]
  refine sum_eq_mul fun q => ?_
  rw [Cert.Reference8Ideal.Read.val_main_v3_apply, Cert.Reference8Ideal.Read.val_main_v1_apply]
  exact congrArg₂ (· * ·) (congrArg y (idx_ext rfl rfl)) (congrArg w (idx_ext rfl rfl))

end Input

/-! The gradient of its weights. -/

namespace Weights
open Cert.Kernel9Ideal Cert.Kernel9Ideal.Gen
variable (m : (ℓ : Loc nD τ sig) → Buf (Elt Ideal) ℓ) (c : Dev nD)

theorem idx0 : ∀ t : Fin cfg0.N, win0_0.index t = ![t.val % 4, 0] := by decide +kernel
theorem idx1 : ∀ t : Fin cfg0.N, win0_1.index t = ![t.val % 4, t.val / 4] := by decide +kernel
theorem idx2 : ∀ t : Fin cfg0.N, win0_2.index t = ![0, t.val / 4] := by decide +kernel

theorem pay (x : Vec Ideal S2048x1024 .bf16) (y : Vec Ideal S2048x512 .bf16) : k0_pay1 x y = mul (flip x) y :=
  matmul_flip_eq _ x y

/-- The result array: the whole product. -/
theorem arr : (dats m 0 c).arrAt 2 cfg0.N = mul (flip (m ((c : Thread nD τ).loc main_arg0))) (m ((c : Thread nD τ).loc main_arg1)) := by
  refine (dats m 0 c).arrAt_eq_of_covers 2 (mul (flip (m ((c : Thread nD τ).loc main_arg0))) (m ((c : Thread nD τ).loc main_arg1)))
    (by decide +kernel) fun t hf y => ?_
  have ht := (flush0_2 t).1 hf
  blk_simp
  refine run_flip_mul (f := fun n h => outsAt0 m c n h) (x := iblk m c 0) (w := iblk m c 1)
    (fun t h j => by rw [outsAt0_A m c t h (by omega), ← pay]; frame_out)
    (fun t h j => by rw [outsAt0_B m c t h (by omega), ← pay]; frame_out; unfold k0_pay2; simp only [shapeCast_self]; rfl)
    rfl t ht y _ (fun u s r _ hu => ?_) (fun u s r _ hu => ?_)
  · rw [← V_main_arg0 m c]
    blk_ext [iblk, V, idx0, idx2]
  · rw [← V_main_arg1 m c]
    blk_ext [iblk, V, idx1, idx2]

/-- The reference's result is the same product. -/
theorem ref : Cert.Reference9Ideal.Read.val_main_v5 (F := Ideal) = fun x y => mul (flip x) y := by
  funext x y i
  rw [Cert.Reference9Ideal.Read.val_main_v5_apply, Cert.Reference9Ideal.Read.val_main_v4_apply]
  refine sum_eq_mul fun r => ?_
  rw [Cert.Reference9Ideal.Read.val_main_v3_apply, Cert.Reference9Ideal.Read.val_main_v1_apply]
  exact (mul_comm _ _).trans (congrArg₂ (· * ·) (congrArg x (idx_ext rfl rfl)) (congrArg y (idx_ext rfl rfl)))

end Weights

end Cert.OutGrad
end
-- ==== Proof.BranchGrad.lean ====
module
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Products
@[expose] public section

/-!
The gradients of a branch's projection: each call's blocked product, against the whole one.
-/

set_option maxRecDepth 16384
noncomputable section
namespace Cert.BranchGrad
open Cert.Products
open Idealize.ShloMosaic Idealize.ShloMosaic.TcCoe
open scoped BigOperators

/-! The gradient of its input. -/

namespace Input
open Cert.Kernel10Ideal Cert.Kernel10Ideal.Gen
variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem pay (x : Vec Ideal S2048x1024 .bf16) (w : Vec Ideal S1024x512 .bf16) : k0_pay1 x w = mul x w := by
  unfold k0_pay1
  simp only [shapeCast_self]
  exact matmul_eq _ x w

/-- The transposed weights, as the call begins. -/
theorem weights : V m c main_v0 = flip (m ((c : Thread nD τ).loc main_arg0)) := by
  refine Eq.trans ?_ (transpose_eq_flip _ transposes_S512x1024_S1024x512_1_0)
  show StableHlo.after hostOps0 (fun b => m (c, b)) (Proc.tc.devRef main_v0) = _
  after_reads_simp

/-- The result array: the whole product. -/
theorem arr : (dats m 0 c).arrAt 2 cfg0.N = mul (m ((c : Thread nD τ).loc main_arg1)) (flip (m ((c : Thread nD τ).loc main_arg0))) := by
  refine (dats m 0 c).arrAt_eq_of_covers 2 (mul (m ((c : Thread nD τ).loc main_arg1)) (flip (m ((c : Thread nD τ).loc main_arg0))))
    (by decide +kernel) fun t hf y => ?_
  blk_simp
  rw [after0_2]; frame_out
  rw [pay]
  refine mul_congr (fun r => ?_) (fun r => ?_)
  · rw [← V_main_arg1 m c]
    blk_ext [iblk, V, idx0, idx2]
  · rw [← weights m c]
    blk_ext [iblk, idx1, idx2]

/-- The reference's result is the same product. -/
theorem ref : Cert.Reference10Ideal.Read.val_main_v4 (F := Ideal) = fun w y => mul y (flip w) := by
  funext w y i
  rw [Cert.Reference10Ideal.Read.val_main_v4_apply]
  refine sum_eq_mul fun q => ?_
  rw [Cert.Reference10Ideal.Read.val_main_v3_apply, Cert.Reference10Ideal.Read.val_main_v1_apply]
  exact congrArg₂ (· * ·) (congrArg y (idx_ext rfl rfl)) (congrArg w (idx_ext rfl rfl))

end Input

/-! The gradient of its weights. -/

namespace Weights
open Cert.Kernel11Ideal Cert.Kernel11Ideal.Gen
variable (m : (ℓ : Loc nD τ sig) → Buf (Elt Ideal) ℓ) (c : Dev nD)

theorem idx0 : ∀ t : Fin cfg0.N, win0_0.index t = ![t.val % 4, 0] := by decide +kernel
theorem idx1 : ∀ t : Fin cfg0.N, win0_1.index t = ![t.val % 4, t.val / 4] := by decide +kernel
theorem idx2 : ∀ t : Fin cfg0.N, win0_2.index t = ![0, t.val / 4] := by decide +kernel

theorem pay (x : Vec Ideal S2048x512 .bf16) (y : Vec Ideal S2048x512 .bf16) : k0_pay1 x y = mul (flip x) y :=
  matmul_flip_eq _ x y

/-- The result array: the whole product. -/
theorem arr : (dats m 0 c).arrAt 2 cfg0.N = mul (flip (m ((c : Thread nD τ).loc main_arg0))) (m ((c : Thread nD τ).loc main_arg1)) := by
  refine (dats m 0 c).arrAt_eq_of_covers 2 (mul (flip (m ((c : Thread nD τ).loc main_arg0))) (m ((c : Thread nD τ).loc main_arg1)))
    (by decide +kernel) fun t hf y => ?_
  have ht := (flush0_2 t).1 hf
  blk_simp
  refine run_flip_mul (f := fun n h => outsAt0 m c n h) (x := iblk m c 0) (w := iblk m c 1)
    (fun t h j => by rw [outsAt0_A m c t h (by omega), ← pay]; frame_out)
    (fun t h j => by rw [outsAt0_B m c t h (by omega), ← pay]; frame_out; unfold k0_pay2; simp only [shapeCast_self]; rfl)
    rfl t ht y _ (fun u s r _ hu => ?_) (fun u s r _ hu => ?_)
  · rw [← V_main_arg0 m c]
    blk_ext [iblk, V, idx0, idx2]
  · rw [← V_main_arg1 m c]
    blk_ext [iblk, V, idx1, idx2]

/-- The reference's result is the same product. -/
theorem ref : Cert.Reference11Ideal.Read.val_main_v5 (F := Ideal) = fun x y => mul (flip x) y := by
  funext x y i
  rw [Cert.Reference11Ideal.Read.val_main_v5_apply, Cert.Reference11Ideal.Read.val_main_v4_apply]
  refine sum_eq_mul fun r => ?_
  rw [Cert.Reference11Ideal.Read.val_main_v3_apply, Cert.Reference11Ideal.Read.val_main_v1_apply]
  exact (mul_comm _ _).trans (congrArg₂ (· * ·) (congrArg x (idx_ext rfl rfl)) (congrArg y (idx_ext rfl rfl)))

end Weights

end Cert.BranchGrad
end
-- ==== Proof.Forward.lean ====
module
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Products
@[expose] public section

/-!
The forward pass's projections: each call's blocked product, with what it applies to it, against the whole one.
-/

set_option maxRecDepth 16384
noncomputable section
namespace Cert.Forward
open Cert.Products
open Idealize.ShloMosaic Idealize.ShloMosaic.TcCoe
open scoped BigOperators

/-- The rectifier's square. -/
def square (e : EReal) : EReal := max e 0 * max e 0

/-- A gated array added to another. -/
def gated {p n : Nat} (z : FVec Ideal ⟨2, ![p, n]⟩ .f32) (g : FVec Ideal ⟨2, ![1, n]⟩ .f32) (s : Shape.Idx ⟨2, ![p, n]⟩ → EReal)
    (i : Shape.Idx ⟨2, ![p, n]⟩) : EReal := z i + g (ix2 0 (i 1)) * s i

/-- A residual: the carried activations and a gated product. -/
def resid {p k n : Nat} (x : FVec Ideal ⟨2, ![p, k]⟩ .bf16) (w : FVec Ideal ⟨2, ![k, n]⟩ .bf16) (z : FVec Ideal ⟨2, ![p, n]⟩ .f32)
    (g : FVec Ideal ⟨2, ![1, n]⟩ .f32) (i : Shape.Idx ⟨2, ![p, n]⟩) : EReal := gated z g (mul x w) i

/-! The input projection. -/

namespace In
open Cert.Kernel12Ideal Cert.Kernel12Ideal.Gen
variable (m : (ℓ : Loc nD τ sig) → Buf (Elt Ideal) ℓ) (c : Dev nD)

theorem idx0 : ∀ t : Fin cfg0.N, win0_0.index t = ![t.val / 17, 0] := by decide +kernel
theorem idx1 : ∀ t : Fin cfg0.N, win0_1.index t = ![0, t.val % 17] := by decide +kernel
theorem idx2 : ∀ t : Fin cfg0.N, win0_2.index t = ![t.val / 17, t.val % 17] := by decide +kernel

theorem pay (x : Vec Ideal S2048x1024 .bf16) (w : Vec Ideal S1024x512 .bf16) : k0_pay1 x w = mul x w :=
  matmul_eq _ x w

theorem arr : (dats m 0 c).arrAt 2 cfg0.N = mul (m ((c : Thread nD τ).loc main_arg0)) (m ((c : Thread nD τ).loc main_arg1)) := by
  refine (dats m 0 c).arrAt_eq_of_covers 2 (mul (m ((c : Thread nD τ).loc main_arg0)) (m ((c : Thread nD τ).loc main_arg1)))
    (by decide +kernel) fun t hf y => ?_
  blk_simp
  rw [after0_2]; frame_out
  rw [pay]
  refine mul_congr (fun r => ?_) (fun r => ?_)
  · rw [← V_main_arg0 m c]
    blk_ext [iblk, V, idx0, idx2]
  · rw [← V_main_arg1 m c]
    blk_ext [iblk, V, idx1, idx2]

theorem ref : Cert.Reference12Ideal.Read.val_main_v2 (F := Ideal) = mul := by
  funext x w i
  rw [Cert.Reference12Ideal.Read.val_main_v2_apply]
  exact sum_eq_mul fun r => congrArg₂ (· * ·) (congrArg x (idx_ext rfl rfl)) (congrArg w (idx_ext rfl rfl))

end In

/-! The pointwise network's first layer: the product, and the square of its rectifier. -/

namespace Up
open Cert.Kernel13Ideal Cert.Kernel13Ideal.Gen
variable (m : (ℓ : Loc nD τ sig) → Buf (Elt Ideal) ℓ) (c : Dev nD)

theorem idx0 : ∀ t : Fin cfg0.N, win0_0.index t = ![t.val / 8, 0] := by decide +kernel
theorem idx1 : ∀ t : Fin cfg0.N, win0_1.index t = ![0, t.val % 8] := by decide +kernel
theorem idx2 : ∀ t : Fin cfg0.N, win0_2.index t = ![t.val / 8, t.val % 8] := by decide +kernel
theorem idx3 : ∀ t : Fin cfg0.N, win0_3.index t = ![t.val / 8, t.val % 8] := by decide +kernel

theorem pay (x : Vec Ideal S2048x1024 .bf16) (w : Vec Ideal S1024x512 .bf16) : k0_pay1 x w = mul x w :=
  matmul_eq _ x w

theorem pay_square (x : Vec Ideal S2048x1024 .bf16) (w : Vec Ideal S1024x512 .bf16) (j : S2048x512.Idx) :
    k0_pay2 x w j = square (mul x w j) := by
  unfold k0_pay2
  rw [pay]
  show max (mul x w j) (Ideal.ofBits .f32 0x00000000#32) * max (mul x w j) (Ideal.ofBits .f32 0x00000000#32) = _
  rw [Ideal.ofBits_zero_f32]
  rfl

theorem arr : (dats m 0 c).arrAt 2 cfg0.N = mul (m ((c : Thread nD τ).loc main_arg0)) (m ((c : Thread nD τ).loc main_arg1)) := by
  refine (dats m 0 c).arrAt_eq_of_covers 2 (mul (m ((c : Thread nD τ).loc main_arg0)) (m ((c : Thread nD τ).loc main_arg1)))
    (by decide +kernel) fun t hf y => ?_
  blk_simp
  rw [after0_2]; frame_out
  rw [pay]
  refine mul_congr (fun r => ?_) (fun r => ?_)
  · rw [← V_main_arg0 m c]
    blk_ext [iblk, V, idx0, idx2]
  · rw [← V_main_arg1 m c]
    blk_ext [iblk, V, idx1, idx2]

theorem arr_square : (dats m 0 c).arrAt 3 cfg0.N
    = fun i => square (mul (m ((c : Thread nD τ).loc main_arg0)) (m ((c : Thread nD τ).loc main_arg1)) i) := by
  refine (dats m 0 c).arrAt_eq_of_covers 3 (fun i => square (mul (m ((c : Thread nD τ).loc main_arg0)) (m ((c : Thread nD τ).loc main_arg1)) i))
    (by decide +kernel) fun t hf y => ?_
  blk_simp
  rw [after0_3]; frame_out
  rw [pay_square]
  refine congrArg square (mul_congr (fun r => ?_) (fun r => ?_))
  · rw [← V_main_arg0 m c]
    blk_ext [iblk, V, idx0, idx3]
  · rw [← V_main_arg1 m c]
    blk_ext [iblk, V, idx1, idx3]

theorem ref : Cert.Reference13Ideal.Read.val_main_v2 (F := Ideal) = mul := by
  funext x w i
  rw [Cert.Reference13Ideal.Read.val_main_v2_apply]
  exact sum_eq_mul fun r => congrArg₂ (· * ·) (congrArg x (idx_ext rfl rfl)) (congrArg w (idx_ext rfl rfl))

theorem ref_square : Cert.Reference13Ideal.Read.val_main_v5 (F := Ideal) = fun x w i => square (mul x w i) := by
  funext x w i
  rw [Cert.Reference13Ideal.Read.val_main_v5_apply, Cert.Reference13Ideal.Read.val_main_v4_apply, Cert.Reference13Ideal.Read.val_main_v3_apply,
    ref]
  show max (mul x w i) (Ideal.ofBits .f32 0x00000000#32) * max (mul x w i) (Ideal.ofBits .f32 0x00000000#32) = _
  rw [Ideal.ofBits_zero_f32]
  rfl

end Up

/-! The pointwise network's second layer and its residual: the products of four blocks of columns are summed in the scratch. -/

namespace Down
open Cert.Kernel14Ideal Cert.Kernel14Ideal.Gen
variable (m : (ℓ : Loc nD τ sig) → Buf (Elt Ideal) ℓ) (c : Dev nD)

theorem idx0 : ∀ t : Fin cfg0.N, win0_0.index t = ![t.val / 8, t.val % 4] := by decide +kernel
theorem idx1 : ∀ t : Fin cfg0.N, win0_1.index t = ![t.val % 4, t.val / 4 % 2] := by decide +kernel
theorem idx2 : ∀ t : Fin cfg0.N, win0_2.index t = ![t.val / 8, t.val / 4 % 2] := by decide +kernel
theorem idx3 : ∀ t : Fin cfg0.N, win0_3.index t = ![0, t.val / 4 % 2] := by decide +kernel
theorem idx4 : ∀ t : Fin cfg0.N, win0_4.index t = ![t.val / 8, t.val / 4 % 2] := by decide +kernel
theorem idx5 : ∀ t : Fin cfg0.N, win0_5.index t = ![t.val / 8, t.val / 4 % 2] := by decide +kernel

theorem pay (x : Vec Ideal S2048x1024 .bf16) (w : Vec Ideal S1024x512 .bf16) : k0_pay1 x w = mul x w :=
  matmul_eq _ x w

/-- The running sum after a point: in the scratch, and after a block's last point in its output block. -/
def acc (n : Nat) (h : n < cfg0.N) : Vec Ideal S2048x512 .f32 := if n % 4 = 3 then (outsAt0 m c n h).2.1 else (outsAt0 m c n h).2.2

/-- A block's first point starts the sum. -/
theorem acc_start (t : Fin cfg0.N) (h : t.val % 4 = 0) (j : S2048x512.Idx) : acc m c t.val t.isLt j = mul (iblk m c 0 t) (iblk m c 1 t) j := by
  rw [acc, if_neg (by omega), outsAt0_A m c t h (by omega) (by omega), ← pay]
  frame_out
  unfold k0_pay2
  simp only [shapeCast_self]

/-- Every other adds its product. -/
theorem acc_step (t : Fin cfg0.N) (h : ¬t.val % 4 = 0) (j : S2048x512.Idx) : acc m c t.val t.isLt j
    = acc m c (t.val - 1) (Nat.lt_of_le_of_lt (Nat.sub_le _ _) t.isLt) j + mul (iblk m c 0 t) (iblk m c 1 t) j := by
  by_cases h3 : t.val % 4 = 3
  · rw [acc, acc, if_pos h3, if_neg (by omega), outsAt0_C m c t h (by omega) h3, ← pay]
    frame_out
    simp only [read_unread_whole]
    rfl
  · rw [acc, acc, if_neg h3, if_neg (by omega), outsAt0_B m c t h (by omega) h3, ← pay]
    frame_out
    unfold k0_pay3
    simp only [shapeCast_self, read_unread_whole]
    rfl

/-- A block's last point leaves in its output blocks the sum and its residual. -/
theorem last (t : Fin cfg0.N) (h3 : t.val % 4 = 3) (j : S2048x512.Idx) : (outsAt0 m c t.val t.isLt).1 j
    = gated (iblk m c 2 t) (iblk m c 3 t) (outsAt0 m c t.val t.isLt).2.1 j := by
  rw [outsAt0_C m c t (by omega) (by omega) h3]
  frame_out
  unfold k0_pay5
  show _ + broadcastTo S2048x512 _ _ j * _ = _
  rw [row_at]
  rfl

/-- What a block's last point leaves: the arrays' product at the block's place. -/
theorem outs_eq (t : Fin cfg0.N) (ht : t.val % 4 = 3) (y : S2048x512.Idx) (i : S8192x1024.Idx)
    (h0 : (i 0).val = t.val / 8 * 2048 + (y 0).val) (h1 : (i 1).val = t.val / 4 % 2 * 512 + (y 1).val) :
    (outsAt0 m c t.val t.isLt).2.1 y = mul (m ((c : Thread nD τ).loc main_arg0)) (m ((c : Thread nD τ).loc main_arg1)) i := by
  refine (congrFun (if_pos ht : acc m c t.val t.isLt = _) y).symm.trans
    (run_mul (acc_start m c) (acc_step m c) rfl t ht y i (fun u s r _ hu => ?_) (fun u s r _ hu => ?_))
  · rw [← V_main_arg0 m c]
    blk_ext [iblk, V, idx0]
  · rw [← V_main_arg1 m c]
    blk_ext [iblk, V, idx1]

theorem arr : (dats m 0 c).arrAt 5 cfg0.N = mul (m ((c : Thread nD τ).loc main_arg0)) (m ((c : Thread nD τ).loc main_arg1)) := by
  refine (dats m 0 c).arrAt_eq_of_covers 5 (mul (m ((c : Thread nD τ).loc main_arg0)) (m ((c : Thread nD τ).loc main_arg1)))
    (by decide +kernel) fun t hf y => ?_
  have ht := (flush0_5 t).1 hf
  blk_simp
  exact outs_eq m c t ht y _ (by blk_simp [idx5]) (by blk_simp [idx5])

theorem arr_resid : (dats m 0 c).arrAt 4 cfg0.N = resid (m ((c : Thread nD τ).loc main_arg0)) (m ((c : Thread nD τ).loc main_arg1))
    (m ((c : Thread nD τ).loc main_arg2)) (m ((c : Thread nD τ).loc main_arg3)) := by
  refine (dats m 0 c).arrAt_eq_of_covers 4 (resid (m ((c : Thread nD τ).loc main_arg0)) (m ((c : Thread nD τ).loc main_arg1))
    (m ((c : Thread nD τ).loc main_arg2)) (m ((c : Thread nD τ).loc main_arg3))) (by decide +kernel) fun t hf y => ?_
  have ht := (flush0_4 t).1 hf
  blk_simp
  refine (last m c t ht y).trans (congrArg₂ (· + ·) ?_ (congrArg₂ (· * ·) ?_ ?_))
  · rw [← V_main_arg2 m c]
    blk_ext [iblk, V, idx2, idx4]
  · rw [← V_main_arg3 m c]
    blk_ext [iblk, V, idx3, idx4]
  · exact outs_eq m c t ht y _ (by blk_simp [idx4]) (by blk_simp [idx4])

theorem ref : Cert.Reference14Ideal.Read.val_main_v2 (F := Ideal) = mul := by
  funext x w i
  rw [Cert.Reference14Ideal.Read.val_main_v2_apply]
  exact sum_eq_mul fun r => congrArg₂ (· * ·) (congrArg x (idx_ext rfl rfl)) (congrArg w (idx_ext rfl rfl))

theorem ref_resid : Cert.Reference14Ideal.Read.val_main_v5 (F := Ideal) = resid := by
  funext x w z g i
  rw [Cert.Reference14Ideal.Read.val_main_v5_apply, Cert.Reference14Ideal.Read.val_main_v4_apply, Cert.Reference14Ideal.Read.val_main_v3_apply,
    ref]
  exact congrArg (fun q => z i + g q * mul x w i) (idx_ext rfl rfl)

end Down

/-! The output projection and its residual. -/

namespace Out
open Cert.Kernel15Ideal Cert.Kernel15Ideal.Gen
variable (m : (ℓ : Loc nD τ sig) → Buf (Elt Ideal) ℓ) (c : Dev nD)

theorem idx0 : ∀ t : Fin cfg0.N, win0_0.index t = ![t.val / 2, 0] := by decide +kernel
theorem idx1 : ∀ t : Fin cfg0.N, win0_1.index t = ![0, t.val % 2] := by decide +kernel
theorem idx2 : ∀ t : Fin cfg0.N, win0_2.index t = ![t.val / 2, t.val % 2] := by decide +kernel
theorem idx3 : ∀ t : Fin cfg0.N, win0_3.index t = ![0, t.val % 2] := by decide +kernel
theorem idx4 : ∀ t : Fin cfg0.N, win0_4.index t = ![t.val / 2, t.val % 2] := by decide +kernel
theorem idx5 : ∀ t : Fin cfg0.N, win0_5.index t = ![t.val / 2, t.val % 2] := by decide +kernel

theorem pay (x : Vec Ideal S2048x1024 .bf16) (w : Vec Ideal S1024x512 .bf16) : k0_pay1 x w = mul x w :=
  matmul_eq _ x w

theorem pay_resid (x : Vec Ideal S2048x1024 .bf16) (w : Vec Ideal S1024x512 .bf16) (z : Vec Ideal S2048x512 .f32) (g : Vec Ideal S1x512 .f32) :
    k0_pay2 x w z g = resid x w z g := by
  funext j
  unfold k0_pay2
  rw [pay]
  show z j + broadcastTo S2048x512 g _ j * mul x w j = _
  rw [row_at]
  rfl

theorem arr : (dats m 0 c).arrAt 5 cfg0.N = mul (m ((c : Thread nD τ).loc main_arg0)) (m ((c : Thread nD τ).loc main_arg1)) := by
  refine (dats m 0 c).arrAt_eq_of_covers 5 (mul (m ((c : Thread nD τ).loc main_arg0)) (m ((c : Thread nD τ).loc main_arg1)))
    (by decide +kernel) fun t hf y => ?_
  blk_simp
  rw [after0_5]; frame_out
  rw [pay]
  refine mul_congr (fun r => ?_) (fun r => ?_)
  · rw [← V_main_arg0 m c]
    blk_ext [iblk, V, idx0, idx5]
  · rw [← V_main_arg1 m c]
    blk_ext [iblk, V, idx1, idx5]

theorem arr_resid : (dats m 0 c).arrAt 4 cfg0.N = resid (m ((c : Thread nD τ).loc main_arg0)) (m ((c : Thread nD τ).loc main_arg1))
    (m ((c : Thread nD τ).loc main_arg2)) (m ((c : Thread nD τ).loc main_arg3)) := by
  refine (dats m 0 c).arrAt_eq_of_covers 4 (resid (m ((c : Thread nD τ).loc main_arg0)) (m ((c : Thread nD τ).loc main_arg1))
    (m ((c : Thread nD τ).loc main_arg2)) (m ((c : Thread nD τ).loc main_arg3))) (by decide +kernel) fun t hf y => ?_
  blk_simp
  rw [after0_4]; frame_out
  rw [pay_resid]
  refine congrArg₂ (· + ·) ?_ (congrArg₂ (· * ·) ?_ (mul_congr (fun r => ?_) (fun r => ?_)))
  · rw [← V_main_arg2 m c]
    blk_ext [iblk, V, idx2, idx4]
  · rw [← V_main_arg3 m c]
    blk_ext [iblk, V, idx3, idx4]
  · rw [← V_main_arg0 m c]
    blk_ext [iblk, V, idx0, idx4]
  · rw [← V_main_arg1 m c]
    blk_ext [iblk, V, idx1, idx4]

theorem ref : Cert.Reference15Ideal.Read.val_main_v2 (F := Ideal) = mul := by
  funext x w i
  rw [Cert.Reference15Ideal.Read.val_main_v2_apply]
  exact sum_eq_mul fun r => congrArg₂ (· * ·) (congrArg x (idx_ext rfl rfl)) (congrArg w (idx_ext rfl rfl))

theorem ref_resid : Cert.Reference15Ideal.Read.val_main_v5 (F := Ideal) = resid := by
  funext x w z g i
  rw [Cert.Reference15Ideal.Read.val_main_v5_apply, Cert.Reference15Ideal.Read.val_main_v4_apply, Cert.Reference15Ideal.Read.val_main_v3_apply,
    ref]
  exact congrArg (fun q => z i + g q * mul x w i) (idx_ext rfl rfl)

end Out

end Cert.Forward
end
-- ==== Proof.Online.lean ====
module
public import proofs.«01_k».proof.Proof.Steps
@[expose] public section

/-!
The running softmax of one query over the reals. The state is a reference value, the sum of the exponentials of the
scores less it, and the sum of the values so weighted. The values may be infinite. A key block raises the reference value to the larger of it and
the block's largest score and scales what was collected; nothing is asked of the reference value but that it is real,
for it cancels at the end.
-/

set_option maxRecDepth 16384
noncomputable section
namespace Cert.Online
open Cert.AttnGrad Cert.Tiles
open Idealize.ShloMosaic

/-- The new reference value. -/
def mx (s : Fin 256 → EReal) (m : EReal) : EReal := max m (Finset.univ.fold max (Ideal.ofBits .f32 0xFF800000#32) s)
/-- The new sum of the exponentials. -/
def sm (s : Fin 256 → EReal) (m l : EReal) : EReal := Ideal.exp (m - mx s m) * l + ∑ r, Ideal.exp (s r - mx s m)
/-- The new weighted sum of one entry of the values. -/
def av (s v : Fin 256 → EReal) (m a : EReal) : EReal := Ideal.exp (m - mx s m) * a + ∑ r, v r * Ideal.exp (s r - mx s m)

variable (Q K : Fin 8192 → Fin 128 → ℝ) (V : Fin 8192 → Fin 64 → EReal)

/-- A real that is not negative goes into a sum of extended reals. -/
theorem mul_sum_ereal {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert i s hi ih =>
    rw [Finset.sum_insert hi, Finset.sum_insert hi, ← ih]
    exact EReal.left_distrib_of_nonneg_of_ne_top (EReal.coe_nonneg.2 hc) (EReal.coe_ne_top c) _ _

/-- The attention's output, of any values. -/
def outE (i : Fin 8192) (e : Fin 64) : EReal := ∑ j, ((prob Q K i j : ℝ) : EReal) * V j e

/-- The weight of key `j` for query `i` against the reference value `M`. -/
def wM (M : ℝ) (i j : Fin 8192) : ℝ := if j ≤ i then Real.exp (score Q K i j - M) else 0

/-- What the state of query `i` is after `N` key blocks: the start, or the sums over the keys below `256 N`. -/
def Seen (N : ℕ) (i : Fin 8192) (m l : EReal) (a : Fin 64 → EReal) : Prop :=
  (N = 0 ∧ m = ⊥ ∧ l = 0 ∧ ∀ e, a e = 0) ∨
  ∃ M : ℝ, m = (M : EReal) ∧ l = ((∑ j, if j.val < 256 * N then wM Q K M i j else 0 : ℝ) : EReal)
    ∧ ∀ e, a e = ∑ j, if j.val < 256 * N then V j e * ((wM Q K M i j : ℝ) : EReal) else 0

/-- Another reference value scales every weight. -/
theorem wM_scale (M M' : ℝ) (i j : Fin 8192) : Real.exp (M - M') * wM Q K M i j = wM Q K M' i j := by
  unfold wM; split
  · rw [← Real.exp_add]; congr 1; ring
  · rw [mul_zero]

theorem exp_masked_wM (M : ℝ) (i j : Fin 8192) : Ideal.exp (masked Q K i j - (M : EReal)) = ((wM Q K M i j : ℝ) : EReal) := by
  unfold masked wM; split
  · rw [← EReal.coe_sub, Ideal.exp_coe]
  · rw [EReal.bot_sub, Ideal.exp_bot, EReal.coe_zero]

theorem mx_eq (s : Fin 256 → EReal) (m : EReal) : mx s m = max m (Finset.univ.sup s) := by
  unfold mx
  rw [show Ideal.ofBits .f32 0xFF800000#32 = ⊥ by simp [Ideal.ofBits, Ideal.ieee], fold_max_eq_sup]

/-- The new reference value is real once a key of the block is seen. -/
theorem mx_real (n : Fin 32) (i : Fin 8192) (h : 256 * n.val ≤ i.val) (m : EReal) (hm : m < ⊤) :
    ∃ M : ℝ, mx (fun r => masked Q K i (key n r)) m = (M : EReal) := by
  rw [mx_eq]
  refine ⟨_, (EReal.coe_toReal ?_ ?_).symm⟩
  · refine ne_of_lt (max_lt hm ?_)
    refine (Finset.sup_lt_iff bot_lt_top).2 fun r _ => ?_
    unfold masked; split
    · exact EReal.coe_lt_top _
    · exact bot_lt_top
  · have h0 : masked Q K i (key n 0) ≤ max m (Finset.univ.sup fun r => masked Q K i (key n r)) :=
      le_max_of_le_right (Finset.le_sup (f := fun r => masked Q K i (key n r)) (Finset.mem_univ 0))
    rw [masked, if_pos (show key n 0 ≤ i from h)] at h0
    exact ne_of_gt (lt_of_lt_of_le (EReal.bot_lt_coe _) h0)

variable {Q K V}

/-- A key block the query sees a key of. -/
theorem Seen.step {n : Fin 32} {i : Fin 8192} {m l : EReal} {a : Fin 64 → EReal} (H : Seen Q K V n.val i m l a) (h : 256 * n.val ≤ i.val) :
    Seen Q K V (n.val + 1) i (mx (fun r => masked Q K i (key n r)) m) (sm (fun r => masked Q K i (key n r)) m l)
      (fun e => av (fun r => masked Q K i (key n r)) (fun r => V (key n r) e) m (a e)) := by
  have hm : m < ⊤ := by
    rcases H with ⟨-, rfl, -⟩ | ⟨M, rfl, -⟩
    · exact bot_lt_top
    · exact EReal.coe_lt_top _
  obtain ⟨M', hM⟩ := mx_real Q K n i h m hm
  refine .inr ⟨M', hM, ?_, fun e => ?_⟩
  · unfold sm
    rw [hM, Steps.sum_block n]
    simp only [exp_masked_wM]
    rw [← coe_sum, EReal.coe_add]
    congr 1
    rcases H with ⟨h0, -, rfl, -⟩ | ⟨M, rfl, rfl, -⟩
    · rw [mul_zero, h0]; simp
    · rw [← EReal.coe_sub, Ideal.exp_coe, ← EReal.coe_mul, Finset.mul_sum]
      refine congrArg _ (Finset.sum_congr rfl fun j _ => ?_)
      rw [mul_ite, wM_scale, mul_zero]
  · unfold av
    rw [hM, Steps.sum_block n]
    simp only [exp_masked_wM]
    congr 1
    rcases H with ⟨h0, -, -, ha⟩ | ⟨M, rfl, -, ha⟩
    · rw [ha, mul_zero, h0]; simp
    · rw [ha, ← EReal.coe_sub, Ideal.exp_coe, mul_sum_ereal _ (Real.exp_pos _).le]
      refine Finset.sum_congr rfl fun j _ => ?_
      rw [mul_ite, mul_left_comm, ← EReal.coe_mul, wM_scale, mul_zero]

/-- A key block of later keys only changes nothing. -/
theorem Seen.skip {n : Fin 32} {i : Fin 8192} {m l : EReal} {a : Fin 64 → EReal} (H : Seen Q K V n.val i m l a) (h : i.val < 256 * n.val) :
    Seen Q K V (n.val + 1) i m l a := by
  rcases H with ⟨h0, -⟩ | ⟨M, rfl, hl, ha⟩
  · omega
  have hz : ∀ r, wM Q K M i (key n r) = 0 := fun r =>
    if_neg (not_le.2 (show i.val < 256 * n.val + r.val by omega))
  refine .inr ⟨M, rfl, ?_, fun e => ?_⟩
  · rw [hl, Steps.sum_block n]; simp [hz]
  · rw [ha, Steps.sum_block n]; simp [hz]

/-- The state when every key up to the query has passed, without the bound on the keys. -/
theorem Seen.all {N : ℕ} {i : Fin 8192} {m l : EReal} {a : Fin 64 → EReal} (H : Seen Q K V N i m l a) (h : i.val < 256 * N) :
    ∃ M : ℝ, m = (M : EReal) ∧ l = ((Real.exp (top Q K i - M) * mass Q K i : ℝ) : EReal)
      ∧ ∀ e, a e = ∑ j, ((Real.exp (top Q K i - M) * wt Q K i j : ℝ) : EReal) * V j e := by
  rcases H with ⟨h0, -⟩ | ⟨M, rfl, hl, ha⟩
  · omega
  have hw : ∀ j : Fin 8192, (if j.val < 256 * N then wM Q K M i j else 0) = Real.exp (top Q K i - M) * wt Q K i j := fun j => by
    rw [show wt Q K i j = wM Q K (top Q K i) i j from rfl, wM_scale]
    by_cases hj : j.val < 256 * N
    · rw [if_pos hj]
    · rw [if_neg hj, wM, if_neg (show ¬ j ≤ i from fun hji => by have : j.val ≤ i.val := hji; omega)]
  refine ⟨M, rfl, ?_, fun e => ?_⟩
  · rw [hl, mass, Finset.mul_sum]
    exact congrArg _ (Finset.sum_congr rfl fun j _ => hw j)
  · rw [ha]
    refine Finset.sum_congr rfl fun j _ => ?_
    rw [← hw j]
    split
    · rw [mul_comm]
    · rw [EReal.coe_zero, zero_mul]

/-- The output: the reference value cancels. -/
theorem Seen.out {N : ℕ} {i : Fin 8192} {m l : EReal} {a : Fin 64 → EReal} (H : Seen Q K V N i m l a) (h : i.val < 256 * N) (e : Fin 64) :
    Ideal.div (a e) l = outE Q K V i e := by
  obtain ⟨M, -, rfl, ha⟩ := H.all h
  have hm := mass_pos Q K i
  have hx := Real.exp_pos (top Q K i - M)
  have hp := mul_pos hx hm
  rw [ha, Ideal.div_coe hp.ne', mul_comm, mul_sum_ereal _ (one_div_pos.2 hp).le, outE]
  refine Finset.sum_congr rfl fun j _ => ?_
  rw [← mul_assoc, ← EReal.coe_mul, one_div_mul_eq_div, mul_div_mul_left _ _ hx.ne', prob]

/-- The logarithm of the sum of the exponentials of the scores. -/
theorem Seen.lse {N : ℕ} {i : Fin 8192} {m l : EReal} {a : Fin 64 → EReal} (H : Seen Q K V N i m l a) (h : i.val < 256 * N) :
    m + Ideal.log l = ((top Q K i + Real.log (mass Q K i) : ℝ) : EReal) := by
  obtain ⟨M, rfl, rfl, -⟩ := H.all h
  have hm := mass_pos Q K i
  have hx := Real.exp_pos (top Q K i - M)
  rw [log_real _ (mul_pos hx hm), ← EReal.coe_add, Real.log_mul hx.ne' hm.ne', Real.log_exp]
  congr 1; ring

end Cert.Online
-- ==== Proof.FwdTiles.lean ====
module
public import proofs.«01_k».proof.Proof.Online
public import proofs.«01_k».proof.Proof.Gen.Kernel16Ideal.Skeleton
public import Idealize.ShloMosaic.Lib.Pointwise
@[expose] public section

/-!
The forward attention's steps at the ideal reals: each is the running softmax's step on the block's queries from the
step's offset on, and leaves the queries before it as they are.
-/

set_option maxRecDepth 16384
noncomputable section
namespace Cert.FwdTiles
open Cert.Kernel16Ideal Cert.Kernel16Ideal.Gen Cert.AttnGrad Cert.Tiles Cert.Online
open Idealize.ShloMosaic Idealize.ShloMosaic.TcCoe

/-- The state of a block of queries: each one's reference value, sum of exponentials and weighted sum of the values. -/
structure St where
  m : Fin 2048 → EReal
  l : Fin 2048 → EReal
  a : Fin 64 → Fin 2048 → EReal

theorem St.ext' {A B : St} (hm : ∀ t, A.m t = B.m t) (hl : ∀ t, A.l t = B.l t) (ha : ∀ e t, A.a e t = B.a e t) : A = B := by
  cases A; cases B
  rw [St.mk.injEq]
  exact ⟨funext hm, funext hl, funext fun e => funext (ha e)⟩

/-- The state three vectors hold. -/
def toSt (m l : FVec Ideal S1x2048 .f32) (a : FVec Ideal S64x2048 .f32) : St :=
  ⟨fun t => m (ix2 0 t), fun t => l (ix2 0 t), fun e t => a (ix2 e t)⟩

/-- The running softmax's step for the queries from `lo` on. -/
def upd (lo : ℕ) (s : Fin 2048 → Fin 256 → EReal) (v : Fin 64 → Fin 256 → EReal) (A : St) : St :=
  ⟨fun t => if t.val < lo then A.m t else mx (s t) (A.m t), fun t => if t.val < lo then A.l t else sm (s t) (A.m t) (A.l t),
   fun e t => if t.val < lo then A.a e t else av (s t) (v e) (A.m t) (A.a e t)⟩

/-- The queries' components, as the body holds them. -/
def at3 (v0 : Vec Ideal S1x128x2048 .bf16) (a : Fin 128) (t : Fin 2048) : EReal := v0 (ix3 0 a t)
def at2 (v1 : FVec Ideal S128x2048 .bf16) (a : Fin 128) (t : Fin 2048) : EReal := v1 (ix2 a t)

theorem at2_eq (v0 : Vec Ideal S1x128x2048 .bf16) : at2 (k0_pay2 v0) = at3 v0 := funext fun a => funext fun t => by
  pointwise [at2, at3, k0_pay2]

/-- The scores of a step before the diagonal. -/
def early (v0 : Vec Ideal S1x128x2048 .bf16) (kb : Vec Ideal S1x256x128 .bf16) (t : Fin 2048) (r : Fin 256) : EReal :=
  ∑ a, kb (ix3 0 r a) * v0 (ix3 0 a t)

/-- The masked score of key `r` of the block at word `jb` for query `t` of the block at word `qb`, at place `x` of the
    step's queries. -/
def sAt (qb jb : BitVec 32) (lo : ℕ) (q : Fin 128 → Fin 2048 → EReal) (kb : Vec Ideal S1x256x128 .bf16) (x : ℕ) (t : Fin 2048) (r : Fin 256) : EReal :=
  Scalar.select (IntOp.cmpi .sle (IntOp.addi (Scalar.muli jb 256#32) (BitVec.ofNat 32 r.val))
      (IntOp.addi (Scalar.addi (Scalar.muli qb 2048#32) (BitVec.ofNat 32 lo)) (BitVec.ofNat 32 x)))
    (∑ a, kb (ix3 0 r a) * q a t) (Named.named (F := Ideal) κ "mask" (φ := .f32) 0xF149F2CA#32)

/-- The masked scores of the diagonal's step from `lo` on. -/
def late (qb jb : BitVec 32) (lo : ℕ) (q : Fin 128 → Fin 2048 → EReal) (kb : Vec Ideal S1x256x128 .bf16) (t : Fin 2048) (r : Fin 256) : EReal :=
  sAt qb jb lo q kb (t.val - lo) t r

/-- The values of a key block. -/
def ent (vt : Vec Ideal S1x1x64x256 .bf16) (e : Fin 64) (r : Fin 256) : EReal := vt (ix4 0 0 e r)

/-- A value placed at a query before `lo`, or read at the query's place among the rest. -/
theorem at_tail (lo w : ℕ) (hw : lo + w = 2048) (t : Fin 2048) (A : EReal) (F : ℕ → Fin 2048 → EReal) :
    (if h : t.val < lo then A else F (t.val - lo) ⟨lo + (t.val - lo), by omega⟩) = if t.val < lo then A else F (t.val - lo) t := by
  by_cases h : t.val < lo
  · rw [dif_pos h, if_pos h]
  · rw [dif_neg h, if_neg h]
    exact congrArg _ (Fin.ext (by show lo + (t.val - lo) = t.val; omega))

/-- No query is before the first. -/
theorem upd0_m (s : Fin 2048 → Fin 256 → EReal) (v : Fin 64 → Fin 256 → EReal) (A : St) (t : Fin 2048) :
    (upd 0 s v A).m t = mx (s t) (A.m t) := by
  show (if t.val < 0 then A.m t else mx (s t) (A.m t)) = _
  rw [if_neg (Nat.not_lt_zero t.val)]
theorem upd0_l (s : Fin 2048 → Fin 256 → EReal) (v : Fin 64 → Fin 256 → EReal) (A : St) (t : Fin 2048) :
    (upd 0 s v A).l t = sm (s t) (A.m t) (A.l t) := by
  show (if t.val < 0 then A.l t else sm (s t) (A.m t) (A.l t)) = _
  rw [if_neg (Nat.not_lt_zero t.val)]
theorem upd0_a (s : Fin 2048 → Fin 256 → EReal) (v : Fin 64 → Fin 256 → EReal) (A : St) (e : Fin 64) (t : Fin 2048) :
    (upd 0 s v A).a e t = av (s t) (v e) (A.m t) (A.a e t) := by
  show (if t.val < 0 then A.a e t else av (s t) (v e) (A.m t) (A.a e t)) = _
  rw [if_neg (Nat.not_lt_zero t.val)]

variable (v0 : Vec Ideal S1x128x2048 .bf16) (v1 : FVec Ideal S128x2048 .bf16) (qb jb : BitVec 32) (m l : FVec Ideal S1x2048 .f32)
  (a : FVec Ideal S64x2048 .f32) (kb : Vec Ideal S1x256x128 .bf16) (vt : Vec Ideal S1x1x64x256 .bf16)

/-- A trip of the first loop. -/
theorem loop1 : toSt (k0_pay7 v0 m kb) (k0_pay10 v0 m l kb) (k0_pay11 v0 m a kb vt) = upd 0 (early v0 kb) (ent vt) (toSt m l a) := by
  refine St.ext' (fun t => ?_) (fun t => ?_) (fun e t => ?_)
  · refine Eq.trans ?_ (upd0_m _ _ _ _).symm
    pointwise [toSt, k0_pay7, k0_pay6, k0_pay2]
    rfl
  · refine Eq.trans ?_ (upd0_l _ _ _ _).symm
    pointwise [toSt, k0_pay10, k0_pay9, k0_pay8, k0_pay7, k0_pay6, k0_pay2]
    rfl
  · refine Eq.trans ?_ (upd0_a _ _ _ _ _).symm
    pointwise [toSt, k0_pay11, k0_pay9, k0_pay8, k0_pay7, k0_pay6, k0_pay2]
    rfl

/-- A trip of the second loop is a trip of the first. -/
theorem loop2 : toSt (k0_pay13 v0 m kb) (k0_pay16 v0 m l kb) (k0_pay17 v0 m a kb vt) = upd 0 (early v0 kb) (ent vt) (toSt m l a) :=
  loop1 v0 m l a kb vt

/-- The diagonal's step 0. -/
theorem diag0 (i : grid0.Coords) (hq : qb = BitVec.ofNat 32 (i 1).val) (hj : jb = Scalar.addi (Scalar.muli qb 8#32) 0#32) :
    toSt (k0_pay21 m (k0_pay18 v0 kb) (k0_pay19 i) (Scalar.muli qb 2048#32) 0#32)
      (k0_pay24 m l (k0_pay18 v0 kb) (k0_pay19 i) (Scalar.muli qb 2048#32) 0#32)
      (k0_pay25 m a (k0_pay18 v0 kb) (k0_pay19 i) (Scalar.muli qb 2048#32) 0#32 vt)
    = upd 0 (late qb jb 0 (at3 v0) kb) (ent vt) (toSt m l a) := by
  subst hq hj
  refine St.ext' (fun t => ?_) (fun t => ?_) (fun e t => ?_)
  · refine Eq.trans ?_ (upd0_m _ _ _ _).symm
    pointwise [toSt, late, sAt, k0_pay18, k0_pay19, k0_pay20, k0_pay21, k0_pay2]
    rfl
  · refine Eq.trans ?_ (upd0_l _ _ _ _).symm
    pointwise [toSt, late, sAt, k0_pay18, k0_pay19, k0_pay20, k0_pay21, k0_pay22, k0_pay23, k0_pay24, k0_pay2]
    rfl
  · refine Eq.trans ?_ (upd0_a _ _ _ _ _).symm
    pointwise [toSt, late, sAt, k0_pay18, k0_pay19, k0_pay20, k0_pay21, k0_pay22, k0_pay23, k0_pay25, k0_pay2]
    rfl

/-- The diagonal's step 1. -/
theorem diag1 : toSt (k0_pay36 m (extractStridedSlice S1x1792 ![0, 256] m slices_S1x2048_o0_256_S1x1792) (k0_pay29 v1 kb) (k0_pay30 jb) (k0_pay31 qb))
      (k0_pay37 l (extractStridedSlice S1x1792 ![0, 256] m slices_S1x2048_o0_256_S1x1792) (extractStridedSlice S1x1792 ![0, 256] l slices_S1x2048_o0_256_S1x1792) (k0_pay29 v1 kb) (k0_pay30 jb) (k0_pay31 qb))
      (k0_pay38 a (extractStridedSlice S1x1792 ![0, 256] m slices_S1x2048_o0_256_S1x1792) (extractStridedSlice S64x1792 ![0, 256] a slices_S64x2048_o0_256_S64x1792) (k0_pay29 v1 kb) (k0_pay30 jb) (k0_pay31 qb) vt)
    = upd 256 (late qb jb 256 (at2 v1) kb) (ent vt) (toSt m l a) := by
  refine St.ext' (fun t => ?_) (fun t => ?_) (fun e t => ?_)
  · pointwise [toSt, k0_pay36, k0_pay29, k0_pay30, k0_pay31, k0_pay32, k0_pay33, k0_pay34, k0_pay35]
    exact at_tail 256 1792 rfl t _ (fun x u => mx (sAt qb jb 256 (at2 v1) kb x u) (m (ix2 0 u)))
  · pointwise [toSt, k0_pay37, k0_pay29, k0_pay30, k0_pay31, k0_pay32, k0_pay33, k0_pay34, k0_pay35]
    exact at_tail 256 1792 rfl t _ (fun x u => sm (sAt qb jb 256 (at2 v1) kb x u) (m (ix2 0 u)) (l (ix2 0 u)))
  · pointwise [toSt, k0_pay38, k0_pay29, k0_pay30, k0_pay31, k0_pay32, k0_pay33, k0_pay34, k0_pay35]
    exact at_tail 256 1792 rfl t _ (fun x u => av (sAt qb jb 256 (at2 v1) kb x u) (ent vt e) (m (ix2 0 u)) (a (ix2 e u)))

/-- The diagonal's step 2. -/
theorem diag2 : toSt (k0_pay48 m (extractStridedSlice S1x1536 ![0, 512] m slices_S1x2048_o0_512_S1x1536) (k0_pay42 v1 kb) (k0_pay43 jb) (Scalar.addi (Scalar.muli qb 2048#32) 512#32) (iota .tc S256x1536 32 [1] iota_S256x1536_d1_w32))
      (k0_pay49 l (extractStridedSlice S1x1536 ![0, 512] m slices_S1x2048_o0_512_S1x1536) (extractStridedSlice S1x1536 ![0, 512] l slices_S1x2048_o0_512_S1x1536) (k0_pay42 v1 kb) (k0_pay43 jb) (Scalar.addi (Scalar.muli qb 2048#32) 512#32) (iota .tc S256x1536 32 [1] iota_S256x1536_d1_w32))
      (k0_pay50 a (extractStridedSlice S1x1536 ![0, 512] m slices_S1x2048_o0_512_S1x1536) (extractStridedSlice S64x1536 ![0, 512] a slices_S64x2048_o0_512_S64x1536) (k0_pay42 v1 kb) (k0_pay43 jb) (Scalar.addi (Scalar.muli qb 2048#32) 512#32) (iota .tc S256x1536 32 [1] iota_S256x1536_d1_w32) vt)
    = upd 512 (late qb jb 512 (at2 v1) kb) (ent vt) (toSt m l a) := by
  refine St.ext' (fun t => ?_) (fun t => ?_) (fun e t => ?_)
  · pointwise [toSt, k0_pay48, k0_pay42, k0_pay43, k0_pay44, k0_pay45, k0_pay46, k0_pay47]
    exact at_tail 512 1536 rfl t _ (fun x u => mx (sAt qb jb 512 (at2 v1) kb x u) (m (ix2 0 u)))
  · pointwise [toSt, k0_pay49, k0_pay42, k0_pay43, k0_pay44, k0_pay45, k0_pay46, k0_pay47]
    exact at_tail 512 1536 rfl t _ (fun x u => sm (sAt qb jb 512 (at2 v1) kb x u) (m (ix2 0 u)) (l (ix2 0 u)))
  · pointwise [toSt, k0_pay50, k0_pay42, k0_pay43, k0_pay44, k0_pay45, k0_pay46, k0_pay47]
    exact at_tail 512 1536 rfl t _ (fun x u => av (sAt qb jb 512 (at2 v1) kb x u) (ent vt e) (m (ix2 0 u)) (a (ix2 e u)))

/-- The diagonal's step 3. -/
theorem diag3 : toSt (k0_pay60 m (extractStridedSlice S1x1280 ![0, 768] m slices_S1x2048_o0_768_S1x1280) (k0_pay54 v1 kb) (k0_pay55 jb) (Scalar.muli qb 2048#32) 768#32)
      (k0_pay61 l (extractStridedSlice S1x1280 ![0, 768] m slices_S1x2048_o0_768_S1x1280) (extractStridedSlice S1x1280 ![0, 768] l slices_S1x2048_o0_768_S1x1280) (k0_pay54 v1 kb) (k0_pay55 jb) (Scalar.muli qb 2048#32) 768#32)
      (k0_pay62 a (extractStridedSlice S1x1280 ![0, 768] m slices_S1x2048_o0_768_S1x1280) (extractStridedSlice S64x1280 ![0, 768] a slices_S64x2048_o0_768_S64x1280) (k0_pay54 v1 kb) (k0_pay55 jb) (Scalar.muli qb 2048#32) 768#32 vt)
    = upd 768 (late qb jb 768 (at2 v1) kb) (ent vt) (toSt m l a) := by
  refine St.ext' (fun t => ?_) (fun t => ?_) (fun e t => ?_)
  · pointwise [toSt, k0_pay60, k0_pay54, k0_pay55, k0_pay56, k0_pay57, k0_pay58, k0_pay59]
    exact at_tail 768 1280 rfl t _ (fun x u => mx (sAt qb jb 768 (at2 v1) kb x u) (m (ix2 0 u)))
  · pointwise [toSt, k0_pay61, k0_pay54, k0_pay55, k0_pay56, k0_pay57, k0_pay58, k0_pay59]
    exact at_tail 768 1280 rfl t _ (fun x u => sm (sAt qb jb 768 (at2 v1) kb x u) (m (ix2 0 u)) (l (ix2 0 u)))
  · pointwise [toSt, k0_pay62, k0_pay54, k0_pay55, k0_pay56, k0_pay57, k0_pay58, k0_pay59]
    exact at_tail 768 1280 rfl t _ (fun x u => av (sAt qb jb 768 (at2 v1) kb x u) (ent vt e) (m (ix2 0 u)) (a (ix2 e u)))

/-- The diagonal's step 4. -/
theorem diag4 : toSt (k0_pay72 qb m (extractStridedSlice S1x1024 ![0, 1024] m slices_S1x2048_o0_1024_S1x1024) (k0_pay66 v1 kb) (k0_pay67 jb) 2048#32)
      (k0_pay73 qb l (extractStridedSlice S1x1024 ![0, 1024] m slices_S1x2048_o0_1024_S1x1024) (extractStridedSlice S1x1024 ![0, 1024] l slices_S1x2048_o0_1024_S1x1024) (k0_pay66 v1 kb) (k0_pay67 jb) 2048#32)
      (k0_pay74 qb a (extractStridedSlice S1x1024 ![0, 1024] m slices_S1x2048_o0_1024_S1x1024) (extractStridedSlice S64x1024 ![0, 1024] a slices_S64x2048_o0_1024_S64x1024) (k0_pay66 v1 kb) (k0_pay67 jb) 2048#32 vt)
    = upd 1024 (late qb jb 1024 (at2 v1) kb) (ent vt) (toSt m l a) := by
  refine St.ext' (fun t => ?_) (fun t => ?_) (fun e t => ?_)
  · pointwise [toSt, k0_pay72, k0_pay66, k0_pay67, k0_pay68, k0_pay69, k0_pay70, k0_pay71]
    exact at_tail 1024 1024 rfl t _ (fun x u => mx (sAt qb jb 1024 (at2 v1) kb x u) (m (ix2 0 u)))
  · pointwise [toSt, k0_pay73, k0_pay66, k0_pay67, k0_pay68, k0_pay69, k0_pay70, k0_pay71]
    exact at_tail 1024 1024 rfl t _ (fun x u => sm (sAt qb jb 1024 (at2 v1) kb x u) (m (ix2 0 u)) (l (ix2 0 u)))
  · pointwise [toSt, k0_pay74, k0_pay66, k0_pay67, k0_pay68, k0_pay69, k0_pay70, k0_pay71]
    exact at_tail 1024 1024 rfl t _ (fun x u => av (sAt qb jb 1024 (at2 v1) kb x u) (ent vt e) (m (ix2 0 u)) (a (ix2 e u)))

/-- The diagonal's step 5. -/
theorem diag5 : toSt (k0_pay84 qb m (extractStridedSlice S1x768 ![0, 1280] m slices_S1x2048_o0_1280_S1x768) (k0_pay78 v1 kb) (iota .tc S256x768 32 [0] iota_S256x768_d0_w32) (k0_pay79 jb))
      (k0_pay85 qb l (extractStridedSlice S1x768 ![0, 1280] m slices_S1x2048_o0_1280_S1x768) (extractStridedSlice S1x768 ![0, 1280] l slices_S1x2048_o0_1280_S1x768) (k0_pay78 v1 kb) (iota .tc S256x768 32 [0] iota_S256x768_d0_w32) (k0_pay79 jb))
      (k0_pay86 qb a (extractStridedSlice S1x768 ![0, 1280] m slices_S1x2048_o0_1280_S1x768) (extractStridedSlice S64x768 ![0, 1280] a slices_S64x2048_o0_1280_S64x768) (k0_pay78 v1 kb) (iota .tc S256x768 32 [0] iota_S256x768_d0_w32) (k0_pay79 jb) vt)
    = upd 1280 (late qb jb 1280 (at2 v1) kb) (ent vt) (toSt m l a) := by
  refine St.ext' (fun t => ?_) (fun t => ?_) (fun e t => ?_)
  · pointwise [toSt, k0_pay84, k0_pay78, k0_pay79, k0_pay80, k0_pay81, k0_pay82, k0_pay83]
    exact at_tail 1280 768 rfl t _ (fun x u => mx (sAt qb jb 1280 (at2 v1) kb x u) (m (ix2 0 u)))
  · pointwise [toSt, k0_pay85, k0_pay78, k0_pay79, k0_pay80, k0_pay81, k0_pay82, k0_pay83]
    exact at_tail 1280 768 rfl t _ (fun x u => sm (sAt qb jb 1280 (at2 v1) kb x u) (m (ix2 0 u)) (l (ix2 0 u)))
  · pointwise [toSt, k0_pay86, k0_pay78, k0_pay79, k0_pay80, k0_pay81, k0_pay82, k0_pay83]
    exact at_tail 1280 768 rfl t _ (fun x u => av (sAt qb jb 1280 (at2 v1) kb x u) (ent vt e) (m (ix2 0 u)) (a (ix2 e u)))

/-- The diagonal's step 6. -/
theorem diag6 : toSt (k0_pay95 qb m (extractStridedSlice S1x512 ![0, 1536] m slices_S1x2048_o0_1536_S1x512) (k0_pay90 v1 kb) (Scalar.muli jb 256#32))
      (k0_pay96 qb l (extractStridedSlice S1x512 ![0, 1536] m slices_S1x2048_o0_1536_S1x512) (extractStridedSlice S1x512 ![0, 1536] l slices_S1x2048_o0_1536_S1x512) (k0_pay90 v1 kb) (Scalar.muli jb 256#32))
      (k0_pay97 qb a (extractStridedSlice S1x512 ![0, 1536] m slices_S1x2048_o0_1536_S1x512) (extractStridedSlice S64x512 ![0, 1536] a slices_S64x2048_o0_1536_S64x512) (k0_pay90 v1 kb) (Scalar.muli jb 256#32) vt)
    = upd 1536 (late qb jb 1536 (at2 v1) kb) (ent vt) (toSt m l a) := by
  refine St.ext' (fun t => ?_) (fun t => ?_) (fun e t => ?_)
  · pointwise [toSt, k0_pay95, k0_pay90, k0_pay91, k0_pay92, k0_pay93, k0_pay94]
    exact at_tail 1536 512 rfl t _ (fun x u => mx (sAt qb jb 1536 (at2 v1) kb x u) (m (ix2 0 u)))
  · pointwise [toSt, k0_pay96, k0_pay90, k0_pay91, k0_pay92, k0_pay93, k0_pay94]
    exact at_tail 1536 512 rfl t _ (fun x u => sm (sAt qb jb 1536 (at2 v1) kb x u) (m (ix2 0 u)) (l (ix2 0 u)))
  · pointwise [toSt, k0_pay97, k0_pay90, k0_pay91, k0_pay92, k0_pay93, k0_pay94]
    exact at_tail 1536 512 rfl t _ (fun x u => av (sAt qb jb 1536 (at2 v1) kb x u) (ent vt e) (m (ix2 0 u)) (a (ix2 e u)))

/-- The diagonal's last step and the division: the output. -/
theorem out7 (e : Fin 64) (t : Fin 2048) :
    k0_pay107 qb jb l a (extractStridedSlice S1x256 ![0, 1792] m slices_S1x2048_o0_1792_S1x256) (extractStridedSlice S1x256 ![0, 1792] l slices_S1x2048_o0_1792_S1x256)
      (extractStridedSlice S64x256 ![0, 1792] a slices_S64x2048_o0_1792_S64x256) (k0_pay101 v1 kb) vt (ix3 0 e t)
    = Ideal.div ((upd 1792 (late qb jb 1792 (at2 v1) kb) (ent vt) (toSt m l a)).a e t) ((upd 1792 (late qb jb 1792 (at2 v1) kb) (ent vt) (toSt m l a)).l t) := by
  pointwise [k0_pay107, k0_pay106, k0_pay105, k0_pay104, k0_pay103, k0_pay102, k0_pay101]
  exact congr (congrArg Ideal.div (at_tail 1792 256 rfl t _ (fun x u => av (sAt qb jb 1792 (at2 v1) kb x u) (ent vt e) (m (ix2 0 u)) (a (ix2 e u)))))
    (at_tail 1792 256 rfl t _ (fun x u => sm (sAt qb jb 1792 (at2 v1) kb x u) (m (ix2 0 u)) (l (ix2 0 u))))

/-- The diagonal's last step and the logarithm: each row's log of its sum of exponentials. -/
theorem lse7 (t : Fin 2048) :
    k0_pay108 qb jb m l (extractStridedSlice S1x256 ![0, 1792] m slices_S1x2048_o0_1792_S1x256) (extractStridedSlice S1x256 ![0, 1792] l slices_S1x2048_o0_1792_S1x256)
      (k0_pay101 v1 kb) (ix2 0 t)
    = (upd 1792 (late qb jb 1792 (at2 v1) kb) (ent vt) (toSt m l a)).m t + Ideal.log ((upd 1792 (late qb jb 1792 (at2 v1) kb) (ent vt) (toSt m l a)).l t) := by
  pointwise [k0_pay108, k0_pay106, k0_pay105, k0_pay104, k0_pay103, k0_pay102, k0_pay101]
  exact congr (congrArg (· + ·) (at_tail 1792 256 rfl t _ (fun x u => mx (sAt qb jb 1792 (at2 v1) kb x u) (m (ix2 0 u)))))
    (congrArg Ideal.log (at_tail 1792 256 rfl t _ (fun x u => sm (sAt qb jb 1792 (at2 v1) kb x u) (m (ix2 0 u)) (l (ix2 0 u)))))

end Cert.FwdTiles
-- ==== Proof.FwdChain.lean ====
module
public import proofs.«01_k».proof.Proof.FwdTiles
public import proofs.«01_k».proof.Proof.Gen.Kernel16Ideal.Frame
@[expose] public section

/-!
The forward attention's body at one grid point, step by step: the two loops over the key blocks before the diagonal, then
the eight steps of the diagonal. A step's state is every query's reference value, sum of exponentials and weighted sum of
the values. The point's run stores the quotient and the logarithm made of the eighth step's state.
-/

set_option maxRecDepth 16384
noncomputable section
namespace Cert.FwdChain
open Cert.Kernel16Ideal Cert.Kernel16Ideal.Gen
open Idealize.ShloMosaic Idealize.ShloMosaic.TcCoe

/-- A grid point's buffers and blocks. -/
structure Env where
  c : Dev nD
  i : grid0.Coords
  arg2 : Memref sig .tc .vmem S1x128x2048 .bf16
  harg2 : arg2.IsWhole
  arg3 : Memref sig .tc .vmem S1x8192x128 .bf16
  harg3 : arg3.IsWhole
  arg4 : Memref sig .tc .vmem S1x32x64x256 .bf16
  harg4 : arg4.IsWhole
  arg5 : Memref sig .tc .vmem S1x64x2048 .f32
  harg5 : arg5.IsWhole
  arg6 : Memref sig .tc .vmem S1x1x2048 .f32
  harg6 : arg6.IsWhole
  x0 : Vec Ideal S1x128x2048 .bf16
  x1 : Vec Ideal S1x8192x128 .bf16
  x2 : Vec Ideal S1x32x64x256 .bf16

/-- The three vectors a loop carries. -/
abbrev State := FVec Ideal S1x2048 .f32 × FVec Ideal S1x2048 .f32 × FVec Ideal S64x2048 .f32

namespace Env
variable (E : Env)

def qb : BitVec 32 := BitVec.ofNat 32 (E.i 1).val
def v0 : Vec Ideal S1x128x2048 .bf16 := View.readAt (Elt Ideal) E.arg2.view (Rect.unit (s := S1x128x2048) ![0, 0, 0] S1x128x2048.size inb_S1x128x2048_S1x128x2048_0_0_0).toLoadRect (E.harg2.unread E.x0)
def v1 : FVec Ideal S128x2048 .bf16 := k0_pay2 E.v0

/-- The key block of the diagonal's step `d`. -/
def jb (d : BitVec 32) : BitVec 32 := Scalar.addi (Scalar.muli E.qb 8#32) d

/-- The state of the first loop after `n` trips. -/
def loop1 (n : ℕ) : State :=
  st_k0_t1 Variants.none E.c none E.i E.arg2 E.harg2 E.arg3 E.harg3 E.arg4 E.harg4 E.arg5 E.harg5 E.arg6 E.harg6 E.v0 (E.harg3.unread E.x1) (E.harg4.unread E.x2) (k0_pay3, k0_pay4, k0_pay5) n

/-- The first loop's end. -/
def end1 : State := E.loop1 (Scf.trips (k0_t1_loop E.i).lb (k0_t1_loop E.i).ub (k0_t1_loop E.i).st)

/-- The second loop's end. -/
def end2 : State :=
  st_k0_t2 Variants.none E.c none E.i E.arg2 E.harg2 E.arg3 E.harg3 E.arg4 E.harg4 E.arg5 E.harg5 E.arg6 E.harg6 E.v0 (E.harg3.unread E.x1) (E.harg4.unread E.x2) (E.end1.1, E.end1.2.1, E.end1.2.2)
    (Scf.trips (k0_t2_loop E.i).lb (k0_t2_loop E.i).ub (k0_t2_loop E.i).st)

/-- The diagonal step's keys and values. -/
def kb (d : BitVec 32) (h : ∀ a, (k0_off5 E.i d) a + S1x256x128.size a ≤ S1x8192x128.size a) : Vec Ideal S1x256x128 .bf16 :=
  View.readAt (Elt Ideal) E.arg3.view (Rect.unit (s := S1x8192x128) (k0_off5 E.i d) S1x256x128.size h).toLoadRect (E.harg3.unread E.x1)
def vt (d : BitVec 32) (h : ∀ a, (k0_off6 E.i d) a + S1x1x64x256.size a ≤ S1x32x64x256.size a) : Vec Ideal S1x1x64x256 .bf16 :=
  View.readAt (Elt Ideal) E.arg4.view (Rect.unit (s := S1x32x64x256) (k0_off6 E.i d) S1x1x64x256.size h).toLoadRect (E.harg4.unread E.x2)

/-- When the diagonal begins. -/
def m0 : FVec Ideal S1x2048 .f32 := E.end2.1
def l0 : FVec Ideal S1x2048 .f32 := E.end2.2.1
def a0 : FVec Ideal S64x2048 .f32 := E.end2.2.2

/-- After the diagonal's step 0. -/
def m1 : FVec Ideal S1x2048 .f32 := k0_pay21 E.m0 (k0_pay18 E.v0 (E.kb 0#32 (k0_off5_inb E.i 0))) (k0_pay19 E.i) (Scalar.muli E.qb 2048#32) 0#32
def l1 : FVec Ideal S1x2048 .f32 := k0_pay24 E.m0 E.l0 (k0_pay18 E.v0 (E.kb 0#32 (k0_off5_inb E.i 0))) (k0_pay19 E.i) (Scalar.muli E.qb 2048#32) 0#32
def a1 : FVec Ideal S64x2048 .f32 := k0_pay25 E.m0 E.a0 (k0_pay18 E.v0 (E.kb 0#32 (k0_off5_inb E.i 0))) (k0_pay19 E.i) (Scalar.muli E.qb 2048#32) 0#32 (E.vt 0#32 (k0_off6_inb E.i 0))

/-- After the diagonal's step 1. -/
def m2 : FVec Ideal S1x2048 .f32 := k0_pay36 E.m1 (extractStridedSlice S1x1792 ![0, 256] E.m1 slices_S1x2048_o0_256_S1x1792) (k0_pay29 E.v1 (E.kb 1#32 (k0_off5_inb E.i 1))) (k0_pay30 (E.jb 1#32)) (k0_pay31 E.qb)
def l2 : FVec Ideal S1x2048 .f32 := k0_pay37 E.l1 (extractStridedSlice S1x1792 ![0, 256] E.m1 slices_S1x2048_o0_256_S1x1792) (extractStridedSlice S1x1792 ![0, 256] E.l1 slices_S1x2048_o0_256_S1x1792) (k0_pay29 E.v1 (E.kb 1#32 (k0_off5_inb E.i 1))) (k0_pay30 (E.jb 1#32)) (k0_pay31 E.qb)
def a2 : FVec Ideal S64x2048 .f32 := k0_pay38 E.a1 (extractStridedSlice S1x1792 ![0, 256] E.m1 slices_S1x2048_o0_256_S1x1792) (extractStridedSlice S64x1792 ![0, 256] E.a1 slices_S64x2048_o0_256_S64x1792) (k0_pay29 E.v1 (E.kb 1#32 (k0_off5_inb E.i 1))) (k0_pay30 (E.jb 1#32)) (k0_pay31 E.qb) (E.vt 1#32 (k0_off6_inb E.i 1))

/-- After the diagonal's step 2. -/
def m3 : FVec Ideal S1x2048 .f32 := k0_pay48 E.m2 (extractStridedSlice S1x1536 ![0, 512] E.m2 slices_S1x2048_o0_512_S1x1536) (k0_pay42 E.v1 (E.kb 2#32 (k0_off5_inb E.i 2))) (k0_pay43 (E.jb 2#32)) (Scalar.addi (Scalar.muli E.qb 2048#32) 512#32) (iota .tc S256x1536 32 [1] iota_S256x1536_d1_w32)
def l3 : FVec Ideal S1x2048 .f32 := k0_pay49 E.l2 (extractStridedSlice S1x1536 ![0, 512] E.m2 slices_S1x2048_o0_512_S1x1536) (extractStridedSlice S1x1536 ![0, 512] E.l2 slices_S1x2048_o0_512_S1x1536) (k0_pay42 E.v1 (E.kb 2#32 (k0_off5_inb E.i 2))) (k0_pay43 (E.jb 2#32)) (Scalar.addi (Scalar.muli E.qb 2048#32) 512#32) (iota .tc S256x1536 32 [1] iota_S256x1536_d1_w32)
def a3 : FVec Ideal S64x2048 .f32 := k0_pay50 E.a2 (extractStridedSlice S1x1536 ![0, 512] E.m2 slices_S1x2048_o0_512_S1x1536) (extractStridedSlice S64x1536 ![0, 512] E.a2 slices_S64x2048_o0_512_S64x1536) (k0_pay42 E.v1 (E.kb 2#32 (k0_off5_inb E.i 2))) (k0_pay43 (E.jb 2#32)) (Scalar.addi (Scalar.muli E.qb 2048#32) 512#32) (iota .tc S256x1536 32 [1] iota_S256x1536_d1_w32) (E.vt 2#32 (k0_off6_inb E.i 2))

/-- After the diagonal's step 3. -/
def m4 : FVec Ideal S1x2048 .f32 := k0_pay60 E.m3 (extractStridedSlice S1x1280 ![0, 768] E.m3 slices_S1x2048_o0_768_S1x1280) (k0_pay54 E.v1 (E.kb 3#32 (k0_off5_inb E.i 3))) (k0_pay55 (E.jb 3#32)) (Scalar.muli E.qb 2048#32) 768#32
def l4 : FVec Ideal S1x2048 .f32 := k0_pay61 E.l3 (extractStridedSlice S1x1280 ![0, 768] E.m3 slices_S1x2048_o0_768_S1x1280) (extractStridedSlice S1x1280 ![0, 768] E.l3 slices_S1x2048_o0_768_S1x1280) (k0_pay54 E.v1 (E.kb 3#32 (k0_off5_inb E.i 3))) (k0_pay55 (E.jb 3#32)) (Scalar.muli E.qb 2048#32) 768#32
def a4 : FVec Ideal S64x2048 .f32 := k0_pay62 E.a3 (extractStridedSlice S1x1280 ![0, 768] E.m3 slices_S1x2048_o0_768_S1x1280) (extractStridedSlice S64x1280 ![0, 768] E.a3 slices_S64x2048_o0_768_S64x1280) (k0_pay54 E.v1 (E.kb 3#32 (k0_off5_inb E.i 3))) (k0_pay55 (E.jb 3#32)) (Scalar.muli E.qb 2048#32) 768#32 (E.vt 3#32 (k0_off6_inb E.i 3))

/-- After the diagonal's step 4. -/
def m5 : FVec Ideal S1x2048 .f32 := k0_pay72 E.qb E.m4 (extractStridedSlice S1x1024 ![0, 1024] E.m4 slices_S1x2048_o0_1024_S1x1024) (k0_pay66 E.v1 (E.kb 4#32 (k0_off5_inb E.i 4))) (k0_pay67 (E.jb 4#32)) 2048#32
def l5 : FVec Ideal S1x2048 .f32 := k0_pay73 E.qb E.l4 (extractStridedSlice S1x1024 ![0, 1024] E.m4 slices_S1x2048_o0_1024_S1x1024) (extractStridedSlice S1x1024 ![0, 1024] E.l4 slices_S1x2048_o0_1024_S1x1024) (k0_pay66 E.v1 (E.kb 4#32 (k0_off5_inb E.i 4))) (k0_pay67 (E.jb 4#32)) 2048#32
def a5 : FVec Ideal S64x2048 .f32 := k0_pay74 E.qb E.a4 (extractStridedSlice S1x1024 ![0, 1024] E.m4 slices_S1x2048_o0_1024_S1x1024) (extractStridedSlice S64x1024 ![0, 1024] E.a4 slices_S64x2048_o0_1024_S64x1024) (k0_pay66 E.v1 (E.kb 4#32 (k0_off5_inb E.i 4))) (k0_pay67 (E.jb 4#32)) 2048#32 (E.vt 4#32 (k0_off6_inb E.i 4))

/-- After the diagonal's step 5. -/
def m6 : FVec Ideal S1x2048 .f32 := k0_pay84 E.qb E.m5 (extractStridedSlice S1x768 ![0, 1280] E.m5 slices_S1x2048_o0_1280_S1x768) (k0_pay78 E.v1 (E.kb 5#32 (k0_off5_inb E.i 5))) (iota .tc S256x768 32 [0] iota_S256x768_d0_w32) (k0_pay79 (E.jb 5#32))
def l6 : FVec Ideal S1x2048 .f32 := k0_pay85 E.qb E.l5 (extractStridedSlice S1x768 ![0, 1280] E.m5 slices_S1x2048_o0_1280_S1x768) (extractStridedSlice S1x768 ![0, 1280] E.l5 slices_S1x2048_o0_1280_S1x768) (k0_pay78 E.v1 (E.kb 5#32 (k0_off5_inb E.i 5))) (iota .tc S256x768 32 [0] iota_S256x768_d0_w32) (k0_pay79 (E.jb 5#32))
def a6 : FVec Ideal S64x2048 .f32 := k0_pay86 E.qb E.a5 (extractStridedSlice S1x768 ![0, 1280] E.m5 slices_S1x2048_o0_1280_S1x768) (extractStridedSlice S64x768 ![0, 1280] E.a5 slices_S64x2048_o0_1280_S64x768) (k0_pay78 E.v1 (E.kb 5#32 (k0_off5_inb E.i 5))) (iota .tc S256x768 32 [0] iota_S256x768_d0_w32) (k0_pay79 (E.jb 5#32)) (E.vt 5#32 (k0_off6_inb E.i 5))

/-- After the diagonal's step 6. -/
def m7 : FVec Ideal S1x2048 .f32 := k0_pay95 E.qb E.m6 (extractStridedSlice S1x512 ![0, 1536] E.m6 slices_S1x2048_o0_1536_S1x512) (k0_pay90 E.v1 (E.kb 6#32 (k0_off5_inb E.i 6))) (Scalar.muli (E.jb 6#32) 256#32)
def l7 : FVec Ideal S1x2048 .f32 := k0_pay96 E.qb E.l6 (extractStridedSlice S1x512 ![0, 1536] E.m6 slices_S1x2048_o0_1536_S1x512) (extractStridedSlice S1x512 ![0, 1536] E.l6 slices_S1x2048_o0_1536_S1x512) (k0_pay90 E.v1 (E.kb 6#32 (k0_off5_inb E.i 6))) (Scalar.muli (E.jb 6#32) 256#32)
def a7 : FVec Ideal S64x2048 .f32 := k0_pay97 E.qb E.a6 (extractStridedSlice S1x512 ![0, 1536] E.m6 slices_S1x2048_o0_1536_S1x512) (extractStridedSlice S64x512 ![0, 1536] E.a6 slices_S64x2048_o0_1536_S64x512) (k0_pay90 E.v1 (E.kb 6#32 (k0_off5_inb E.i 6))) (Scalar.muli (E.jb 6#32) 256#32) (E.vt 6#32 (k0_off6_inb E.i 6))

/-- The block of outputs. -/
def o : FVec Ideal S1x64x2048 .f32 := k0_pay107 E.qb (E.jb 7#32) E.l7 E.a7 (extractStridedSlice S1x256 ![0, 1792] E.m7 slices_S1x2048_o0_1792_S1x256) (extractStridedSlice S1x256 ![0, 1792] E.l7 slices_S1x2048_o0_1792_S1x256) (extractStridedSlice S64x256 ![0, 1792] E.a7 slices_S64x2048_o0_1792_S64x256) (k0_pay101 E.v1 (E.kb 7#32 (k0_off5_inb E.i 7))) (E.vt 7#32 (k0_off6_inb E.i 7))

/-- The block of logarithms. -/
def ls : FVec Ideal S1x2048 .f32 := k0_pay108 E.qb (E.jb 7#32) E.m7 E.l7 (extractStridedSlice S1x256 ![0, 1792] E.m7 slices_S1x2048_o0_1792_S1x256) (extractStridedSlice S1x256 ![0, 1792] E.l7 slices_S1x2048_o0_1792_S1x256) (k0_pay101 E.v1 (E.kb 7#32 (k0_off5_inb E.i 7)))

end Env

/-- A grid point's blocks, as one. -/
def env (c : Dev nD) (i : grid0.Coords) (arg2 : Memref sig .tc .vmem S1x128x2048 .bf16) (harg2 : arg2.IsWhole) (arg3 : Memref sig .tc .vmem S1x8192x128 .bf16) (harg3 : arg3.IsWhole) (arg4 : Memref sig .tc .vmem S1x32x64x256 .bf16) (harg4 : arg4.IsWhole) (arg5 : Memref sig .tc .vmem S1x64x2048 .f32) (harg5 : arg5.IsWhole) (arg6 : Memref sig .tc .vmem S1x1x2048 .f32) (harg6 : arg6.IsWhole)
    (x0 : Vec Ideal S1x128x2048 .bf16) (x1 : Vec Ideal S1x8192x128 .bf16) (x2 : Vec Ideal S1x32x64x256 .bf16) : Env :=
  ⟨c, i, arg2, harg2, arg3, harg3, arg4, harg4, arg5, harg5, arg6, harg6, x0, x1, x2⟩

section
variable (c : Dev nD) (i : grid0.Coords) (arg2 : Memref sig .tc .vmem S1x128x2048 .bf16) (harg2 : arg2.IsWhole) (arg3 : Memref sig .tc .vmem S1x8192x128 .bf16) (harg3 : arg3.IsWhole) (arg4 : Memref sig .tc .vmem S1x32x64x256 .bf16) (harg4 : arg4.IsWhole) (arg5 : Memref sig .tc .vmem S1x64x2048 .f32) (harg5 : arg5.IsWhole) (arg6 : Memref sig .tc .vmem S1x1x2048 .f32) (harg6 : arg6.IsWhole)
  (x0 : Vec Ideal S1x128x2048 .bf16) (x1 : Vec Ideal S1x8192x128 .bf16) (x2 : Vec Ideal S1x32x64x256 .bf16)

set_option maxHeartbeats 4000000 in
theorem run_3 : (kernelRun0_A (F := Ideal) c i arg2 harg2 arg3 harg3 arg4 harg4 arg5 harg5 arg6 harg6 x0 x1 x2).1
    = [⟨Rect.unit (s := S1x64x2048) ![0, 0, 0] ![1, 64, 2048] inb_S1x64x2048_S1x64x2048_0_0_0, (env c i arg2 harg2 arg3 harg3 arg4 harg4 arg5 harg5 arg6 harg6 x0 x1 x2).o⟩] := rfl

set_option maxHeartbeats 4000000 in
theorem run_4 : (kernelRun0_A (F := Ideal) c i arg2 harg2 arg3 harg3 arg4 harg4 arg5 harg5 arg6 harg6 x0 x1 x2).2.1
    = [⟨Rect.unit (s := S1x1x2048) ![0, 0, 0] ![1, 1, 2048] inb_S1x1x2048_S1x1x2048_0_0_0, k0_pay1 (env c i arg2 harg2 arg3 harg3 arg4 harg4 arg5 harg5 arg6 harg6 x0 x1 x2).ls⟩] := rfl

end
end Cert.FwdChain
end
-- ==== Proof.FwdWalk.lean ====
module
public import proofs.«01_k».proof.Proof.FwdChain
public import proofs.«01_k».proof.Proof.Walk
@[expose] public section

/-!
The forward attention's walk over the key blocks of one query block: after `N` key blocks every query's state is the
running softmax over the keys below `256 N` that it sees, so the point's end is each query's output and logarithm.
-/

set_option maxRecDepth 16384
noncomputable section
namespace Cert.FwdWalk
open Cert.Kernel16Ideal Cert.Kernel16Ideal.Gen Cert.AttnGrad Cert.Tiles Cert.Online Cert.FwdTiles Cert.FwdChain
open Idealize.ShloMosaic Idealize.ShloMosaic.TcCoe

/-- The blocks of the point of query block `b`. -/
structure Blocks (Q K : Fin 8192 → Fin 128 → ℝ) (V : Fin 8192 → Fin 64 → EReal) (E : Env) (b : Fin 4) : Prop where
  i1 : (E.i 1).val = b.val
  x0 : ∀ a t, E.x0 (ix3 0 a t) = ((Q (row b t) a : ℝ) : EReal)
  x1 : ∀ j a, E.x1 (ix3 0 j a) = ((K j a : ℝ) : EReal)
  x2 : ∀ n e r, E.x2 (ix4 0 n e r) = V (key n r) e

variable {Q K : Fin 8192 → Fin 128 → ℝ} {V : Fin 8192 → Fin 64 → EReal} {E : Env} {b : Fin 4}

/-- Every query of block `b` has seen `N` key blocks. -/
def Good (Q K : Fin 8192 → Fin 128 → ℝ) (V : Fin 8192 → Fin 64 → EReal) (b : Fin 4) (N : ℕ) (A : St) : Prop :=
  ∀ t, Seen Q K V N (row b t) (A.m t) (A.l t) (fun e => A.a e t)

/-- The running softmax's step on key block `n`. -/
theorem Good.next {n : Fin 32} {A : St} (G : Good Q K V b n.val A) (lo : ℕ) (hlo : ∀ t : Fin 2048, t.val < lo ↔ (row b t).val < 256 * n.val)
    {s : Fin 2048 → Fin 256 → EReal} {v : Fin 64 → Fin 256 → EReal} (hs : ∀ t r, lo ≤ t.val → s t r = masked Q K (row b t) (key n r))
    (hv : ∀ e r, v e r = V (key n r) e) : Good Q K V b (n.val + 1) (upd lo s v A) := by
  intro t
  show Seen Q K V (n.val + 1) (row b t) (if t.val < lo then A.m t else mx (s t) (A.m t)) (if t.val < lo then A.l t else sm (s t) (A.m t) (A.l t))
    (fun e => if t.val < lo then A.a e t else av (s t) (v e) (A.m t) (A.a e t))
  by_cases h : t.val < lo
  · simp only [if_pos h]
    exact (G t).skip ((hlo t).1 h)
  · simp only [if_neg h]
    rw [show s t = fun r => masked Q K (row b t) (key n r) from funext fun r => hs t r (Nat.not_lt.1 h),
      show v = fun e r => V (key n r) e from funext fun e => funext (hv e)]
    exact (G t).step (Nat.not_lt.1 fun h' => h ((hlo t).2 h'))

/-! ## The words and the loads -/

theorem whole {s : Shape} {e : EltTy} {m : Memref sig .tc .vmem s e} (hm : m.IsWhole) (X : Vec Ideal s e)
    {off : Fin s.rank → ℕ} (inb : ∀ a, off a + s.size a ≤ s.size a) (h : ∀ a, off a = 0) :
    View.readAt (Elt Ideal) m.view (Rect.unit off s.size inb).toLoadRect (hm.unread X) = X := by
  rw [View.readAt_eq_ld, hm.read_unread]
  exact View.ld_unit_lit inb X h

theorem v0_eq (B : Blocks Q K V E b) : E.v0 = E.x0 := whole E.harg2 E.x0 _ (by decide)

theorem kb_at (B : Blocks Q K V E b) (n : Fin 32) (o : Fin 3 → ℕ) (h : ∀ a, o a + S1x256x128.size a ≤ S1x8192x128.size a) (eo : o = ![0, 256 * n.val, 0])
    (r : Fin 256) (a : Fin 128) :
    View.readAt (Elt Ideal) E.arg3.view (Rect.unit (s := S1x8192x128) o S1x256x128.size h).toLoadRect (E.harg3.unread E.x1) (ix3 0 r a) = ((K (key n r) a : ℝ) : EReal) := by
  subst eo
  rw [View.readAt_eq_ld, E.harg3.read_unread, ← B.x1]
  exact View.ld_unit_apply_of E.x1 _ _ h _ _ fun d => by
    match d with
    | ⟨0, _⟩ => rfl
    | ⟨1, _⟩ => rfl
    | ⟨2, _⟩ => show a.val = 0 + a.val; omega

theorem vt_at (B : Blocks Q K V E b) (n : Fin 32) (o : Fin 4 → ℕ) (h : ∀ a, o a + S1x1x64x256.size a ≤ S1x32x64x256.size a) (eo : o = ![0, n.val, 0, 0])
    (e : Fin 64) (r : Fin 256) :
    View.readAt (Elt Ideal) E.arg4.view (Rect.unit (s := S1x32x64x256) o S1x1x64x256.size h).toLoadRect (E.harg4.unread E.x2) (ix4 0 0 e r) = V (key n r) e := by
  subst eo
  rw [View.readAt_eq_ld, E.harg4.read_unread, ← B.x2]
  exact View.ld_unit_apply_of E.x2 _ _ h _ _ fun d => by
    match d with
    | ⟨0, _⟩ => rfl
    | ⟨1, _⟩ => rfl
    | ⟨2, _⟩ => show e.val = 0 + e.val; omega
    | ⟨3, _⟩ => show r.val = 0 + r.val; omega

theorem trips1 (B : Blocks Q K V E b) : (k0_t1_loop E.i).trips = 8 * b.val := by
  rw [← Walk.trips_word b, ← B.i1]
theorem trips2 (B : Blocks Q K V E b) : (k0_t2_loop E.i).trips = 0 := by
  rw [← Walk.trips_word' b, ← B.i1]

theorem qb_eq (B : Blocks Q K V E b) : E.qb = BitVec.ofNat 32 b.val := by unfold Env.qb; rw [B.i1]

/-- The key block of the diagonal's step `d`. -/
def dkey (b : Fin 4) (d : Fin 8) : Fin 32 := ⟨8 * b.val + d.val, by omega⟩

theorem jb_eq (B : Blocks Q K V E b) (d : Fin 8) : E.jb (BitVec.ofNat 32 d.val) = BitVec.ofNat 32 (dkey b d).val := by
  unfold Env.jb; rw [qb_eq B]; exact Walk.diag_block b d

theorem off5 (B : Blocks Q K V E b) (d : Fin 8) : k0_off5 E.i (BitVec.ofNat 32 d.val) = ![0, 256 * (dkey b d).val, 0] :=
  (k0_off5_eq E.i d).trans (congrArg (fun z => ![0, z, 0]) (by rw [B.i1]; show 2048 * b.val + 256 * d.val = 256 * (8 * b.val + d.val); omega))
theorem off6 (B : Blocks Q K V E b) (d : Fin 8) : k0_off6 E.i (BitVec.ofNat 32 d.val) = ![0, (dkey b d).val, 0, 0] :=
  (k0_off6_eq E.i d).trans (congrArg (fun z => ![0, z, 0, 0]) (by rw [B.i1]; rfl))

theorem dot_score (i j : Fin 8192) : (∑ a, ((K j a : ℝ) : EReal) * ((Q i a : ℝ) : EReal)) = ((score Q K i j : ℝ) : EReal) := by
  rw [coe_sum_mul]
  exact congrArg _ (Finset.sum_congr rfl fun a _ => mul_comm _ _)

/-! ## The loop before the diagonal -/

theorem early_at {n : Fin 32} (hn : n.val < 8 * b.val) {v0 : Vec Ideal S1x128x2048 .bf16} {kb : Vec Ideal S1x256x128 .bf16}
    (hq : ∀ a t, v0 (ix3 0 a t) = ((Q (row b t) a : ℝ) : EReal)) (hk : ∀ r a, kb (ix3 0 r a) = ((K (key n r) a : ℝ) : EReal)) (t : Fin 2048) (r : Fin 256) :
    early v0 kb t r = masked Q K (row b t) (key n r) := by
  unfold early
  simp only [hq, hk]
  rw [dot_score, masked, if_pos]
  show 256 * n.val + r.val ≤ 2048 * b.val + t.val
  omega

/-- The state a loop carries, as one. -/
def stOf (s : State) : St := toSt s.1 s.2.1 s.2.2

theorem start_good : Good Q K V b 0 (toSt k0_pay3 k0_pay4 k0_pay5) := fun t => by
  refine Or.inl ⟨rfl, ?_, ?_, fun e => ?_⟩
  · rfl
  · exact Ideal.ofBits_zero_f32
  · exact Ideal.ofBits_zero_f32

/-- One trip. -/
theorem loop1_succ (E : Env) (k : Fin (k0_t1_loop E.i).trips) : stOf (E.loop1 (k.val + 1))
    = upd 0 (early E.v0 (View.readAt (Elt Ideal) E.arg3.view (Rect.unit (s := S1x8192x128) (k0_off1 E.i k) S1x256x128.size (k0_off1_inb E.i k)).toLoadRect (E.harg3.unread E.x1)))
        (ent (View.readAt (Elt Ideal) E.arg4.view (Rect.unit (s := S1x32x64x256) (k0_off2 E.i k) S1x1x64x256.size (k0_off2_inb E.i k)).toLoadRect (E.harg4.unread E.x2)))
        (stOf (E.loop1 k.val)) := by
  refine Eq.trans ?_ (loop1 E.v0 (E.loop1 k.val).1 (E.loop1 k.val).2.1 (E.loop1 k.val).2.2 _ _)
  unfold Env.loop1
  rw [st_k0_t1_succ]
  unfold tripR_k0_t1 trip_k0_t1
  rfl

theorem loop1_good (B : Blocks Q K V E b) : ∀ n, n ≤ 8 * b.val → Good Q K V b n (stOf (E.loop1 n))
  | 0, _ => start_good
  | n + 1, hn => by
      have hk : n < (k0_t1_loop E.i).trips := by rw [trips1 B]; omega
      have h32 : n < 32 := by omega
      rw [loop1_succ E ⟨n, hk⟩]
      refine Good.next (n := ⟨n, h32⟩) (loop1_good B n (by omega)) 0 (fun t => ⟨fun h => absurd h (Nat.not_lt_zero _), fun h => ?_⟩) (fun t r _ => ?_) fun e r => ?_
      · have h' : 2048 * b.val + t.val < 256 * n := h
        omega
      · exact early_at (n := ⟨n, h32⟩) (show n < 8 * b.val by omega) (fun a t => (congrFun (v0_eq B) _).trans (B.x0 a t))
          (kb_at B ⟨n, h32⟩ _ _ (k0_off1_eq E.i ⟨n, hk⟩)) t r
      · exact vt_at B ⟨n, h32⟩ _ _ (k0_off2_eq E.i ⟨n, hk⟩) e r

theorem diag_start (B : Blocks Q K V E b) : Good Q K V b (8 * b.val) (toSt E.m0 E.l0 E.a0) := by
  have e1 : E.end1 = E.loop1 (8 * b.val) := congrArg E.loop1 (trips1 B)
  have e2 : E.end2 = E.end1 := by
    unfold Env.end2
    rw [show Scf.trips (k0_t2_loop E.i).lb (k0_t2_loop E.i).ub (k0_t2_loop E.i).st = 0 from trips2 B]
    rfl
  show Good Q K V b (8 * b.val) (stOf E.end2)
  rw [e2, e1]
  exact loop1_good B _ le_rfl

/-! ## The diagonal -/

theorem late_at (B : Blocks Q K V E b) {n : Fin 32} {jb : BitVec 32} (hj : jb = BitVec.ofNat 32 n.val) {lo : ℕ} {kb : Vec Ideal S1x256x128 .bf16}
    (hk : ∀ r a, kb (ix3 0 r a) = ((K (key n r) a : ℝ) : EReal)) (t : Fin 2048) (r : Fin 256) (ht : lo ≤ t.val) :
    late E.qb jb lo (at3 E.v0) kb t r = masked Q K (row b t) (key n r) := by
  have em : (Named.named (F := Ideal) κ "mask" (φ := .f32) 0xF149F2CA#32 : EReal) = ⊥ := rfl
  have hq : ∀ a t, at3 E.v0 a t = ((Q (row b t) a : ℝ) : EReal) := fun a t => (congrFun (v0_eq B) _).trans (B.x0 a t)
  have hx : lo + (t.val - lo) = t.val := by omega
  unfold late sAt
  simp only [hq, hk]
  rw [pos_cmp (qb_eq B) hj b.isLt n.isLt lo r.val (t.val - lo) r.isLt (by omega), dot_score, em, hx, masked]
  by_cases h : 256 * n.val + r.val ≤ 2048 * b.val + t.val
  · rw [if_pos h, if_pos (show key n r ≤ row b t from h)]; rfl
  · rw [if_neg h, if_neg (show ¬ key n r ≤ row b t from h)]; rfl

/-- The diagonal's step `d`. -/
theorem diag_next (B : Blocks Q K V E b) (d : Fin 8) {A : St} (G : Good Q K V b (8 * b.val + d.val) A) :
    Good Q K V b (8 * b.val + d.val + 1) (upd (256 * d.val) (late E.qb (E.jb (BitVec.ofNat 32 d.val)) (256 * d.val) (at3 E.v0)
      (E.kb (BitVec.ofNat 32 d.val) (k0_off5_inb E.i d))) (ent (E.vt (BitVec.ofNat 32 d.val) (k0_off6_inb E.i d))) A) :=
  Good.next (n := dkey b d) G _ (fun t => by
      show t.val < 256 * d.val ↔ 2048 * b.val + t.val < 256 * (8 * b.val + d.val)
      omega)
    (fun t r h => late_at B (jb_eq B d) (kb_at B (dkey b d) _ _ (off5 B d)) t r h) (vt_at B (dkey b d) _ _ (off6 B d))

theorem v1_eq (E : Env) : at2 E.v1 = at3 E.v0 := at2_eq E.v0

theorem good1 (B : Blocks Q K V E b) : Good Q K V b (8 * b.val + 1) (toSt E.m1 E.l1 E.a1) := by
  refine (congrArg (Good Q K V b _) ?_).mp (diag_next B 0 (diag_start B))
  exact (diag0 E.v0 E.qb (E.jb 0#32) E.m0 E.l0 E.a0 _ _ E.i rfl rfl).symm
theorem good2 (B : Blocks Q K V E b) : Good Q K V b (8 * b.val + 2) (toSt E.m2 E.l2 E.a2) := by
  refine (congrArg (Good Q K V b _) ?_).mp (diag_next B 1 (good1 B))
  rw [← v1_eq E]
  exact (diag1 E.v1 E.qb (E.jb 1#32) E.m1 E.l1 E.a1 _ _).symm
theorem good3 (B : Blocks Q K V E b) : Good Q K V b (8 * b.val + 3) (toSt E.m3 E.l3 E.a3) := by
  refine (congrArg (Good Q K V b _) ?_).mp (diag_next B 2 (good2 B))
  rw [← v1_eq E]
  exact (diag2 E.v1 E.qb (E.jb 2#32) E.m2 E.l2 E.a2 _ _).symm
theorem good4 (B : Blocks Q K V E b) : Good Q K V b (8 * b.val + 4) (toSt E.m4 E.l4 E.a4) := by
  refine (congrArg (Good Q K V b _) ?_).mp (diag_next B 3 (good3 B))
  rw [← v1_eq E]
  exact (diag3 E.v1 E.qb (E.jb 3#32) E.m3 E.l3 E.a3 _ _).symm
theorem good5 (B : Blocks Q K V E b) : Good Q K V b (8 * b.val + 5) (toSt E.m5 E.l5 E.a5) := by
  refine (congrArg (Good Q K V b _) ?_).mp (diag_next B 4 (good4 B))
  rw [← v1_eq E]
  exact (diag4 E.v1 E.qb (E.jb 4#32) E.m4 E.l4 E.a4 _ _).symm
theorem good6 (B : Blocks Q K V E b) : Good Q K V b (8 * b.val + 6) (toSt E.m6 E.l6 E.a6) := by
  refine (congrArg (Good Q K V b _) ?_).mp (diag_next B 5 (good5 B))
  rw [← v1_eq E]
  exact (diag5 E.v1 E.qb (E.jb 5#32) E.m5 E.l5 E.a5 _ _).symm
theorem good7 (B : Blocks Q K V E b) : Good Q K V b (8 * b.val + 7) (toSt E.m7 E.l7 E.a7) := by
  refine (congrArg (Good Q K V b _) ?_).mp (diag_next B 6 (good6 B))
  rw [← v1_eq E]
  exact (diag6 E.v1 E.qb (E.jb 6#32) E.m6 E.l6 E.a6 _ _).symm

/-- Every key a query sees lies below the diagonal's end. -/
theorem row_lt (b : Fin 4) (t : Fin 2048) : (row b t).val < 256 * (8 * b.val + 7 + 1) := by
  show 2048 * b.val + t.val < _
  omega

/-- The point's outputs. -/
theorem o_at (B : Blocks Q K V E b) (e : Fin 64) (t : Fin 2048) : E.o (ix3 0 e t) = outE Q K V (row b t) e := by
  refine (out7 E.v1 E.qb (E.jb 7#32) E.m7 E.l7 E.a7 _ _ e t).trans ?_
  rw [v1_eq E]
  exact (diag_next B 7 (good7 B) t).out (row_lt b t) e

/-- The point's logarithms. -/
theorem ls_at (B : Blocks Q K V E b) (t : Fin 2048) : E.ls (ix2 0 t) = ((top Q K (row b t) + Real.log (mass Q K (row b t)) : ℝ) : EReal) := by
  refine (lse7 E.v1 E.qb (E.jb 7#32) E.m7 E.l7 E.a7 _ (E.vt 7#32 (k0_off6_inb E.i 7)) t).trans ?_
  rw [v1_eq E]
  exact (diag_next B 7 (good7 B) t).lse (row_lt b t)

end Cert.FwdWalk
end
-- ==== Proof.FwdWindows.lean ====
module
public import proofs.«01_k».proof.Proof.HostArrays
public import proofs.«01_k».proof.Proof.Gen.Kernel16Ideal.Value
public import Idealize.ShloMosaic.Lib.Pipeline.ValueKit
@[expose] public section

/-!
The forward attention's windows: point `t` is query block `t % 4` of head `t / 4`. Its blocks hold the transposed
queries of that block, the head's keys, and the head's values by key block, transposed.
-/

set_option maxRecDepth 16384
noncomputable section
namespace Cert.FwdWindows
open Cert.Kernel16Ideal Cert.Kernel16Ideal.Gen Cert.Tiles Cert.AttnGrad
open Idealize.ShloMosaic Idealize.ShloMosaic.TcCoe

/-- The head of a point, and its query block. -/
def headOf (t : Fin cfg0.N) : Fin 8 := ⟨t.val / 4, by have h : t.val < 32 := t.isLt; omega⟩
def blockOf (t : Fin cfg0.N) : Fin 4 := ⟨t.val % 4, by omega⟩

theorem idx0 : ∀ t : Fin cfg0.N, win0_0.index t = ![t.val / 4, 0, t.val % 4] :=
  (by decide +kernel : ∀ t : Fin grid0.N, win0_0.index t = ![t.val / 4, 0, t.val % 4])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![t.val / 4, 0, 0, 0] :=
  (by decide +kernel : ∀ t : Fin grid0.N, win0_2.index t = ![t.val / 4, 0, 0, 0])
theorem idx3 : ∀ t : Fin cfg0.N, win0_3.index t = ![t.val / 4, 0, t.val % 4] :=
  (by decide +kernel : ∀ t : Fin grid0.N, win0_3.index t = ![t.val / 4, 0, t.val % 4])
theorem idx4 : ∀ t : Fin cfg0.N, win0_4.index t = ![t.val / 4, 0, t.val % 4] :=
  (by decide +kernel : ∀ t : Fin grid0.N, win0_4.index t = ![t.val / 4, 0, t.val % 4])

theorem coord1 : ∀ t : Fin cfg0.N, ((grid0.coords t) 1).val = t.val % 4 :=
  (by decide +kernel : ∀ t : Fin grid0.N, ((grid0.coords t) 1).val = t.val % 4)

section
variable {F : FTy → Type} [FloatOps F] [Named F]
variable (m : (ℓ : Loc nD τ sig) → Buf (Elt F) ℓ) (c : Dev nD)

theorem blk0 (t : Fin cfg0.N) (a : Fin 128) (n : Fin 2048) : iblk m c 0 t (ix3 0 a n) = V m c main_v0 (ix3 (headOf t) a (row (blockOf t) n)) := by
  show V m c main_v0 _ = _
  refine congrArg (V m c main_v0) (funext fun x => Fin.ext ?_)
  match x with
  | ⟨0, _⟩ =>
    refine (Pipeline.Window.rect_emb_val (cfg0.win 0) t _ _ rfl).trans ((congrArg (fun q : Nat => q * 1 + 0) (congrFun (idx0 t) 0)).trans ?_)
    show (t.val / 4) * 1 + 0 = t.val / 4
    omega
  | ⟨1, _⟩ =>
    refine (Pipeline.Window.rect_emb_val (cfg0.win 0) t _ _ rfl).trans ((congrArg (fun q : Nat => q * 128 + a.val) (congrFun (idx0 t) 1)).trans ?_)
    show (0) * 128 + a.val = a.val
    omega
  | ⟨2, _⟩ =>
    refine (Pipeline.Window.rect_emb_val (cfg0.win 0) t _ _ rfl).trans ((congrArg (fun q : Nat => q * 2048 + n.val) (congrFun (idx0 t) 2)).trans ?_)
    show (t.val % 4) * 2048 + n.val = 2048 * (t.val % 4) + n.val
    omega

theorem blk1 (t : Fin cfg0.N) (j : Fin 8192) (a : Fin 128) : iblk m c 1 t (ix3 0 j a) = V m c main_arg1 (ix3 (headOf t) j a) := by
  show V m c main_arg1 _ = _
  refine congrArg (V m c main_arg1) (funext fun x => Fin.ext ?_)
  match x with
  | ⟨0, _⟩ =>
    refine (Pipeline.Window.rect_emb_val (cfg0.win 1) t _ _ rfl).trans ((congrArg (fun q : Nat => q * 1 + 0) (congrFun (idx1 t) 0)).trans ?_)
    show (t.val / 4) * 1 + 0 = t.val / 4
    omega
  | ⟨1, _⟩ =>
    refine (Pipeline.Window.rect_emb_val (cfg0.win 1) t _ _ rfl).trans ((congrArg (fun q : Nat => q * 8192 + j.val) (congrFun (idx1 t) 1)).trans ?_)
    show (0) * 8192 + j.val = j.val
    omega
  | ⟨2, _⟩ =>
    refine (Pipeline.Window.rect_emb_val (cfg0.win 1) t _ _ rfl).trans ((congrArg (fun q : Nat => q * 128 + a.val) (congrFun (idx1 t) 2)).trans ?_)
    show (0) * 128 + a.val = a.val
    omega

theorem blk2 (t : Fin cfg0.N) (n : Fin 32) (e : Fin 64) (r : Fin 256) : iblk m c 2 t (ix4 0 n e r) = V m c main_v2 (ix4 (headOf t) n e r) := by
  show V m c main_v2 _ = _
  refine congrArg (V m c main_v2) (funext fun x => Fin.ext ?_)
  match x with
  | ⟨0, _⟩ =>
    refine (Pipeline.Window.rect_emb_val (cfg0.win 2) t _ _ rfl).trans ((congrArg (fun q : Nat => q * 1 + 0) (congrFun (idx2 t) 0)).trans ?_)
    show (t.val / 4) * 1 + 0 = t.val / 4
    omega
  | ⟨1, _⟩ =>
    refine (Pipeline.Window.rect_emb_val (cfg0.win 2) t _ _ rfl).trans ((congrArg (fun q : Nat => q * 32 + n.val) (congrFun (idx2 t) 1)).trans ?_)
    show (0) * 32 + n.val = n.val
    omega
  | ⟨2, _⟩ =>
    refine (Pipeline.Window.rect_emb_val (cfg0.win 2) t _ _ rfl).trans ((congrArg (fun q : Nat => q * 64 + e.val) (congrFun (idx2 t) 2)).trans ?_)
    show (0) * 64 + e.val = e.val
    omega
  | ⟨3, _⟩ =>
    refine (Pipeline.Window.rect_emb_val (cfg0.win 2) t _ _ rfl).trans ((congrArg (fun q : Nat => q * 256 + r.val) (congrFun (idx2 t) 3)).trans ?_)
    show (0) * 256 + r.val = r.val
    omega

theorem emb3 (t : Fin cfg0.N) (e : Fin 64) (n : Fin 2048) :
    (((cfg0.win 3).blk t).view.emb (ix3 0 e n) : S8x64x8192.Idx) = ix3 (headOf t) e (row (blockOf t) n) := by
  refine funext fun x => Fin.ext ?_
  match x with
  | ⟨0, _⟩ =>
    refine (Pipeline.Window.rect_emb_val (cfg0.win 3) t _ _ rfl).trans ((congrArg (fun q : Nat => q * 1 + 0) (congrFun (idx3 t) 0)).trans ?_)
    show (t.val / 4) * 1 + 0 = t.val / 4
    omega
  | ⟨1, _⟩ =>
    refine (Pipeline.Window.rect_emb_val (cfg0.win 3) t _ _ rfl).trans ((congrArg (fun q : Nat => q * 64 + e.val) (congrFun (idx3 t) 1)).trans ?_)
    show (0) * 64 + e.val = e.val
    omega
  | ⟨2, _⟩ =>
    refine (Pipeline.Window.rect_emb_val (cfg0.win 3) t _ _ rfl).trans ((congrArg (fun q : Nat => q * 2048 + n.val) (congrFun (idx3 t) 2)).trans ?_)
    show (t.val % 4) * 2048 + n.val = 2048 * (t.val % 4) + n.val
    omega

theorem emb4 (t : Fin cfg0.N) (n : Fin 2048) :
    (((cfg0.win 4).blk t).view.emb (ix3 0 0 n) : S8x1x8192.Idx) = ix3 (headOf t) 0 (row (blockOf t) n) := by
  refine funext fun x => Fin.ext ?_
  match x with
  | ⟨0, _⟩ =>
    refine (Pipeline.Window.rect_emb_val (cfg0.win 4) t _ _ rfl).trans ((congrArg (fun q : Nat => q * 1 + 0) (congrFun (idx4 t) 0)).trans ?_)
    show (t.val / 4) * 1 + 0 = t.val / 4
    omega
  | ⟨1, _⟩ =>
    refine (Pipeline.Window.rect_emb_val (cfg0.win 4) t _ _ rfl).trans ((congrArg (fun q : Nat => q * 1 + 0) (congrFun (idx4 t) 1)).trans ?_)
    show (0) * 1 + 0 = 0
    omega
  | ⟨2, _⟩ =>
    refine (Pipeline.Window.rect_emb_val (cfg0.win 4) t _ _ rfl).trans ((congrArg (fun q : Nat => q * 2048 + n.val) (congrFun (idx4 t) 2)).trans ?_)
    show (t.val % 4) * 2048 + n.val = 2048 * (t.val % 4) + n.val
    omega

theorem V_qt : V m c main_v0 = transpose S8x128x8192 [0, 2, 1] (m ((c : Thread nD τ).loc main_arg0))
    transposes_S8x8192x128_S8x128x8192_0_2_1 := by
  show StableHlo.after (hostOps0 ++ []) (fun b => m (c, b)) (Proc.tc.devRef main_v0) = _
  after_reads_simp
  try simp -implicitDefEqProofs only [StableHlo.TRef.toBuf, StableHlo.TRef.ofBuf, cast_cast, cast_eq, id_eq]
  try rfl

theorem V_values : V m c main_v2 = transpose S8x32x64x256 [0, 1, 3, 2]
    (shapeCast S8x32x256x64 (m ((c : Thread nD τ).loc main_arg2)) shapeCasts_S8x8192x64_S8x32x256x64)
    transposes_S8x32x256x64_S8x32x64x256_0_1_3_2 := by
  show StableHlo.after (hostOps0 ++ []) (fun b => m (c, b)) (Proc.tc.devRef main_v2) = _
  after_reads_simp
  try simp -implicitDefEqProofs only [StableHlo.TRef.toBuf, StableHlo.TRef.ofBuf, cast_cast, cast_eq, id_eq]
  try rfl

end

/-- The value blocks with their rows and columns exchanged, read at an index. -/
theorem values_cast (y : FVec Ideal S8x8192x64 .bf16) (h : Fin 8) (n : Fin 32) (e : Fin 64) (r : Fin 256) :
    transpose S8x32x64x256 [0, 1, 3, 2] (shapeCast S8x32x256x64 y shapeCasts_S8x8192x64_S8x32x256x64)
      transposes_S8x32x256x64_S8x32x64x256_0_1_3_2 (ix4 h n e r) = y (ix3 h (key n r) e) := by
  refine (transpose_apply [0, 1, 3, 2] _ transposes_S8x32x256x64_S8x32x64x256_0_1_3_2 (ix4 h n e r) (ix4 h n r e) (fun b => match b with
    | ⟨0, _⟩ => rfl
    | ⟨1, _⟩ => rfl
    | ⟨2, _⟩ => rfl
    | ⟨3, _⟩ => rfl)).trans ?_
  refine shapeCast_apply y shapeCasts_S8x8192x64_S8x32x256x64 (ix4 h n r e) (ix3 h (key n r) e) ?_
  rw [Shape.rowMajor_val_three, Shape.rowMajor_val_four]
  show (h.val * 8192 + (256 * n.val + r.val)) * 64 + e.val = ((h.val * 32 + n.val) * 256 + r.val) * 64 + e.val
  omega

section
variable (m : (ℓ : Loc nD τ sig) → Buf (Elt Ideal) ℓ) (c : Dev nD)
variable {Q : Fin 8 → Fin 8192 → Fin 128 → ℝ} {V' : Fin 8 → Fin 8192 → Fin 64 → EReal}

theorem qt_at (h0 : ∀ h i a, m ((c : Thread nD τ).loc main_arg0) (ix3 h i a) = ((Q h i a : ℝ) : EReal)) (h : Fin 8) (a : Fin 128) (i : Fin 8192) :
    V m c main_v0 (ix3 h a i) = ((Q h i a : ℝ) : EReal) := by
  rw [V_qt, ← h0]
  pointwise

theorem values_at (h2 : ∀ h i a, m ((c : Thread nD τ).loc main_arg2) (ix3 h i a) = V' h i a) (h : Fin 8) (n : Fin 32) (e : Fin 64) (r : Fin 256) :
    V m c main_v2 (ix4 h n e r) = V' h (key n r) e := by
  rw [V_values, ← h2]
  exact values_cast (m ((c : Thread nD τ).loc main_arg2)) h n e r

end
end Cert.FwdWindows
end
-- ==== Proof.FwdArrays.lean ====
module
public import proofs.«01_k».proof.Proof.FwdWalk
public import proofs.«01_k».proof.Proof.FwdWindows
@[expose] public section

/-!
The forward attention's two result arrays after the call: every head's outputs, and the logarithm of each query's sum
of exponentials.
-/

set_option maxRecDepth 16384
noncomputable section
namespace Cert.FwdArrays
open Cert.Kernel16Ideal Cert.Kernel16Ideal.Gen Cert.Tiles Cert.AttnGrad Cert.FwdChain Cert.Online Cert.FwdWalk Cert.FwdWindows
open Cert.Kernel16Ideal.Value
open Idealize.ShloMosaic Idealize.ShloMosaic.TcCoe

variable (m : (ℓ : Loc nD τ sig) → Buf (Elt Ideal) ℓ) (c : Dev nD)
variable {Q K : Fin 8 → Fin 8192 → Fin 128 → ℝ} {V' : Fin 8 → Fin 8192 → Fin 64 → EReal}

/-- The point's blocks, as one. -/
def envAt (t : Fin cfg0.N) : Env :=
  env c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

theorem pay1_at (v : FVec Ideal S1x2048 .f32) (n : Fin 2048) : k0_pay1 v (ix3 0 0 n) = v (ix2 0 n) := by
  pointwise [k0_pay1]

theorem written3 (t : Fin cfg0.N) (e : Fin 64) (n : Fin 2048) : (dats m 0 c).flushed 3 t (ix3 0 e n) = (envAt m c t).o (ix3 0 e n) := by
  refine (congrFun (flushed3_A m c t) (ix3 0 e n)).trans ?_
  show out0_A_3 _ _ _ _ _ _ _ _ _ _ _ _ _ _ _ (ix3 0 e n) = _
  unfold out0_A_3
  rw [run_3, View.read_writes_junk_eq_canon, View.canon_cons_unit_lit _ _ _ (by decide)]
  rfl

theorem written4 (t : Fin cfg0.N) (n : Fin 2048) : (dats m 0 c).flushed 4 t (ix3 0 0 n) = (envAt m c t).ls (ix2 0 n) := by
  refine (congrFun (flushed4_A m c t) (ix3 0 0 n)).trans ?_
  show out0_A_4 _ _ _ _ _ _ _ _ _ _ _ _ _ _ _ (ix3 0 0 n) = _
  unfold out0_A_4
  rw [run_4, View.read_writes_junk_eq_canon, View.canon_cons_unit_lit _ _ _ (by decide), pay1_at]
  rfl

variable (h0 : ∀ h i a, m ((c : Thread nD τ).loc main_arg0) (ix3 h i a) = ((Q h i a : ℝ) : EReal))
  (h1 : ∀ h i a, m ((c : Thread nD τ).loc main_arg1) (ix3 h i a) = ((K h i a : ℝ) : EReal))
  (h2 : ∀ h i a, m ((c : Thread nD τ).loc main_arg2) (ix3 h i a) = V' h i a)
include h0 h1 h2

/-- The call's blocks hold the head's queries, keys and values. -/
theorem blocks (t : Fin cfg0.N) : Blocks (Q (headOf t)) (K (headOf t)) (V' (headOf t)) (envAt m c t) (blockOf t) where
  i1 := coord1 t
  x0 := fun a n => (blk0 m c t a n).trans (qt_at m c h0 _ _ _)
  x1 := fun j a => (blk1 m c t j a).trans ((congrFun (V_main_arg1 m c) _).trans (h1 _ _ _))
  x2 := fun n e r => (blk2 m c t n e r).trans (values_at m c h2 _ _ _ _)

/-- The point and the place in its block of a head's query. -/
theorem point_of (h : Fin 8) (i : Fin 8192) : ∃ (t : Fin cfg0.N) (n : Fin 2048), headOf t = h ∧ row (blockOf t) n = i := by
  have hh := h.isLt
  have hi := i.isLt
  exact ⟨⟨4 * h.val + i.val / 2048, by show _ < 32; omega⟩, ⟨i.val % 2048, by omega⟩,
    Fin.ext (by show (4 * h.val + i.val / 2048) / 4 = h.val; omega),
    Fin.ext (by show 2048 * ((4 * h.val + i.val / 2048) % 4) + i.val % 2048 = i.val; omega)⟩

theorem arr3 (h : Fin 8) (e : Fin 64) (i : Fin 8192) :
    (dats m 0 c).arrAt 3 cfg0.N (ix3 h e i) = outE (Q h) (K h) (V' h) i e := by
  obtain ⟨t, n, eh, er⟩ := point_of m c h0 h1 h2 h i
  have o := o_at (blocks m c h0 h1 h2 t) e n
  have w := (congrFun (blocks3 m c t (flush0_3 t)) (ix3 0 e n)).trans (written3 m c t e n)
  have g := congrArg ((dats m 0 c).arrAt 3 cfg0.N) (emb3 t e n)
  rw [eh, er] at g o
  exact g.symm.trans (w.trans o)

theorem arr4 (h : Fin 8) (z : Fin 1) (i : Fin 8192) :
    (dats m 0 c).arrAt 4 cfg0.N (ix3 h z i) = ((top (Q h) (K h) i + Real.log (mass (Q h) (K h) i) : ℝ) : EReal) := by
  obtain rfl : z = 0 := Subsingleton.elim _ _
  obtain ⟨t, n, eh, er⟩ := point_of m c h0 h1 h2 h i
  have o := ls_at (blocks m c h0 h1 h2 t) n
  have w := (congrFun (blocks4 m c t (flush0_4 t)) (ix3 0 0 n)).trans (written4 m c t n)
  have g := congrArg ((dats m 0 c).arrAt 4 cfg0.N) (emb4 t n)
  rw [eh, er] at g o
  exact g.symm.trans (w.trans o)

end Cert.FwdArrays
end
-- ==== Proof.FwdRef.lean ====
module
public import proofs.«01_k».proof.Proof.HostArrays
public import proofs.«01_k».proof.Proof.Online
public import proofs.«01_k».proof.Proof.Gen.Reference16Ideal.Read
@[expose] public section

/-!
The forward attention's reference at an index: its lines are those the attention gradient's host runs before its call.
-/

set_option maxRecDepth 16384
noncomputable section
namespace Cert.FwdRef
open Cert.Reference16Ideal Cert.Reference16Ideal.Gen Cert.Reference16Ideal.Read Cert.AttnGrad
open Idealize.ShloMosaic Idealize.ShloMosaic.TcCoe

variable {x0 x1 : (⟨S8x8192x128, .bf16⟩ : BufTy).Contents (Elt Ideal)} {x2 : (⟨S8x8192x64, .bf16⟩ : BufTy).Contents (Elt Ideal)}
variable {Q K : Fin 8 → Fin 8192 → Fin 128 → ℝ}

theorem out_arr : val_main_v20 (F := Ideal) x0 x1 x2 = HostValue.outArr x0 x1 x2 := rfl

theorem lse_arr : val_main_v23 (F := Ideal) x0 x1 = HostValue.lseArr x0 x1 := rfl

variable (h0 : ∀ h i a, x0 (ix3 h i a) = ((Q h i a : ℝ) : EReal)) (h1 : ∀ h i a, x1 (ix3 h i a) = ((K h i a : ℝ) : EReal))
include h0 h1

theorem lse_at (h : Fin 8) (z : Fin 1) (i : Fin 8192) :
    val_main_v24 (F := Ideal) x0 x1 (ix3 h z i) = ((top (Q h) (K h) i + Real.log (mass (Q h) (K h) i) : ℝ) : EReal) := by
  rw [← HostValue.lse_at h0 h1 h i z, ← lse_arr]
  unfold val_main_v24
  generalize val_main_v23 (F := Ideal) x0 x1 = y
  exact transpose_apply [0, 2, 1] y _ (ix3 h z i) (ix3 h i z) (fun b => match b with
    | ⟨0, _⟩ => rfl
    | ⟨1, _⟩ => rfl
    | ⟨2, _⟩ => rfl)

theorem out_at (h : Fin 8) (e : Fin 64) (i : Fin 8192) :
    val_main_v21 (F := Ideal) x0 x1 x2 (ix3 h e i) = Online.outE (Q h) (K h) (fun j a => x2 (ix3 h j a)) i e := by
  have p : HostValue.outArr x0 x1 x2 (ix3 h i e) = Online.outE (Q h) (K h) (fun j a => x2 (ix3 h j a)) i e := by
    pointwise [HostValue.outArr]
    simp only [HostValue.prob_at h0 h1]
    rfl
  rw [← p, ← out_arr]
  unfold val_main_v21
  generalize val_main_v20 (F := Ideal) x0 x1 x2 = y
  exact transpose_apply [0, 2, 1] y _ (ix3 h e i) (ix3 h i e) (fun b => match b with
    | ⟨0, _⟩ => rfl
    | ⟨1, _⟩ => rfl
    | ⟨2, _⟩ => rfl)

end Cert.FwdRef
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.RefValue
public import proofs.«01_k».proof.Proof.Arrays
public import proofs.«01_k».proof.Proof.Entry
public import proofs.«01_k».proof.Proof.InGrad
public import proofs.«01_k».proof.Proof.MlpGrad
public import proofs.«01_k».proof.Proof.OutGrad
public import proofs.«01_k».proof.Proof.BranchGrad
public import proofs.«01_k».proof.Proof.Forward
public import proofs.«01_k».proof.Proof.FwdArrays
public import proofs.«01_k».proof.Proof.FwdRef
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its arguments are kept and it declares no semaphore. -/
theorem ref_frame : Cert.quiescent_ReferenceIdeal (hReferenceIdeal := Cert.ReferenceIdeal.Gen.facts) := fun m g _ =>
  (θ_run (Cert.ReferenceIdeal.defs (F := Ideal)) _ _).mono (fun r h => ⟨fun c => (h c).2.2.2, sem_eq_zero_of_no_sems (by decide) r.2⟩)
    (Cert.ReferenceIdeal.Value.run (F := Ideal) m g)

attribute [local instance] Cert.Entry.pre_facts

section
variable (m : (ℓ : Loc Cert.KernelIdeal.nD Cert.KernelIdeal.τ Cert.KernelIdeal.sig) → Buf (Elt Ideal) ℓ) (hm : Cert.Pre_KernelIdeal_finite m)
include hm

open Cert.KernelIdeal Cert.KernelIdeal.Gen in
/-- The two programs' results, array by array. -/
theorem results (c : Dev Cert.KernelIdeal.nD) :
    (dats m 0 c).arrAt 9 cfg0.N = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3))
    ∧ (dats m 0 c).arrAt 10 cfg0.N = Cert.ReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3))
    ∧ (dats m 0 c).arrAt 11 cfg0.N = Cert.ReferenceIdeal.Read.val_main_v42 (F := Ideal) (m ((c.tc : Thread nD τ).loc main_arg0)) (m ((c.tc : Thread nD τ).loc main_arg1)) (m ((c.tc : Thread nD τ).loc main_arg3)) := by
  obtain ⟨p0, p1, p2, p3⟩ := Cert.Entry.reals _ _ _ _ (hm c)
  have h0 : ∀ (h : Fin 8) (i : Fin 8192) (a : Fin 128), m ((c.tc : Thread nD τ).loc main_arg0) (ix3 h i a) = _ := fun h i a => p0 (ix3 h i a)
  have h1 : ∀ (h : Fin 8) (i : Fin 8192) (a : Fin 128), m ((c.tc : Thread nD τ).loc main_arg1) (ix3 h i a) = _ := fun h i a => p1 (ix3 h i a)
  have h2 : ∀ (h : Fin 8) (i : Fin 8192) (a : Fin 64), m ((c.tc : Thread nD τ).loc main_arg2) (ix3 h i a) = _ := fun h i a => p2 (ix3 h i a)
  have h3 : ∀ (h : Fin 8) (i : Fin 8192) (a : Fin 64), m ((c.tc : Thread nD τ).loc main_arg3) (ix3 h i a) = _ := fun h i a => p3 (ix3 h i a)
  refine ⟨funext fun i => ?_, funext fun i => ?_, funext fun i => ?_⟩
  · rw [eq_ix3 i]
    exact (Cert.Arrays.arr9 m c h0 h1 h2 h3 _ _ _).trans (Cert.RefValue.dq_at h0 h1 h2 h3 _ _ _).symm
  · rw [eq_ix3 i]
    exact (Cert.Arrays.arr10 m c h0 h1 h2 h3 _ _ _).trans (Cert.RefValue.dk_at h0 h1 h2 h3 _ _ _).symm
  · rw [eq_ix3 i]
    exact (Cert.Arrays.arr11 m c h0 h1 h2 h3 _ _ _).trans (Cert.RefValue.dv_at h0 h1 h3 _ _ _).symm

end

theorem algebraic : Cert.algebraic_KernelIdeal_ReferenceIdeal_pre_finite (hKernelIdeal := Cert.KernelIdeal.Gen.facts)
    (hReferenceIdeal := Cert.ReferenceIdeal.Gen.facts) (hPre_finite := Cert.Entry.pre_facts) := by
  intro m g m' g' hm hs
  refine ⟨_, _, _, Cert.KernelIdeal.Value.run_blocks (F := Ideal) m g, ?_⟩
  refine (θ_run (Cert.ReferenceIdeal.defs (F := Ideal)) _ _).mono (fun r h c => ?_) (Cert.ReferenceIdeal.Value.run (F := Ideal) m' g')
  obtain ⟨e0, e1, e2, ea⟩ := h c
  obtain ⟨s0, s1, s2, s3⟩ := hs c
  obtain ⟨r0, r1, r2⟩ := results m hm c
  refine ⟨e0.trans ?_, e1.trans ?_, e2.trans ?_, ea⟩
  · rw [r0, Cert.ReferenceIdeal.Read.val_main_v59_eq]
    exact congr (congr (congrArg₂ _ s0 s1) s2) s3
  · rw [r1, Cert.ReferenceIdeal.Read.val_main_v57_eq]
    exact congr (congr (congrArg₂ _ s0 s1) s2) s3
  · refine (Cert.ReferenceIdeal.Read.val_main_v42_eq _ _ _).trans ?_
    rw [r2]
    exact congr (congrArg₂ _ s0 s1) s3

/-- A program without semaphores ends with none raised. -/
theorem kept {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val} {P Q : PUnit × MemSt nD τ sig Val → Prop}
    (hz : sig.nSem + sig.nDmaSem = 0) (run : θ_run defs p s P) (hPQ : ∀ r, P r → Q r) :
    θ_run defs p s (fun r => Q r ∧ r.2.sem = fun _ => 0) :=
  (θ_run defs _ _).mono (fun r h => ⟨hPQ r h, sem_eq_zero_of_no_sems hz r.2⟩) run

theorem algebraic2 : Cert.algebraic_Kernel2Ideal_Reference2Ideal (hKernel2Ideal := Cert.Kernel2Ideal.Gen.facts)
    (hReference2Ideal := Cert.Reference2Ideal.Gen.facts) := by
  intro m g m' g' _ hs
  refine ⟨_, Cert.Kernel2Ideal.Value.run_blocks (F := Ideal) m g, ?_⟩
  refine (θ_run (Cert.Reference2Ideal.defs (F := Ideal)) _ _).mono (fun r h c => ⟨(h c).1.trans ?_, (h c).2⟩) (Cert.Reference2Ideal.Value.run (F := Ideal) m' g')
  obtain ⟨s0, s1⟩ := hs c
  rw [s0, s1]
  exact (Cert.Reference2Ideal.Read.val_main_v5_eq _ _).trans ((congrFun (congrFun Cert.InGrad.Weights.ref _) _).trans (Cert.InGrad.Weights.arr m c).symm)

theorem algebraic3 : Cert.algebraic_Kernel3Ideal_Reference3Ideal (hKernel3Ideal := Cert.Kernel3Ideal.Gen.facts)
    (hReference3Ideal := Cert.Reference3Ideal.Gen.facts) := by
  intro m g m' g' _ hs
  refine ⟨_, Cert.Kernel3Ideal.Value.run_blocks (F := Ideal) m g, ?_⟩
  refine (θ_run (Cert.Reference3Ideal.defs (F := Ideal)) _ _).mono (fun r h c => ⟨(h c).1.trans ?_, (h c).2⟩) (Cert.Reference3Ideal.Value.run (F := Ideal) m' g')
  obtain ⟨s0, s1⟩ := hs c
  rw [s0, s1]
  exact (Cert.Reference3Ideal.Read.val_main_v4_eq _ _).trans ((congrFun (congrFun Cert.InGrad.Input.ref _) _).trans (Cert.InGrad.Input.arr m c).symm)

theorem algebraic4 : Cert.algebraic_Kernel4Ideal_Reference4Ideal (hKernel4Ideal := Cert.Kernel4Ideal.Gen.facts)
    (hReference4Ideal := Cert.Reference4Ideal.Gen.facts) := by
  intro m g m' g' _ hs
  refine ⟨_, Cert.Kernel4Ideal.Value.run_blocks (F := Ideal) m g, ?_⟩
  refine (θ_run (Cert.Reference4Ideal.defs (F := Ideal)) _ _).mono (fun r h c => ⟨(h c).1.trans ?_, (h c).2⟩) (Cert.Reference4Ideal.Value.run (F := Ideal) m' g')
  obtain ⟨s0, s1, s2⟩ := hs c
  rw [s0, s1, s2]
  exact (Cert.Reference4Ideal.Read.val_main_v14_eq _ _ _).trans ((congrFun (congrFun (congrFun Cert.MlpGrad.DownInput.ref _) _) _).trans (Cert.MlpGrad.DownInput.arr m c).symm)

theorem algebraic5 : Cert.algebraic_Kernel5Ideal_Reference5Ideal (hKernel5Ideal := Cert.Kernel5Ideal.Gen.facts)
    (hReference5Ideal := Cert.Reference5Ideal.Gen.facts) := by
  intro m g m' g' _ hs
  refine ⟨_, Cert.Kernel5Ideal.Value.run_blocks (F := Ideal) m g, ?_⟩
  refine (θ_run (Cert.Reference5Ideal.defs (F := Ideal)) _ _).mono (fun r h c => ⟨(h c).1.trans ?_, (h c).2⟩) (Cert.Reference5Ideal.Value.run (F := Ideal) m' g')
  obtain ⟨s0, s1⟩ := hs c
  rw [s0, s1]
  exact (Cert.Reference5Ideal.Read.val_main_v5_eq _ _).trans ((congrFun (congrFun Cert.MlpGrad.DownWeights.ref _) _).trans (Cert.MlpGrad.DownWeights.arr m c).symm)

theorem algebraic6 : Cert.algebraic_Kernel6Ideal_Reference6Ideal (hKernel6Ideal := Cert.Kernel6Ideal.Gen.facts)
    (hReference6Ideal := Cert.Reference6Ideal.Gen.facts) := by
  intro m g m' g' _ hs
  refine ⟨_, Cert.Kernel6Ideal.Value.run_blocks (F := Ideal) m g, ?_⟩
  refine (θ_run (Cert.Reference6Ideal.defs (F := Ideal)) _ _).mono (fun r h c => ⟨(h c).1.trans ?_, (h c).2⟩) (Cert.Reference6Ideal.Value.run (F := Ideal) m' g')
  obtain ⟨s0, s1⟩ := hs c
  rw [s0, s1]
  exact (Cert.Reference6Ideal.Read.val_main_v4_eq _ _).trans ((congrFun (congrFun Cert.MlpGrad.UpInput.ref _) _).trans (Cert.MlpGrad.UpInput.arr m c).symm)

theorem algebraic7 : Cert.algebraic_Kernel7Ideal_Reference7Ideal (hKernel7Ideal := Cert.Kernel7Ideal.Gen.facts)
    (hReference7Ideal := Cert.Reference7Ideal.Gen.facts) := by
  intro m g m' g' _ hs
  refine ⟨_, Cert.Kernel7Ideal.Value.run_blocks (F := Ideal) m g, ?_⟩
  refine (θ_run (Cert.Reference7Ideal.defs (F := Ideal)) _ _).mono (fun r h c => ⟨(h c).1.trans ?_, (h c).2⟩) (Cert.Reference7Ideal.Value.run (F := Ideal) m' g')
  obtain ⟨s0, s1⟩ := hs c
  rw [s0, s1]
  exact (Cert.Reference7Ideal.Read.val_main_v5_eq _ _).trans ((congrFun (congrFun Cert.MlpGrad.UpWeights.ref _) _).trans (Cert.MlpGrad.UpWeights.arr m c).symm)

theorem algebraic8 : Cert.algebraic_Kernel8Ideal_Reference8Ideal (hKernel8Ideal := Cert.Kernel8Ideal.Gen.facts)
    (hReference8Ideal := Cert.Reference8Ideal.Gen.facts) := by
  intro m g m' g' _ hs
  refine ⟨_, Cert.Kernel8Ideal.Value.run_blocks (F := Ideal) m g, ?_⟩
  refine (θ_run (Cert.Reference8Ideal.defs (F := Ideal)) _ _).mono (fun r h c => ⟨(h c).1.trans ?_, (h c).2⟩) (Cert.Reference8Ideal.Value.run (F := Ideal) m' g')
  obtain ⟨s0, s1⟩ := hs c
  rw [s0, s1]
  exact (Cert.Reference8Ideal.Read.val_main_v4_eq _ _).trans ((congrFun (congrFun Cert.OutGrad.Input.ref _) _).trans (Cert.OutGrad.Input.arr m c).symm)

theorem algebraic9 : Cert.algebraic_Kernel9Ideal_Reference9Ideal (hKernel9Ideal := Cert.Kernel9Ideal.Gen.facts)
    (hReference9Ideal := Cert.Reference9Ideal.Gen.facts) := by
  intro m g m' g' _ hs
  refine ⟨_, Cert.Kernel9Ideal.Value.run_blocks (F := Ideal) m g, ?_⟩
  refine (θ_run (Cert.Reference9Ideal.defs (F := Ideal)) _ _).mono (fun r h c => ⟨(h c).1.trans ?_, (h c).2⟩) (Cert.Reference9Ideal.Value.run (F := Ideal) m' g')
  obtain ⟨s0, s1⟩ := hs c
  rw [s0, s1]
  exact (Cert.Reference9Ideal.Read.val_main_v5_eq _ _).trans ((congrFun (congrFun Cert.OutGrad.Weights.ref _) _).trans (Cert.OutGrad.Weights.arr m c).symm)

theorem algebraic10 : Cert.algebraic_Kernel10Ideal_Reference10Ideal (hKernel10Ideal := Cert.Kernel10Ideal.Gen.facts)
    (hReference10Ideal := Cert.Reference10Ideal.Gen.facts) := by
  intro m g m' g' _ hs
  refine ⟨_, Cert.Kernel10Ideal.Value.run_blocks (F := Ideal) m g, ?_⟩
  refine (θ_run (Cert.Reference10Ideal.defs (F := Ideal)) _ _).mono (fun r h c => ⟨(h c).1.trans ?_, (h c).2⟩) (Cert.Reference10Ideal.Value.run (F := Ideal) m' g')
  obtain ⟨s0, s1⟩ := hs c
  rw [s0, s1]
  exact (Cert.Reference10Ideal.Read.val_main_v4_eq _ _).trans ((congrFun (congrFun Cert.BranchGrad.Input.ref _) _).trans (Cert.BranchGrad.Input.arr m c).symm)

theorem algebraic11 : Cert.algebraic_Kernel11Ideal_Reference11Ideal (hKernel11Ideal := Cert.Kernel11Ideal.Gen.facts)
    (hReference11Ideal := Cert.Reference11Ideal.Gen.facts) := by
  intro m g m' g' _ hs
  refine ⟨_, Cert.Kernel11Ideal.Value.run_blocks (F := Ideal) m g, ?_⟩
  refine (θ_run (Cert.Reference11Ideal.defs (F := Ideal)) _ _).mono (fun r h c => ⟨(h c).1.trans ?_, (h c).2⟩) (Cert.Reference11Ideal.Value.run (F := Ideal) m' g')
  obtain ⟨s0, s1⟩ := hs c
  rw [s0, s1]
  exact (Cert.Reference11Ideal.Read.val_main_v5_eq _ _).trans ((congrFun (congrFun Cert.BranchGrad.Weights.ref _) _).trans (Cert.BranchGrad.Weights.arr m c).symm)

theorem algebraic12 : Cert.algebraic_Kernel12Ideal_Reference12Ideal (hKernel12Ideal := Cert.Kernel12Ideal.Gen.facts)
    (hReference12Ideal := Cert.Reference12Ideal.Gen.facts) := by
  intro m g m' g' _ hs
  refine ⟨_, Cert.Kernel12Ideal.Value.run_blocks (F := Ideal) m g, ?_⟩
  refine (θ_run (Cert.Reference12Ideal.defs (F := Ideal)) _ _).mono (fun r h c => ⟨(h c).1.trans ?_, (h c).2⟩) (Cert.Reference12Ideal.Value.run (F := Ideal) m' g')
  obtain ⟨s0, s1⟩ := hs c
  rw [s0, s1]
  exact (Cert.Reference12Ideal.Read.val_main_v2_eq _ _).trans ((congrFun (congrFun Cert.Forward.In.ref _) _).trans (Cert.Forward.In.arr m c).symm)

theorem algebraic13 : Cert.algebraic_Kernel13Ideal_Reference13Ideal (hKernel13Ideal := Cert.Kernel13Ideal.Gen.facts)
    (hReference13Ideal := Cert.Reference13Ideal.Gen.facts) := by
  intro m g m' g' _ hs
  refine ⟨_, _, Cert.Kernel13Ideal.Value.run_blocks (F := Ideal) m g, ?_⟩
  refine (θ_run (Cert.Reference13Ideal.defs (F := Ideal)) _ _).mono (fun r h c => ⟨(h c).1.trans ?_, (h c).2.1.trans ?_, (h c).2.2⟩)
    (Cert.Reference13Ideal.Value.run (F := Ideal) m' g')
  · obtain ⟨s0, s1⟩ := hs c
    rw [s0, s1]
    exact (Cert.Reference13Ideal.Read.val_main_v2_eq _ _).trans ((congrFun (congrFun Cert.Forward.Up.ref _) _).trans (Cert.Forward.Up.arr m c).symm)
  · rw [(hs c).1, (hs c).2]
    exact (Cert.Reference13Ideal.Read.val_main_v5_eq _ _).trans ((congrFun (congrFun Cert.Forward.Up.ref_square _) _).trans (Cert.Forward.Up.arr_square m c).symm)

theorem algebraic14 : Cert.algebraic_Kernel14Ideal_Reference14Ideal (hKernel14Ideal := Cert.Kernel14Ideal.Gen.facts)
    (hReference14Ideal := Cert.Reference14Ideal.Gen.facts) := by
  intro m g m' g' _ hs
  refine ⟨_, _, Cert.Kernel14Ideal.Value.run_blocks (F := Ideal) m g, ?_⟩
  refine (θ_run (Cert.Reference14Ideal.defs (F := Ideal)) _ _).mono (fun r h c => ⟨(h c).1.trans ?_, (h c).2.1.trans ?_, (h c).2.2⟩)
    (Cert.Reference14Ideal.Value.run (F := Ideal) m' g')
  · obtain ⟨s0, s1, s2, s3⟩ := hs c
    rw [s0, s1, s2, s3]
    exact (Cert.Reference14Ideal.Read.val_main_v5_eq _ _ _ _).trans ((congrFun (congrFun (congrFun (congrFun Cert.Forward.Down.ref_resid _) _) _) _).trans (Cert.Forward.Down.arr_resid m c).symm)
  · rw [(hs c).1, (hs c).2.1]
    exact (Cert.Reference14Ideal.Read.val_main_v2_eq _ _).trans ((congrFun (congrFun Cert.Forward.Down.ref _) _).trans (Cert.Forward.Down.arr m c).symm)

theorem algebraic15 : Cert.algebraic_Kernel15Ideal_Reference15Ideal (hKernel15Ideal := Cert.Kernel15Ideal.Gen.facts)
    (hReference15Ideal := Cert.Reference15Ideal.Gen.facts) := by
  intro m g m' g' _ hs
  refine ⟨_, _, Cert.Kernel15Ideal.Value.run_blocks (F := Ideal) m g, ?_⟩
  refine (θ_run (Cert.Reference15Ideal.defs (F := Ideal)) _ _).mono (fun r h c => ⟨(h c).1.trans ?_, (h c).2.1.trans ?_, (h c).2.2⟩)
    (Cert.Reference15Ideal.Value.run (F := Ideal) m' g')
  · obtain ⟨s0, s1, s2, s3⟩ := hs c
    rw [s0, s1, s2, s3]
    exact (Cert.Reference15Ideal.Read.val_main_v5_eq _ _ _ _).trans ((congrFun (congrFun (congrFun (congrFun Cert.Forward.Out.ref_resid _) _) _) _).trans (Cert.Forward.Out.arr_resid m c).symm)
  · rw [(hs c).1, (hs c).2.1]
    exact (Cert.Reference15Ideal.Read.val_main_v2_eq _ _).trans ((congrFun (congrFun Cert.Forward.Out.ref _) _).trans (Cert.Forward.Out.arr m c).symm)

attribute [local instance] Cert.Entry.pre_facts_qk

open Cert.Kernel16Ideal Cert.Kernel16Ideal.Gen in
/-- The two programs' results, array by array. -/
theorem results16 (m : (ℓ : Loc Cert.Kernel16Ideal.nD Cert.Kernel16Ideal.τ Cert.Kernel16Ideal.sig) → Buf (Elt Ideal) ℓ)
    (hm : Cert.Pre_Kernel16Ideal_finite_qk m) (c : Dev Cert.Kernel16Ideal.nD) :
    (dats m 0 c).arrAt 3 cfg0.N = Cert.Reference16Ideal.Read.val_main_v21 (F := Ideal) (m ((c.tc : Thread nD τ).loc main_arg0)) (m ((c.tc : Thread nD τ).loc main_arg1)) (m ((c.tc : Thread nD τ).loc main_arg2))
    ∧ (dats m 0 c).arrAt 4 cfg0.N = Cert.Reference16Ideal.Read.val_main_v24 (F := Ideal) (m ((c.tc : Thread nD τ).loc main_arg0)) (m ((c.tc : Thread nD τ).loc main_arg1)) := by
  obtain ⟨p0, p1⟩ := Cert.Entry.reals_qk _ _ _ (hm c)
  have h0 : ∀ (h : Fin 8) (i : Fin 8192) (a : Fin 128), m ((c.tc : Thread nD τ).loc main_arg0) (ix3 h i a) = _ := fun h i a => p0 (ix3 h i a)
  have h1 : ∀ (h : Fin 8) (i : Fin 8192) (a : Fin 128), m ((c.tc : Thread nD τ).loc main_arg1) (ix3 h i a) = _ := fun h i a => p1 (ix3 h i a)
  have h2 : ∀ (h : Fin 8) (i : Fin 8192) (a : Fin 64), m ((c.tc : Thread nD τ).loc main_arg2) (ix3 h i a) = m ((c.tc : Thread nD τ).loc main_arg2) (ix3 h i a) := fun _ _ _ => rfl
  refine ⟨funext fun i => ?_, funext fun i => ?_⟩
  · rw [eq_ix3 i]
    exact (Cert.FwdArrays.arr3 m c h0 h1 h2 _ _ _).trans (Cert.FwdRef.out_at h0 h1 _ _ _).symm
  · rw [eq_ix3 i]
    exact (Cert.FwdArrays.arr4 m c h0 h1 h2 _ _ _).trans (Cert.FwdRef.lse_at h0 h1 _ _ _).symm

theorem algebraic16 : Cert.algebraic_Kernel16Ideal_Reference16Ideal_pre_finite_qk (hKernel16Ideal := Cert.Kernel16Ideal.Gen.facts)
    (hReference16Ideal := Cert.Reference16Ideal.Gen.facts) (hPre_finite_qk := Cert.Entry.pre_facts_qk) := by
  intro m g m' g' hm hs
  refine ⟨_, _, Cert.Kernel16Ideal.Value.run_blocks (F := Ideal) m g, ?_⟩
  refine (θ_run (Cert.Reference16Ideal.defs (F := Ideal)) _ _).mono (fun r h c => ?_) (Cert.Reference16Ideal.Value.run (F := Ideal) m' g')
  obtain ⟨e0, e1, ea⟩ := h c
  obtain ⟨s0, s1, s2⟩ := hs c
  obtain ⟨r0, r1⟩ := results16 m hm c
  refine ⟨e0.trans ?_, e1.trans ?_, ea⟩
  · refine (Cert.Reference16Ideal.Read.val_main_v21_eq _ _ _).trans ?_
    rw [r0]
    exact congr (congrArg₂ _ s0 s1) s2
  · refine (Cert.Reference16Ideal.Read.val_main_v24_eq _ _).trans ?_
    rw [r1]
    exact congrArg₂ _ s0 s1

/-- The forward attention's reference keeps its arguments and declares no semaphore. -/
theorem ref_frame16 : Cert.quiescent_Reference16Ideal (hReference16Ideal := Cert.Reference16Ideal.Gen.facts) := fun m g _ =>
  kept (by decide) (Cert.Reference16Ideal.Value.run (F := Ideal) m g) (fun r h c => (h c).2.2)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Entry.pre_facts, Cert.Entry.pre_facts_qk,
    fun m g _ => Cert.Kernel.Gen.frame m g, fun m g _ => Cert.KernelIdeal.Gen.frame m g, fun m g _ => Cert.KernelIdeal.Gen.frame m g,
    ref_frame, fun m g _ => ref_frame m g trivial,
    fun m g _ => Cert.Kernel2.Gen.frame m g, fun m g _ => Cert.Kernel2Ideal.Gen.frame m g,
    fun m g _ => kept (by decide) (Cert.Reference2Ideal.Value.run (F := Ideal) m g) (fun r h c => (h c).2),
    fun m g _ => Cert.Kernel3.Gen.frame m g, fun m g _ => Cert.Kernel3Ideal.Gen.frame m g,
    fun m g _ => kept (by decide) (Cert.Reference3Ideal.Value.run (F := Ideal) m g) (fun r h c => (h c).2),
    fun m g _ => Cert.Kernel4.Gen.frame m g, fun m g _ => Cert.Kernel4Ideal.Gen.frame m g,
    fun m g _ => kept (by decide) (Cert.Reference4Ideal.Value.run (F := Ideal) m g) (fun r h c => (h c).2),
    fun m g _ => Cert.Kernel5.Gen.frame m g, fun m g _ => Cert.Kernel5Ideal.Gen.frame m g,
    fun m g _ => kept (by decide) (Cert.Reference5Ideal.Value.run (F := Ideal) m g) (fun r h c => (h c).2),
    fun m g _ => Cert.Kernel6.Gen.frame m g, fun m g _ => Cert.Kernel6Ideal.Gen.frame m g,
    fun m g _ => kept (by decide) (Cert.Reference6Ideal.Value.run (F := Ideal) m g) (fun r h c => (h c).2),
    fun m g _ => Cert.Kernel7.Gen.frame m g, fun m g _ => Cert.Kernel7Ideal.Gen.frame m g,
    fun m g _ => kept (by decide) (Cert.Reference7Ideal.Value.run (F := Ideal) m g) (fun r h c => (h c).2),
    fun m g _ => Cert.Kernel8.Gen.frame m g, fun m g _ => Cert.Kernel8Ideal.Gen.frame m g,
    fun m g _ => kept (by decide) (Cert.Reference8Ideal.Value.run (F := Ideal) m g) (fun r h c => (h c).2),
    fun m g _ => Cert.Kernel9.Gen.frame m g, fun m g _ => Cert.Kernel9Ideal.Gen.frame m g,
    fun m g _ => kept (by decide) (Cert.Reference9Ideal.Value.run (F := Ideal) m g) (fun r h c => (h c).2),
    fun m g _ => Cert.Kernel10.Gen.frame m g, fun m g _ => Cert.Kernel10Ideal.Gen.frame m g,
    fun m g _ => kept (by decide) (Cert.Reference10Ideal.Value.run (F := Ideal) m g) (fun r h c => (h c).2),
    fun m g _ => Cert.Kernel11.Gen.frame m g, fun m g _ => Cert.Kernel11Ideal.Gen.frame m g,
    fun m g _ => kept (by decide) (Cert.Reference11Ideal.Value.run (F := Ideal) m g) (fun r h c => (h c).2),
    fun m g _ => Cert.Kernel12.Gen.frame m g, fun m g _ => Cert.Kernel12Ideal.Gen.frame m g,
    fun m g _ => kept (by decide) (Cert.Reference12Ideal.Value.run (F := Ideal) m g) (fun r h c => (h c).2),
    fun m g _ => Cert.Kernel13.Gen.frame m g, fun m g _ => Cert.Kernel13Ideal.Gen.frame m g,
    fun m g _ => kept (by decide) (Cert.Reference13Ideal.Value.run (F := Ideal) m g) (fun r h c => (h c).2.2),
    fun m g _ => Cert.Kernel14.Gen.frame m g, fun m g _ => Cert.Kernel14Ideal.Gen.frame m g,
    fun m g _ => kept (by decide) (Cert.Reference14Ideal.Value.run (F := Ideal) m g) (fun r h c => (h c).2.2),
    fun m g _ => Cert.Kernel15.Gen.frame m g, fun m g _ => Cert.Kernel15Ideal.Gen.frame m g,
    fun m g _ => kept (by decide) (Cert.Reference15Ideal.Value.run (F := Ideal) m g) (fun r h c => (h c).2.2),
    fun m g _ => Cert.Kernel16.Gen.frame m g, fun m g _ => Cert.Kernel16Ideal.Gen.frame m g, fun m g _ => Cert.Kernel16Ideal.Gen.frame m g,
    ref_frame16, fun m g _ => ref_frame16 m g trivial,
    IdealRules.named_const.statement Cert.KernelIdeal.κ "mask" .f32 0xF149F2CA#32 ⊥ rfl,
    algebraic,
    trivial, algebraic2, trivial, algebraic3, trivial, algebraic4, trivial, algebraic5, trivial, algebraic6,
    trivial, algebraic7, trivial, algebraic8, trivial, algebraic9, trivial, algebraic10, trivial, algebraic11,
    trivial, algebraic12, trivial, algebraic13, trivial, algebraic14, trivial, algebraic15,
    IdealRules.named_const.statement Cert.Kernel16Ideal.κ "mask" .f32 0xF149F2CA#32 ⊥ rfl, algebraic16⟩

end Cert.Proof

end
